-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DenseFfn (m : (ℓ : Loc Cert.DenseFfn.nD Cert.DenseFfn.τ Cert.DenseFfn.sig) → Buf (Elt Bits) ℓ) : Prop :=
  True

def Pre_DenseFfnIdeal (m : (ℓ : Loc Cert.DenseFfnIdeal.nD Cert.DenseFfnIdeal.τ Cert.DenseFfnIdeal.sig) → Buf (Elt Ideal) ℓ) : Prop :=
  True

def Pre_DenseFfnRefIdeal (m : (ℓ : Loc Cert.DenseFfnRefIdeal.nD Cert.DenseFfnRefIdeal.τ Cert.DenseFfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Experts [hPre_schedule_follows_routing : Cert.Pre_schedule_follows_routing.Facts] (m : (ℓ : Loc Cert.Experts.nD Cert.Experts.τ Cert.Experts.sig) → Buf (Elt Bits) ℓ) : Prop :=
  ∀ c : Dev Cert.Experts.nD,
    (Cert.Pre_schedule_follows_routing.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9)) (m ((c.tc : Thread Cert.Experts.nD Cert.Experts.τ).loc Cert.Experts.main_arg10))) = (fun _ => 1#1)

def Pre_ExpertsIdeal [hPre_schedule_follows_routing : Cert.Pre_schedule_follows_routing.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_schedule_follows_routing.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_schedule_follows_routing [hPre_schedule_follows_routing : Cert.Pre_schedule_follows_routing.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_schedule_follows_routing.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_DenseFfn [hDenseFfn : Cert.DenseFfn.Facts] : Prop :=
  ∀ (m : (ℓ : Loc Cert.DenseFfn.nD Cert.DenseFfn.τ Cert.DenseFfn.sig) → Buf (Elt Bits) ℓ) (g : Dev Cert.DenseFfn.nD → PrngReg), Pre_DenseFfn m →
    θ_run (Cert.DenseFfn.defs (F := Bits)) (onTc (τ := Cert.DenseFfn.τ) (Cert.DenseFfn.main (F := Bits))) ⟨m, fun _ => 0, g⟩ (fun r => (∀ c : Dev Cert.DenseFfn.nD,
      r.2.mem ((c.tc : Thread Cert.DenseFfn.nD Cert.DenseFfn.τ).loc Cert.DenseFfn.main_arg0) = m ((c.tc : Thread Cert.DenseFfn.nD Cert.DenseFfn.τ).loc Cert.DenseFfn.main_arg0)
      ∧ r.2.mem ((c.tc : Thread Cert.DenseFfn.nD Cert.DenseFfn.τ).loc Cert.DenseFfn.main_arg1) = m ((c.tc : Thread Cert.DenseFfn.nD Cert.DenseFfn.τ).loc Cert.DenseFfn.main_arg1)
      ∧ r.2.mem ((c.tc : Thread Cert.DenseFfn.nD Cert.DenseFfn.τ).loc Cert.DenseFfn.main_arg2) = m ((c.tc : Thread Cert.DenseFfn.nD Cert.DenseFfn.τ).loc Cert.DenseFfn.main_arg2)
      ∧ r.2.mem ((c.tc : Thread Cert.DenseFfn.nD Cert.DenseFfn.τ).loc Cert.DenseFfn.main_arg3) = m ((c.tc : Thread Cert.DenseFfn.nD Cert.DenseFfn.τ).loc Cert.DenseFfn.main_arg3)
      ∧ r.2.mem ((c.tc : Thread Cert.DenseFfn.nD Cert.DenseFfn.τ).loc Cert.DenseFfn.main_arg4) = m ((c.tc : Thread Cert.DenseFfn.nD Cert.DenseFfn.τ).loc Cert.DenseFfn.main_arg4)
      ∧ r.2.mem ((c.tc : Thread Cert.DenseFfn.nD Cert.DenseFfn.τ).loc Cert.DenseFfn.main_arg5) = m ((c.tc : Thread Cert.DenseFfn.nD Cert.DenseFfn.τ).loc Cert.DenseFfn.main_arg5))
      ∧ r.2.sem = fun _ => 0)

def quiescent_DenseFfnIdeal [hDenseFfnIdeal : Cert.DenseFfnIdeal.Facts] : Prop :=
  ∀ (m : (ℓ : Loc Cert.DenseFfnIdeal.nD Cert.DenseFfnIdeal.τ Cert.DenseFfnIdeal.sig) → Buf (Elt Ideal) ℓ) (g : Dev Cert.DenseFfnIdeal.nD → PrngReg), Pre_DenseFfnIdeal m →
    θ_run (Cert.DenseFfnIdeal.defs (F := Ideal)) (onTc (τ := Cert.DenseFfnIdeal.τ) (Cert.DenseFfnIdeal.main (F := Ideal))) ⟨m, fun _ => 0, g⟩ (fun r => (∀ c : Dev Cert.DenseFfnIdeal.nD,
      r.2.mem ((c.tc : Thread Cert.DenseFfnIdeal.nD Cert.DenseFfnIdeal.τ).loc Cert.DenseFfnIdeal.main_arg0) = m ((c.tc : Thread Cert.DenseFfnIdeal.nD Cert.DenseFfnIdeal.τ).loc Cert.DenseFfnIdeal.main_arg0)
      ∧ r.2.mem ((c.tc : Thread Cert.DenseFfnIdeal.nD Cert.DenseFfnIdeal.τ).loc Cert.DenseFfnIdeal.main_arg1) = m ((c.tc : Thread Cert.DenseFfnIdeal.nD Cert.DenseFfnIdeal.τ).loc Cert.DenseFfnIdeal.main_arg1)
      ∧ r.2.mem ((c.tc : Thread Cert.DenseFfnIdeal.nD Cert.DenseFfnIdeal.τ).loc Cert.DenseFfnIdeal.main_arg2) = m ((c.tc : Thread Cert.DenseFfnIdeal.nD Cert.DenseFfnIdeal.τ).loc Cert.DenseFfnIdeal.main_arg2)
      ∧ r.2.mem ((c.tc : Thread Cert.DenseFfnIdeal.nD Cert.DenseFfnIdeal.τ).loc Cert.DenseFfnIdeal.main_arg3) = m ((c.tc : Thread Cert.DenseFfnIdeal.nD Cert.DenseFfnIdeal.τ).loc Cert.DenseFfnIdeal.main_arg3)
      ∧ r.2.mem ((c.tc : Thread Cert.DenseFfnIdeal.nD Cert.DenseFfnIdeal.τ).loc Cert.DenseFfnIdeal.main_arg4) = m ((c.tc : Thread Cert.DenseFfnIdeal.nD Cert.DenseFfnIdeal.τ).loc Cert.DenseFfnIdeal.main_arg4)
      ∧ r.2.mem ((c.tc : Thread Cert.DenseFfnIdeal.nD Cert.DenseFfnIdeal.τ).loc Cert.DenseFfnIdeal.main_arg5) = m ((c.tc : Thread Cert.DenseFfnIdeal.nD Cert.DenseFfnIdeal.τ).loc Cert.DenseFfnIdeal.main_arg5))
      ∧ r.2.sem = fun _ => 0)

def quiescent_DenseFfnRefIdeal [hDenseFfnRefIdeal : Cert.DenseFfnRefIdeal.Facts] : Prop :=
  ∀ (m : (ℓ : Loc Cert.DenseFfnRefIdeal.nD Cert.DenseFfnRefIdeal.τ Cert.DenseFfnRefIdeal.sig) → Buf (Elt Ideal) ℓ) (g : Dev Cert.DenseFfnRefIdeal.nD → PrngReg), Pre_DenseFfnRefIdeal m →
    θ_run (Cert.DenseFfnRefIdeal.defs (F := Ideal)) (onTc (τ := Cert.DenseFfnRefIdeal.τ) (Cert.DenseFfnRefIdeal.main (F := Ideal))) ⟨m, fun _ => 0, g⟩ (fun r => (∀ c : Dev Cert.DenseFfnRefIdeal.nD,
      r.2.mem ((c.tc : Thread Cert.DenseFfnRefIdeal.nD Cert.DenseFfnRefIdeal.τ).loc Cert.DenseFfnRefIdeal.main_arg0) = m ((c.tc : Thread Cert.DenseFfnRefIdeal.nD Cert.DenseFfnRefIdeal.τ).loc Cert.DenseFfnRefIdeal.main_arg0)
      ∧ r.2.mem ((c.tc : Thread Cert.DenseFfnRefIdeal.nD Cert.DenseFfnRefIdeal.τ).loc Cert.DenseFfnRefIdeal.main_arg1) = m ((c.tc : Thread Cert.DenseFfnRefIdeal.nD Cert.DenseFfnRefIdeal.τ).loc Cert.DenseFfnRefIdeal.main_arg1)
      ∧ r.2.mem ((c.tc : Thread Cert.DenseFfnRefIdeal.nD Cert.DenseFfnRefIdeal.τ).loc Cert.DenseFfnRefIdeal.main_arg2) = m ((c.tc : Thread Cert.DenseFfnRefIdeal.nD Cert.DenseFfnRefIdeal.τ).loc Cert.DenseFfnRefIdeal.main_arg2)
      ∧ r.2.mem ((c.tc : Thread Cert.DenseFfnRefIdeal.nD Cert.DenseFfnRefIdeal.τ).loc Cert.DenseFfnRefIdeal.main_arg3) = m ((c.tc : Thread Cert.DenseFfnRefIdeal.nD Cert.DenseFfnRefIdeal.τ).loc Cert.DenseFfnRefIdeal.main_arg3)
      ∧ r.2.mem ((c.tc : Thread Cert.DenseFfnRefIdeal.nD Cert.DenseFfnRefIdeal.τ).loc Cert.DenseFfnRefIdeal.main_arg4) = m ((c.tc : Thread Cert.DenseFfnRefIdeal.nD Cert.DenseFfnRefIdeal.τ).loc Cert.DenseFfnRefIdeal.main_arg4)
      ∧ r.2.mem ((c.tc : Thread Cert.DenseFfnRefIdeal.nD Cert.DenseFfnRefIdeal.τ).loc Cert.DenseFfnRefIdeal.main_arg5) = m ((c.tc : Thread Cert.DenseFfnRefIdeal.nD Cert.DenseFfnRefIdeal.τ).loc Cert.DenseFfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Experts [hExperts : Cert.Experts.Facts] [hPre_schedule_follows_routing : Cert.Pre_schedule_follows_routing.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9)
      ∧ r.2.mem ((c.tc : Thread Cert.Experts.nD Cert.Experts.τ).loc Cert.Experts.main_arg10) = m ((c.tc : Thread Cert.Experts.nD Cert.Experts.τ).loc Cert.Experts.main_arg10))
      ∧ r.2.sem = fun _ => 0)

def quiescent_ExpertsIdeal [hExpertsIdeal : Cert.ExpertsIdeal.Facts] [hPre_schedule_follows_routing : Cert.Pre_schedule_follows_routing.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
      ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9)
      ∧ r.2.mem ((c.tc : Thread Cert.ExpertsRefIdeal.nD Cert.ExpertsRefIdeal.τ).loc Cert.ExpertsRefIdeal.main_arg10) = m ((c.tc : Thread Cert.ExpertsRefIdeal.nD Cert.ExpertsRefIdeal.τ).loc Cert.ExpertsRefIdeal.main_arg10))
      ∧ r.2.sem = fun _ => 0)

def quiescent_ExpertsRefIdeal_pre_schedule_follows_routing [hExpertsRefIdeal : Cert.ExpertsRefIdeal.Facts] [hPre_schedule_follows_routing : Cert.Pre_schedule_follows_routing.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_schedule_follows_routing m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9)
      ∧ r.2.mem ((c.tc : Thread Cert.ExpertsRefIdeal.nD Cert.ExpertsRefIdeal.τ).loc Cert.ExpertsRefIdeal.main_arg10) = m ((c.tc : Thread Cert.ExpertsRefIdeal.nD Cert.ExpertsRefIdeal.τ).loc Cert.ExpertsRefIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v30) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_DenseFfn_DenseFfnIdeal : Prop :=
  True

def algebraic_DenseFfnIdeal_DenseFfnRefIdeal [hDenseFfnIdeal : Cert.DenseFfnIdeal.Facts] [hDenseFfnRefIdeal : Cert.DenseFfnRefIdeal.Facts] : Prop :=
  ∀ (m : (ℓ : Loc Cert.DenseFfnIdeal.nD Cert.DenseFfnIdeal.τ Cert.DenseFfnIdeal.sig) → Buf (Elt Ideal) ℓ) (g : Dev Cert.DenseFfnIdeal.nD → PrngReg)
    (m' : (ℓ : Loc Cert.DenseFfnRefIdeal.nD Cert.DenseFfnRefIdeal.τ Cert.DenseFfnRefIdeal.sig) → Buf (Elt Ideal) ℓ) (g' : Dev Cert.DenseFfnRefIdeal.nD → PrngReg), Pre_DenseFfnIdeal m →
    (∀ c : Dev Cert.DenseFfnIdeal.nD,
      m' ((c.tc : Thread Cert.DenseFfnRefIdeal.nD Cert.DenseFfnRefIdeal.τ).loc Cert.DenseFfnRefIdeal.main_arg0) = m ((c.tc : Thread Cert.DenseFfnIdeal.nD Cert.DenseFfnIdeal.τ).loc Cert.DenseFfnIdeal.main_arg0)
      ∧ m' ((c.tc : Thread Cert.DenseFfnRefIdeal.nD Cert.DenseFfnRefIdeal.τ).loc Cert.DenseFfnRefIdeal.main_arg1) = m ((c.tc : Thread Cert.DenseFfnIdeal.nD Cert.DenseFfnIdeal.τ).loc Cert.DenseFfnIdeal.main_arg1)
      ∧ m' ((c.tc : Thread Cert.DenseFfnRefIdeal.nD Cert.DenseFfnRefIdeal.τ).loc Cert.DenseFfnRefIdeal.main_arg2) = m ((c.tc : Thread Cert.DenseFfnIdeal.nD Cert.DenseFfnIdeal.τ).loc Cert.DenseFfnIdeal.main_arg2)
      ∧ m' ((c.tc : Thread Cert.DenseFfnRefIdeal.nD Cert.DenseFfnRefIdeal.τ).loc Cert.DenseFfnRefIdeal.main_arg3) = m ((c.tc : Thread Cert.DenseFfnIdeal.nD Cert.DenseFfnIdeal.τ).loc Cert.DenseFfnIdeal.main_arg3)
      ∧ m' ((c.tc : Thread Cert.DenseFfnRefIdeal.nD Cert.DenseFfnRefIdeal.τ).loc Cert.DenseFfnRefIdeal.main_arg4) = m ((c.tc : Thread Cert.DenseFfnIdeal.nD Cert.DenseFfnIdeal.τ).loc Cert.DenseFfnIdeal.main_arg4)
      ∧ m' ((c.tc : Thread Cert.DenseFfnRefIdeal.nD Cert.DenseFfnRefIdeal.τ).loc Cert.DenseFfnRefIdeal.main_arg5) = m ((c.tc : Thread Cert.DenseFfnIdeal.nD Cert.DenseFfnIdeal.τ).loc Cert.DenseFfnIdeal.main_arg5)) →
    ∃ (v0 : (c : Dev Cert.DenseFfnIdeal.nD) → Buf (Elt Ideal) ((c.tc : Thread Cert.DenseFfnIdeal.nD Cert.DenseFfnIdeal.τ).loc Cert.DenseFfnIdeal.main_v1)),
      θ_run (Cert.DenseFfnIdeal.defs (F := Ideal)) (onTc (τ := Cert.DenseFfnIdeal.τ) (Cert.DenseFfnIdeal.main (F := Ideal))) ⟨m, fun _ => 0, g⟩ (fun r => ∀ c : Dev Cert.DenseFfnIdeal.nD,
          r.2.mem ((c.tc : Thread Cert.DenseFfnIdeal.nD Cert.DenseFfnIdeal.τ).loc Cert.DenseFfnIdeal.main_v1) = v0 c
          ∧ r.2.mem ((c.tc : Thread Cert.DenseFfnIdeal.nD Cert.DenseFfnIdeal.τ).loc Cert.DenseFfnIdeal.main_arg0) = m ((c.tc : Thread Cert.DenseFfnIdeal.nD Cert.DenseFfnIdeal.τ).loc Cert.DenseFfnIdeal.main_arg0)
          ∧ r.2.mem ((c.tc : Thread Cert.DenseFfnIdeal.nD Cert.DenseFfnIdeal.τ).loc Cert.DenseFfnIdeal.main_arg1) = m ((c.tc : Thread Cert.DenseFfnIdeal.nD Cert.DenseFfnIdeal.τ).loc Cert.DenseFfnIdeal.main_arg1)
          ∧ r.2.mem ((c.tc : Thread Cert.DenseFfnIdeal.nD Cert.DenseFfnIdeal.τ).loc Cert.DenseFfnIdeal.main_arg2) = m ((c.tc : Thread Cert.DenseFfnIdeal.nD Cert.DenseFfnIdeal.τ).loc Cert.DenseFfnIdeal.main_arg2)
          ∧ r.2.mem ((c.tc : Thread Cert.DenseFfnIdeal.nD Cert.DenseFfnIdeal.τ).loc Cert.DenseFfnIdeal.main_arg3) = m ((c.tc : Thread Cert.DenseFfnIdeal.nD Cert.DenseFfnIdeal.τ).loc Cert.DenseFfnIdeal.main_arg3)
          ∧ r.2.mem ((c.tc : Thread Cert.DenseFfnIdeal.nD Cert.DenseFfnIdeal.τ).loc Cert.DenseFfnIdeal.main_arg4) = m ((c.tc : Thread Cert.DenseFfnIdeal.nD Cert.DenseFfnIdeal.τ).loc Cert.DenseFfnIdeal.main_arg4)
          ∧ r.2.mem ((c.tc : Thread Cert.DenseFfnIdeal.nD Cert.DenseFfnIdeal.τ).loc Cert.DenseFfnIdeal.main_arg5) = m ((c.tc : Thread Cert.DenseFfnIdeal.nD Cert.DenseFfnIdeal.τ).loc Cert.DenseFfnIdeal.main_arg5))
      ∧ θ_run (Cert.DenseFfnRefIdeal.defs (F := Ideal)) (onTc (τ := Cert.DenseFfnRefIdeal.τ) (Cert.DenseFfnRefIdeal.main (F := Ideal))) ⟨m', fun _ => 0, g'⟩ (fun r => ∀ c : Dev Cert.DenseFfnRefIdeal.nD,
          r.2.mem ((c.tc : Thread Cert.DenseFfnRefIdeal.nD Cert.DenseFfnRefIdeal.τ).loc Cert.DenseFfnRefIdeal.main_v37) = v0 c
          ∧ r.2.mem ((c.tc : Thread Cert.DenseFfnRefIdeal.nD Cert.DenseFfnRefIdeal.τ).loc Cert.DenseFfnRefIdeal.main_arg0) = m' ((c.tc : Thread Cert.DenseFfnRefIdeal.nD Cert.DenseFfnRefIdeal.τ).loc Cert.DenseFfnRefIdeal.main_arg0)
          ∧ r.2.mem ((c.tc : Thread Cert.DenseFfnRefIdeal.nD Cert.DenseFfnRefIdeal.τ).loc Cert.DenseFfnRefIdeal.main_arg1) = m' ((c.tc : Thread Cert.DenseFfnRefIdeal.nD Cert.DenseFfnRefIdeal.τ).loc Cert.DenseFfnRefIdeal.main_arg1)
          ∧ r.2.mem ((c.tc : Thread Cert.DenseFfnRefIdeal.nD Cert.DenseFfnRefIdeal.τ).loc Cert.DenseFfnRefIdeal.main_arg2) = m' ((c.tc : Thread Cert.DenseFfnRefIdeal.nD Cert.DenseFfnRefIdeal.τ).loc Cert.DenseFfnRefIdeal.main_arg2)
          ∧ r.2.mem ((c.tc : Thread Cert.DenseFfnRefIdeal.nD Cert.DenseFfnRefIdeal.τ).loc Cert.DenseFfnRefIdeal.main_arg3) = m' ((c.tc : Thread Cert.DenseFfnRefIdeal.nD Cert.DenseFfnRefIdeal.τ).loc Cert.DenseFfnRefIdeal.main_arg3)
          ∧ r.2.mem ((c.tc : Thread Cert.DenseFfnRefIdeal.nD Cert.DenseFfnRefIdeal.τ).loc Cert.DenseFfnRefIdeal.main_arg4) = m' ((c.tc : Thread Cert.DenseFfnRefIdeal.nD Cert.DenseFfnRefIdeal.τ).loc Cert.DenseFfnRefIdeal.main_arg4)
          ∧ r.2.mem ((c.tc : Thread Cert.DenseFfnRefIdeal.nD Cert.DenseFfnRefIdeal.τ).loc Cert.DenseFfnRefIdeal.main_arg5) = m' ((c.tc : Thread Cert.DenseFfnRefIdeal.nD Cert.DenseFfnRefIdeal.τ).loc Cert.DenseFfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Experts_ExpertsIdeal : Prop :=
  True

def algebraic_ExpertsIdeal_ExpertsRefIdeal [hExpertsIdeal : Cert.ExpertsIdeal.Facts] [hExpertsRefIdeal : Cert.ExpertsRefIdeal.Facts] [hPre_schedule_follows_routing : Cert.Pre_schedule_follows_routing.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)
      ∧ m' ((c.tc : Thread Cert.ExpertsRefIdeal.nD Cert.ExpertsRefIdeal.τ).loc Cert.ExpertsRefIdeal.main_arg9) = m ((c.tc : Thread Cert.ExpertsIdeal.nD Cert.ExpertsIdeal.τ).loc Cert.ExpertsIdeal.main_arg9)
      ∧ m' ((c.tc : Thread Cert.ExpertsRefIdeal.nD Cert.ExpertsRefIdeal.τ).loc Cert.ExpertsRefIdeal.main_arg10) = m ((c.tc : Thread Cert.ExpertsIdeal.nD Cert.ExpertsIdeal.τ).loc Cert.ExpertsIdeal.main_arg10)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
          ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v170) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8)
          ∧ r.2.mem ((c.tc : Thread Cert.ExpertsRefIdeal.nD Cert.ExpertsRefIdeal.τ).loc Cert.ExpertsRefIdeal.main_arg9) = m' ((c.tc : Thread Cert.ExpertsRefIdeal.nD Cert.ExpertsRefIdeal.τ).loc Cert.ExpertsRefIdeal.main_arg9)
          ∧ r.2.mem ((c.tc : Thread Cert.ExpertsRefIdeal.nD Cert.ExpertsRefIdeal.τ).loc Cert.ExpertsRefIdeal.main_arg10) = m' ((c.tc : Thread Cert.ExpertsRefIdeal.nD Cert.ExpertsRefIdeal.τ).loc Cert.ExpertsRefIdeal.main_arg10))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hDenseFfn : Cert.DenseFfn.Facts) (hDenseFfnIdeal : Cert.DenseFfnIdeal.Facts) (hDenseFfnRefIdeal : Cert.DenseFfnRefIdeal.Facts) (hMerge : Cert.Merge.Facts) (hMergeIdeal : Cert.MergeIdeal.Facts) (hMergeRefIdeal : Cert.MergeRefIdeal.Facts) (hExperts : Cert.Experts.Facts) (hExpertsIdeal : Cert.ExpertsIdeal.Facts) (hExpertsRefIdeal : Cert.ExpertsRefIdeal.Facts) (hPre_finite_inputs : Cert.Pre_finite_inputs.Facts) (hPre_schedule_follows_routing : Cert.Pre_schedule_follows_routing.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_InProj (hInProj := hInProj)
    ∧ quiescent_InProjIdeal (hInProjIdeal := hInProjIdeal)
    ∧ quiescent_InProjRefIdeal (hInProjRefIdeal := hInProjRefIdeal)
    ∧ quiescent_DenseFfn (hDenseFfn := hDenseFfn)
    ∧ quiescent_DenseFfnIdeal (hDenseFfnIdeal := hDenseFfnIdeal)
    ∧ quiescent_DenseFfnRefIdeal (hDenseFfnRefIdeal := hDenseFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Experts (hExperts := hExperts) (hPre_schedule_follows_routing := hPre_schedule_follows_routing)
    ∧ quiescent_ExpertsIdeal (hExpertsIdeal := hExpertsIdeal) (hPre_schedule_follows_routing := hPre_schedule_follows_routing)
    ∧ quiescent_ExpertsRefIdeal (hExpertsRefIdeal := hExpertsRefIdeal)
    ∧ quiescent_ExpertsRefIdeal_pre_schedule_follows_routing (hExpertsRefIdeal := hExpertsRefIdeal) (hPre_schedule_follows_routing := hPre_schedule_follows_routing)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_InProj_InProjIdeal
    ∧ algebraic_InProjIdeal_InProjRefIdeal (hInProjIdeal := hInProjIdeal) (hInProjRefIdeal := hInProjRefIdeal)
    ∧ preserves_DenseFfn_DenseFfnIdeal
    ∧ algebraic_DenseFfnIdeal_DenseFfnRefIdeal (hDenseFfnIdeal := hDenseFfnIdeal) (hDenseFfnRefIdeal := hDenseFfnRefIdeal)
    ∧ preserves_Merge_MergeIdeal
    ∧ algebraic_MergeIdeal_MergeRefIdeal (hMergeIdeal := hMergeIdeal) (hMergeRefIdeal := hMergeRefIdeal)
    ∧ preserves_Experts_ExpertsIdeal
    ∧ algebraic_ExpertsIdeal_ExpertsRefIdeal (hExpertsIdeal := hExpertsIdeal) (hExpertsRefIdeal := hExpertsRefIdeal) (hPre_schedule_follows_routing := hPre_schedule_follows_routing)
-- ==== Pre_finite_inputs.lean ====
abbrev S16384x2048 : Shape := ⟨2, ![16384, 2048]⟩
abbrev S16384x8192 : Shape := ⟨2, ![16384, 8192]⟩
abbrev S4x64 : Shape := ⟨2, ![4, 64]⟩
abbrev S128 : Shape := ⟨1, ![128]⟩
abbrev S16384x1024 : Shape := ⟨2, ![16384, 1024]⟩
abbrev S_ : Shape := ⟨0, ![]⟩
abbrev S16384x512 : Shape := ⟨2, ![16384, 512]⟩

class Facts : Prop where
  slices_S16384x2048_S16384x1024_0_0 : S16384x2048.Slices ![0, 0] S16384x1024
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S16384x8192_S16384x512_0_3072 : S16384x8192.Slices ![0, 3072] S16384x512
  bcast_S_S16384x512 : S_.BroadcastsInDim S16384x512 (![] : Fin 0 → Fin S16384x512.rank)
  reducesTo_S16384x512_S_d0_1 : S16384x512.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384x2048 .bf16) (main_arg1 : FVec F S16384x8192 .bf16) (main_arg2 : FVec F S4x64 .f32) (main_arg3 : FVec F S128 .f32) : IVec S_ 1 :=
  let main_v0 : FVec F S16384x1024 .bf16 := (extractStridedSlice S16384x1024 ![0, 0] · slices_S16384x2048_S16384x1024_0_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  let main_v6 : FVec F S16384x512 .bf16 := (extractStridedSlice S16384x512 ![0, 3072] · slices_S16384x8192_S16384x512_0_3072) main_arg1
  let main_v7 : FVec F S16384x512 .f32 := (extf .f32 · bitsLt_bf16_f32) main_v6
  let main_v8 : FVec F S16384x512 .f32 := Host.absf main_v7
  let main_cst_0 : FVec F S_ .f32 := constant S_ .f32 0x7F800000#32
  let main_v9 : FVec F S16384x512 .f32 := broadcastInDim S16384x512 ![] bcast_S_S16384x512 main_cst_0
  let main_v10 : IVec S16384x512 1 := cmpf .olt main_v8 main_v9
  let main_c_1 : IVec S_ 1 := constantI S_ 1 1#1
  let main_v11 : IVec S_ 1 := (fun x v => Host.reduce IntOp.andi x v reducesTo_S16384x512_S_d0_1 h_S_) main_v10 main_c_1
  let main_v12 : IVec S_ 1 := andi main_v5 main_v11
  let main_v13 : FVec F S4x64 .f32 := Host.absf main_arg2
  let main_cst_2 : FVec F S_ .f32 := constant S_ .f32 0x7F800000#32
  let main_v14 : FVec F S4x64 .f32 := broadcastInDim S4x64 ![] bcast_S_S4x64 main_cst_2
  let main_v15 : IVec S4x64 1 := cmpf .olt main_v13 main_v14
  let main_c_3 : IVec S_ 1 := constantI S_ 1 1#1
  let main_v16 : IVec S_ 1 := (fun x v => Host.reduce IntOp.andi x v reducesTo_S4x64_S_d0_1 h_S_) main_v15 main_c_3
  let main_v17 : IVec S_ 1 := andi main_v12 main_v16
  main_v17
-- ==== Pre_schedule_follows_routing.lean ====
abbrev S72 : Shape := ⟨1, ![72]⟩
abbrev S136 : Shape := ⟨1, ![136]⟩
abbrev S36864x1024 : Shape := ⟨2, ![36864, 1024]⟩
abbrev S8x1024x2816 : Shape := ⟨3, ![8, 1024, 2816]⟩
abbrev S8x2816x1024 : Shape := ⟨3, ![8, 2816, 1024]⟩
abbrev S_ : Shape := ⟨0, ![]⟩
abbrev S1 : Shape := ⟨1, ![1]⟩
abbrev S135 : Shape := ⟨1, ![135]⟩
abbrev S136x1 : Shape := ⟨2, ![136, 1]⟩
abbrev S1x72 : Shape := ⟨2, ![1, 72]⟩
abbrev S136x72 : Shape := ⟨2, ![136, 72]⟩
abbrev S135x1 : Shape := ⟨2, ![135, 1]⟩
abbrev S135x72 : Shape := ⟨2, ![135, 72]⟩
abbrev S135x1x1 : Shape := ⟨3, ![135, 1, 1]⟩
abbrev S135x72x1 : Shape := ⟨3, ![135, 72, 1]⟩
abbrev S135x1x72 : Shape := ⟨3, ![135, 1, 72]⟩
abbrev S135x72x72 : Shape := ⟨3, ![135, 72, 72]⟩
abbrev S72x1 : Shape := ⟨2, ![72, 1]⟩
abbrev S72x72 : Shape := ⟨2, ![72, 72]⟩
abbrev S1x72x72 : Shape := ⟨3, ![1, 72, 72]⟩

class Facts : Prop where
  bcast_S_S136 : S_.BroadcastsInDim S136 (![] : Fin 0 → Fin S136.rank)
  reducesTo_S136_S_d0 : S136.ReducesTo [0] S_
  h_S_ : 0 < S_.numel
  slices_S136_S1_0 : S136.Slices ![0] S1
  shapeCasts_S1_S_ : S1.ShapeCasts S_
  slices_S136_S1_135 : S136.Slices ![135] S1
  slices_S136_S135_1 : S136.Slices ![1] S135
  slices_S136_S135_0 : S136.Slices ![0] S135
  bcast_S_S135 : S_.BroadcastsInDim S135 (![] : Fin 0 → Fin S135.rank)
  reducesTo_S135_S_d0 : S135.ReducesTo [0] S_
  bcast_S136_S136x1_0 : S136.BroadcastsInDim S136x1 (![0] : Fin 1 → Fin S136x1.rank)
  bcast_S72_S1x72_1 : S72.BroadcastsInDim S1x72 (![1] : Fin 1 → Fin S1x72.rank)
  bcast_S136x1_S136x72_0_1 : S136x1.BroadcastsInDim S136x72 (![0, 1] : Fin 2 → Fin S136x72.rank)
  bcast_S1x72_S136x72_0_1 : S1x72.BroadcastsInDim S136x72 (![0, 1] : Fin 2 → Fin S136x72.rank)
  bcast_S_S1x72 : S_.BroadcastsInDim S1x72 (![] : Fin 0 → Fin S1x72.rank)
  reducesTo_S136x72_S_d0_1 : S136x72.ReducesTo [0, 1] S_
  bcast_S135_S135x1_0 : S135.BroadcastsInDim S135x1 (![0] : Fin 1 → Fin S135x1.rank)
  slices_S136x72_S135x72_1_0 : S136x72.Slices ![1, 0] S135x72
  bcast_S1x72_S135x72_0_1 : S1x72.BroadcastsInDim S135x72 (![0, 1] : Fin 2 → Fin S135x72.rank)
  bcast_S135x1_S135x72_0_1 : S135x1.BroadcastsInDim S135x72 (![0, 1] : Fin 2 → Fin S135x72.rank)
  slices_S136x72_S135x72_0_0 : S136x72.Slices ![0, 0] S135x72
  reducesTo_S135x72_S_d0_1 : S135x72.ReducesTo [0, 1] S_
  bcast_S135_S135x1x1_0 : S135.BroadcastsInDim S135x1x1 (![0] : Fin 1 → Fin S135x1x1.rank)
  bcast_S135x72_S135x72x1_0_1 : S135x72.BroadcastsInDim S135x72x1 (![0, 1] : Fin 2 → Fin S135x72x1.rank)
  bcast_S135x1x1_S135x72x1_0_1_2 : S135x1x1.BroadcastsInDim S135x72x1 (![0, 1, 2] : Fin 3 → Fin S135x72x1.rank)
  bcast_S135x72_S135x1x72_0_2 : S135x72.BroadcastsInDim S135x1x72 (![0, 2] : Fin 2 → Fin S135x1x72.rank)
  bcast_S135x72x1_S135x72x72_0_1_2 : S135x72x1.BroadcastsInDim S135x72x72 (![0, 1, 2] : Fin 3 → Fin S135x72x72.rank)
  bcast_S135x1x72_S135x72x72_0_1_2 : S135x1x72.BroadcastsInDim S135x72x72 (![0, 1, 2] : Fin 3 → Fin S135x72x72.rank)
  bcast_S72_S72x1_0 : S72.BroadcastsInDim S72x1 (![0] : Fin 1 → Fin S72x1.rank)
  bcast_S72x1_S72x72_0_1 : S72x1.BroadcastsInDim S72x72 (![0, 1] : Fin 2 → Fin S72x72.rank)
  bcast_S1x72_S72x72_0_1 : S1x72.BroadcastsInDim S72x72 (![0, 1] : Fin 2 → Fin S72x72.rank)
  bcast_S72x72_S1x72x72_1_2 : S72x72.BroadcastsInDim S1x72x72 (![1, 2] : Fin 2 → Fin S1x72x72.rank)
  bcast_S1x72x72_S135x72x72_0_1_2 : S1x72x72.BroadcastsInDim S135x72x72 (![0, 1, 2] : Fin 3 → Fin S135x72x72.rank)
  reducesTo_S135x72x72_S_d0_1_2 : S135x72x72.ReducesTo [0, 1, 2] S_

variable [Facts]

def fn_where {F : FTy → Type} [FloatOps F] (arg0 : IVec S136 1) (arg1 : IVec S136 32) (arg2 : IVec S136 32) : IVec S136 32 :=
  let v0 : IVec S136 32 := select arg0 arg1 arg2
  v0

def fn_where_0 {F : FTy → Type} [FloatOps F] (arg0 : IVec S135 1) (arg1 : IVec S135 1) (arg2 : IVec S135 1) : IVec S135 1 :=
  let v0 : IVec S135 1 := select arg0 arg1 arg2
  v0

def fn_part12 {F : FTy → Type} [FloatOps F] (main_v83 : IVec S_ 1) (main_v113 : IVec S_ 1) (main_v145 : IVec S_ 1) (main_v166 : IVec S_ 1) (main_v184 : IVec S_ 1) (main_v215 : IVec S_ 1) (main_v239 : IVec S_ 1) (main_v240 : IVec S_ 1) : IVec S_ 1 :=
  let main_v241 : IVec S_ 1 := andi main_v240 main_v83
  let main_v242 : IVec S_ 1 := andi main_v241 main_v113
  let main_v243 : IVec S_ 1 := andi main_v242 main_v145
  let main_v244 : IVec S_ 1 := andi main_v243 main_v166
  let main_v245 : IVec S_ 1 := andi main_v244 main_v184
  let main_v246 : IVec S_ 1 := andi main_v245 main_v215
  let main_v247 : IVec S_ 1 := andi main_v246 main_v239
  main_v247

def fn_part11 {F : FTy → Type} [FloatOps F] (main_arg0 : IVec S72 32) (main_v40 : IVec S_ 1) (main_v79 : IVec S_ 1) (main_v83 : IVec S_ 1) (main_v113 : IVec S_ 1) (main_v145 : IVec S_ 1) (main_v166 : IVec S_ 1) (main_v172 : IVec S136x72 1) (main_v184 : IVec S_ 1) (main_v215 : IVec S_ 1) (main_v217 : IVec S135 1) : IVec S_ 1 :=
  let main_v218 : IVec S135x1x1 1 := broadcastInDim S135x1x1 ![0] bcast_S135_S135x1x1_0 main_v217
  let main_v219 : IVec S135x1x1 1 := noti main_v218
  let main_v220 : IVec S135x72 1 := (extractStridedSlice S135x72 ![0, 0] · slices_S136x72_S135x72_0_0) main_v172
  let main_v221 : IVec S135x72x1 1 := broadcastInDim S135x72x1 ![0, 1] bcast_S135x72_S135x72x1_0_1 main_v220
  let main_v222 : IVec S135x72x1 1 := noti main_v221
  let main_v223 : IVec S135x72x1 1 := broadcastInDim S135x72x1 ![0, 1, 2] bcast_S135x1x1_S135x72x1_0_1_2 main_v219
  let main_v224 : IVec S135x72x1 1 := ori main_v223 main_v222
  let main_v225 : IVec S135x72 1 := (extractStridedSlice S135x72 ![1, 0] · slices_S136x72_S135x72_1_0) main_v172
  let main_v226 : IVec S135x1x72 1 := broadcastInDim S135x1x72 ![0, 2] bcast_S135x72_S135x1x72_0_2 main_v225
  let main_v227 : IVec S135x1x72 1 := noti main_v226
  let main_v228 : IVec S135x72x72 1 := broadcastInDim S135x72x72 ![0, 1, 2] bcast_S135x72x1_S135x72x72_0_1_2 main_v224
  let main_v229 : IVec S135x72x72 1 := broadcastInDim S135x72x72 ![0, 1, 2] bcast_S135x1x72_S135x72x72_0_1_2 main_v227
  let main_v230 : IVec S135x72x72 1 := ori main_v228 main_v229
  let main_v231 : IVec S72x1 32 := broadcastInDim S72x1 ![0] bcast_S72_S72x1_0 main_arg0
  let main_v232 : IVec S1x72 32 := broadcastInDim S1x72 ![1] bcast_S72_S1x72_1 main_arg0
  let main_v233 : IVec S72x72 32 := broadcastInDim S72x72 ![0, 1] bcast_S72x1_S72x72_0_1 main_v231
  let main_v234 : IVec S72x72 32 := broadcastInDim S72x72 ![0, 1] bcast_S1x72_S72x72_0_1 main_v232
  let main_v235 : IVec S72x72 1 := cmpi .eq main_v233 main_v234
  let main_v236 : IVec S1x72x72 1 := broadcastInDim S1x72x72 ![1, 2] bcast_S72x72_S1x72x72_1_2 main_v235
  let main_v237 : IVec S135x72x72 1 := broadcastInDim S135x72x72 ![0, 1, 2] bcast_S1x72x72_S135x72x72_0_1_2 main_v236
  let main_v238 : IVec S135x72x72 1 := ori main_v230 main_v237
  let main_c_45 : IVec S_ 1 := constantI S_ 1 1#1
  let main_v239 : IVec S_ 1 := (fun x v => Host.reduce IntOp.andi x v reducesTo_S135x72x72_S_d0_1_2 h_S_) main_v238 main_c_45
  let main_v240 : IVec S_ 1 := andi main_v40 main_v79
  fn_part12 (F := F) main_v83 main_v113 main_v145 main_v166 main_v184 main_v215 main_v239 main_v240

def fn_part10 {F : FTy → Type} [FloatOps F] (main_arg0 : IVec S72 32) (main_arg1 : IVec S136 32) (main_arg4 : IVec S136 32) (main_v40 : IVec S_ 1) (main_v50 : IVec S136 1) (main_v79 : IVec S_ 1) (main_v83 : IVec S_ 1) (main_v113 : IVec S_ 1) (main_v116 : IVec S135 1) (main_v145 : IVec S_ 1) (main_v166 : IVec S_ 1) (main_v172 : IVec S136x72 1) (main_v173 : IVec S1x72 32) (main_v184 : IVec S_ 1) (main_v189 : IVec S135x1 1) (main_v191 : IVec S135x72 1) (main_v194 : IVec S135x72 32) (main_v195 : IVec S135x72 32) : IVec S_ 1 :=
  let main_v196 : IVec S135x72 1 := cmpi .eq main_v194 main_v195
  let main_v197 : IVec S135x72 1 := ori main_v191 main_v196
  let main_v198 : IVec S135x72 1 := (extractStridedSlice S135x72 ![0, 0] · slices_S136x72_S135x72_0_0) main_v172
  let main_v199 : IVec S135x72 1 := noti main_v198
  let main_v200 : IVec S135 32 := (extractStridedSlice S135 ![0] · slices_S136_S135_0) main_arg1
  let main_c_43 : IVec S_ 32 := constantI S_ 32 1#32
  let main_v201 : IVec S135 32 := broadcastInDim S135 ![] bcast_S_S135 main_c_43
  let main_v202 : IVec S135 1 := cmpi .ne main_v200 main_v201
  let main_v203 : IVec S135x1 1 := broadcastInDim S135x1 ![0] bcast_S135_S135x1_0 main_v202
  let main_v204 : IVec S135x72 1 := broadcastInDim S135x72 ![0, 1] bcast_S135x1_S135x72_0_1 main_v203
  let main_v205 : IVec S135x72 1 := ori main_v199 main_v204
  let main_v206 : IVec S135 32 := (extractStridedSlice S135 ![0] · slices_S136_S135_0) main_arg4
  let main_v207 : IVec S135x1 32 := broadcastInDim S135x1 ![0] bcast_S135_S135x1_0 main_v206
  let main_v208 : IVec S135x72 32 := broadcastInDim S135x72 ![0, 1] bcast_S1x72_S135x72_0_1 main_v173
  let main_v209 : IVec S135x72 32 := broadcastInDim S135x72 ![0, 1] bcast_S135x1_S135x72_0_1 main_v207
  let main_v210 : IVec S135x72 1 := cmpi .ne main_v208 main_v209
  let main_v211 : IVec S135x72 1 := ori main_v205 main_v210
  let main_v212 : IVec S135x72 1 := andi main_v197 main_v211
  let main_v213 : IVec S135x72 1 := broadcastInDim S135x72 ![0, 1] bcast_S135x1_S135x72_0_1 main_v189
  let main_v214 : IVec S135x72 1 := ori main_v213 main_v212
  let main_c_44 : IVec S_ 1 := constantI S_ 1 1#1
  let main_v215 : IVec S_ 1 := (fun x v => Host.reduce IntOp.andi x v reducesTo_S135x72_S_d0_1 h_S_) main_v214 main_c_44
  let main_v216 : IVec S135 1 := (extractStridedSlice S135 ![1] · slices_S136_S135_1) main_v50
  let main_v217 : IVec S135 1 := andi main_v216 main_v116
  fn_part11 (F := F) main_arg0 main_v40 main_v79 main_v83 main_v113 main_v145 main_v166 main_v172 main_v184 main_v215 main_v217

def fn_part9 {F : FTy → Type} [FloatOps F] (main_arg0 : IVec S72 32) (main_arg1 : IVec S136 32) (main_arg4 : IVec S136 32) (main_v40 : IVec S_ 1) (main_v50 : IVec S136 1) (main_v51 : IVec S136 1) (main_v79 : IVec S_ 1) (main_v83 : IVec S_ 1) (main_v113 : IVec S_ 1) (main_v116 : IVec S135 1) (main_v145 : IVec S_ 1) (main_v166 : IVec S_ 1) (main_v172 : IVec S136x72 1) (main_v173 : IVec S1x72 32) (main_v174 : IVec S136x72 1) : IVec S_ 1 :=
  let main_c_40 : IVec S_ 32 := constantI S_ 32 3#32
  let main_v175 : IVec S136 32 := broadcastInDim S136 ![] bcast_S_S136 main_c_40
  let main_v176 : IVec S136 1 := cmpi .ne main_arg1 main_v175
  let main_v177 : IVec S136x1 1 := broadcastInDim S136x1 ![0] bcast_S136_S136x1_0 main_v176
  let main_v178 : IVec S136x72 1 := broadcastInDim S136x72 ![0, 1] bcast_S136x1_S136x72_0_1 main_v177
  let main_v179 : IVec S136x72 1 := ori main_v174 main_v178
  let main_c_41 : IVec S_ 32 := constantI S_ 32 8#32
  let main_v180 : IVec S1x72 32 := broadcastInDim S1x72 ![] bcast_S_S1x72 main_c_41
  let main_v181 : IVec S1x72 1 := cmpi .eq main_v173 main_v180
  let main_v182 : IVec S136x72 1 := broadcastInDim S136x72 ![0, 1] bcast_S1x72_S136x72_0_1 main_v181
  let main_v183 : IVec S136x72 1 := ori main_v179 main_v182
  let main_c_42 : IVec S_ 1 := constantI S_ 1 1#1
  let main_v184 : IVec S_ 1 := (fun x v => Host.reduce IntOp.andi x v reducesTo_S136x72_S_d0_1 h_S_) main_v183 main_c_42
  let main_v185 : IVec S135 1 := (extractStridedSlice S135 ![1] · slices_S136_S135_1) main_v51
  let main_v186 : IVec S135 1 := noti main_v116
  let main_v187 : IVec S135 1 := andi main_v185 main_v186
  let main_v188 : IVec S135x1 1 := broadcastInDim S135x1 ![0] bcast_S135_S135x1_0 main_v187
  let main_v189 : IVec S135x1 1 := noti main_v188
  let main_v190 : IVec S135x72 1 := (extractStridedSlice S135x72 ![1, 0] · slices_S136x72_S135x72_1_0) main_v172
  let main_v191 : IVec S135x72 1 := noti main_v190
  let main_v192 : IVec S135 32 := (extractStridedSlice S135 ![0] · slices_S136_S135_0) main_arg4
  let main_v193 : IVec S135x1 32 := broadcastInDim S135x1 ![0] bcast_S135_S135x1_0 main_v192
  let main_v194 : IVec S135x72 32 := broadcastInDim S135x72 ![0, 1] bcast_S1x72_S135x72_0_1 main_v173
  let main_v195 : IVec S135x72 32 := broadcastInDim S135x72 ![0, 1] bcast_S135x1_S135x72_0_1 main_v193
  fn_part10 (F := F) main_arg0 main_arg1 main_arg4 main_v40 main_v50 main_v79 main_v83 main_v113 main_v116 main_v145 main_v166 main_v172 main_v173 main_v184 main_v189 main_v191 main_v194 main_v195

def fn_part8 {F : FTy → Type} [FloatOps F] (main_arg0 : IVec S72 32) (main_arg1 : IVec S136 32) (main_arg3 : IVec S136 32) (main_arg4 : IVec S136 32) (main_arg6 : IVec S136 32) (main_v40 : IVec S_ 1) (main_v45 : IVec S136 1) (main_v50 : IVec S136 1) (main_v51 : IVec S136 1) (main_v79 : IVec S_ 1) (main_v83 : IVec S_ 1) (main_v113 : IVec S_ 1) (main_v116 : IVec S135 1) (main_v145 : IVec S_ 1) (main_v148 : IVec S135 1) (main_v151 : IVec S135 1) (main_v152 : IVec S135 32) (main_c_37 : IVec S_ 32) : IVec S_ 1 :=
  let main_v153 : IVec S135 32 := broadcastInDim S135 ![] bcast_S_S135 main_c_37
  let main_v154 : IVec S135 1 := cmpi .eq main_v152 main_v153
  let main_v155 : IVec S135 1 := andi main_v151 main_v154
  let main_v156 : IVec S135 1 := (extractStridedSlice S135 ![1] · slices_S136_S135_1) main_v45
  let main_v157 : IVec S135 32 := (extractStridedSlice S135 ![1] · slices_S136_S135_1) main_arg3
  let main_c_38 : IVec S_ 32 := constantI S_ 32 0#32
  let main_v158 : IVec S135 32 := broadcastInDim S135 ![] bcast_S_S135 main_c_38
  let main_v159 : IVec S135 1 := cmpi .eq main_v157 main_v158
  let main_v160 : IVec S135 32 := (extractStridedSlice S135 ![1] · slices_S136_S135_1) main_arg4
  let main_v161 : IVec S135 32 := (extractStridedSlice S135 ![0] · slices_S136_S135_0) main_arg4
  let main_v162 : IVec S135 1 := cmpi .eq main_v160 main_v161
  let main_v163 : IVec S135 1 := fn_where_0 (F := F) main_v156 main_v159 main_v162
  let main_v164 : IVec S135 1 := andi main_v155 main_v163
  let main_v165 : IVec S135 1 := ori main_v148 main_v164
  let main_c_39 : IVec S_ 1 := constantI S_ 1 1#1
  let main_v166 : IVec S_ 1 := (fun x v => Host.reduce IntOp.andi x v reducesTo_S135_S_d0 h_S_) main_v165 main_c_39
  let main_v167 : IVec S136x1 32 := broadcastInDim S136x1 ![0] bcast_S136_S136x1_0 main_arg6
  let main_v168 : IVec S72 32 := iotaInDim S72 32 0
  let main_v169 : IVec S1x72 32 := broadcastInDim S1x72 ![1] bcast_S72_S1x72_1 main_v168
  let main_v170 : IVec S136x72 32 := broadcastInDim S136x72 ![0, 1] bcast_S136x1_S136x72_0_1 main_v167
  let main_v171 : IVec S136x72 32 := broadcastInDim S136x72 ![0, 1] bcast_S1x72_S136x72_0_1 main_v169
  let main_v172 : IVec S136x72 1 := cmpi .eq main_v170 main_v171
  let main_v173 : IVec S1x72 32 := broadcastInDim S1x72 ![1] bcast_S72_S1x72_1 main_arg0
  let main_v174 : IVec S136x72 1 := noti main_v172
  fn_part9 (F := F) main_arg0 main_arg1 main_arg4 main_v40 main_v50 main_v51 main_v79 main_v83 main_v113 main_v116 main_v145 main_v166 main_v172 main_v173 main_v174

def fn_part7 {F : FTy → Type} [FloatOps F] (main_arg0 : IVec S72 32) (main_arg1 : IVec S136 32) (main_arg3 : IVec S136 32) (main_arg4 : IVec S136 32) (main_arg5 : IVec S136 32) (main_arg6 : IVec S136 32) (main_v40 : IVec S_ 1) (main_v45 : IVec S136 1) (main_v50 : IVec S136 1) (main_v51 : IVec S136 1) (main_v79 : IVec S_ 1) (main_v83 : IVec S_ 1) (main_v113 : IVec S_ 1) (main_v116 : IVec S135 1) (main_v120 : IVec S135 1) (main_v130 : IVec S135 1) (main_v131 : IVec S135 1) : IVec S_ 1 :=
  let main_v132 : IVec S135 1 := (extractStridedSlice S135 ![0] · slices_S136_S135_0) main_v45
  let main_v133 : IVec S135 32 := (extractStridedSlice S135 ![1] · slices_S136_S135_1) main_arg3
  let main_v134 : IVec S135 32 := (extractStridedSlice S135 ![0] · slices_S136_S135_0) main_arg3
  let main_c_35 : IVec S_ 32 := constantI S_ 32 1#32
  let main_v135 : IVec S135 32 := broadcastInDim S135 ![] bcast_S_S135 main_c_35
  let main_v136 : IVec S135 32 := addi main_v134 main_v135
  let main_v137 : IVec S135 1 := cmpi .eq main_v133 main_v136
  let main_v138 : IVec S135 1 := andi main_v132 main_v137
  let main_v139 : IVec S135 32 := (extractStridedSlice S135 ![1] · slices_S136_S135_1) main_arg5
  let main_v140 : IVec S135 32 := (extractStridedSlice S135 ![0] · slices_S136_S135_0) main_arg5
  let main_v141 : IVec S135 1 := cmpi .eq main_v139 main_v140
  let main_v142 : IVec S135 1 := fn_where_0 (F := F) main_v131 main_v138 main_v141
  let main_v143 : IVec S135 1 := andi main_v130 main_v142
  let main_v144 : IVec S135 1 := ori main_v120 main_v143
  let main_c_36 : IVec S_ 1 := constantI S_ 1 1#1
  let main_v145 : IVec S_ 1 := (fun x v => Host.reduce IntOp.andi x v reducesTo_S135_S_d0 h_S_) main_v144 main_c_36
  let main_v146 : IVec S135 1 := (extractStridedSlice S135 ![1] · slices_S136_S135_1) main_v51
  let main_v147 : IVec S135 1 := noti main_v146
  let main_v148 : IVec S135 1 := ori main_v147 main_v116
  let main_v149 : IVec S135 1 := (extractStridedSlice S135 ![0] · slices_S136_S135_0) main_v51
  let main_v150 : IVec S135 1 := (extractStridedSlice S135 ![1] · slices_S136_S135_1) main_v50
  let main_v151 : IVec S135 1 := andi main_v149 main_v150
  let main_v152 : IVec S135 32 := (extractStridedSlice S135 ![0] · slices_S136_S135_0) main_arg5
  let main_c_37 : IVec S_ 32 := constantI S_ 32 7#32
  fn_part8 (F := F) main_arg0 main_arg1 main_arg3 main_arg4 main_arg6 main_v40 main_v45 main_v50 main_v51 main_v79 main_v83 main_v113 main_v116 main_v145 main_v148 main_v151 main_v152 main_c_37

def fn_part6 {F : FTy → Type} [FloatOps F] (main_arg0 : IVec S72 32) (main_arg1 : IVec S136 32) (main_arg3 : IVec S136 32) (main_arg4 : IVec S136 32) (main_arg5 : IVec S136 32) (main_arg6 : IVec S136 32) (main_v40 : IVec S_ 1) (main_v45 : IVec S136 1) (main_v50 : IVec S136 1) (main_v51 : IVec S136 1) (main_v56 : IVec S136 32) (main_v79 : IVec S_ 1) (main_v83 : IVec S_ 1) (main_v100 : IVec S135 1) (main_v103 : IVec S135 1) (main_v106 : IVec S135 1) (main_v107 : IVec S135 32) (main_v108 : IVec S135 32) : IVec S_ 1 :=
  let main_v109 : IVec S135 1 := cmpi .eq main_v107 main_v108
  let main_v110 : IVec S135 1 := andi main_v106 main_v109
  let main_v111 : IVec S135 1 := ori main_v103 main_v110
  let main_v112 : IVec S135 1 := andi main_v100 main_v111
  let main_c_34 : IVec S_ 1 := constantI S_ 1 1#1
  let main_v113 : IVec S_ 1 := (fun x v => Host.reduce IntOp.andi x v reducesTo_S135_S_d0 h_S_) main_v112 main_c_34
  let main_v114 : IVec S135 32 := (extractStridedSlice S135 ![1] · slices_S136_S135_1) main_v56
  let main_v115 : IVec S135 32 := (extractStridedSlice S135 ![0] · slices_S136_S135_0) main_v56
  let main_v116 : IVec S135 1 := cmpi .eq main_v114 main_v115
  let main_v117 : IVec S135 1 := (extractStridedSlice S135 ![1] · slices_S136_S135_1) main_v51
  let main_v118 : IVec S135 1 := noti main_v117
  let main_v119 : IVec S135 1 := noti main_v116
  let main_v120 : IVec S135 1 := ori main_v118 main_v119
  let main_v121 : IVec S135 1 := (extractStridedSlice S135 ![0] · slices_S136_S135_0) main_v51
  let main_v122 : IVec S135 1 := (extractStridedSlice S135 ![1] · slices_S136_S135_1) main_v50
  let main_v123 : IVec S135 1 := noti main_v122
  let main_v124 : IVec S135 1 := (extractStridedSlice S135 ![0] · slices_S136_S135_0) main_v50
  let main_v125 : IVec S135 1 := ori main_v123 main_v124
  let main_v126 : IVec S135 1 := andi main_v121 main_v125
  let main_v127 : IVec S135 32 := (extractStridedSlice S135 ![1] · slices_S136_S135_1) main_arg4
  let main_v128 : IVec S135 32 := (extractStridedSlice S135 ![0] · slices_S136_S135_0) main_arg4
  let main_v129 : IVec S135 1 := cmpi .eq main_v127 main_v128
  let main_v130 : IVec S135 1 := andi main_v126 main_v129
  let main_v131 : IVec S135 1 := (extractStridedSlice S135 ![1] · slices_S136_S135_1) main_v45
  fn_part7 (F := F) main_arg0 main_arg1 main_arg3 main_arg4 main_arg5 main_arg6 main_v40 main_v45 main_v50 main_v51 main_v79 main_v83 main_v113 main_v116 main_v120 main_v130 main_v131

def fn_part5 {F : FTy → Type} [FloatOps F] (main_arg0 : IVec S72 32) (main_arg1 : IVec S136 32) (main_arg3 : IVec S136 32) (main_arg4 : IVec S136 32) (main_arg5 : IVec S136 32) (main_arg6 : IVec S136 32) (main_v40 : IVec S_ 1) (main_v45 : IVec S136 1) (main_v50 : IVec S136 1) (main_v51 : IVec S136 1) (main_v56 : IVec S136 32) (main_v79 : IVec S_ 1) (main_v83 : IVec S_ 1) (main_v86 : IVec S135 1) (main_v87 : IVec S135 32) (main_v88 : IVec S135 32) : IVec S_ 1 :=
  let main_c_30 : IVec S_ 32 := constantI S_ 32 1#32
  let main_v89 : IVec S135 32 := broadcastInDim S135 ![] bcast_S_S135 main_c_30
  let main_v90 : IVec S135 32 := addi main_v88 main_v89
  let main_v91 : IVec S135 1 := cmpi .eq main_v87 main_v90
  let main_v92 : IVec S135 1 := ori main_v86 main_v91
  let main_v93 : IVec S135 32 := (extractStridedSlice S135 ![0] · slices_S136_S135_0) main_arg1
  let main_c_31 : IVec S_ 32 := constantI S_ 32 0#32
  let main_v94 : IVec S135 32 := broadcastInDim S135 ![] bcast_S_S135 main_c_31
  let main_v95 : IVec S135 1 := cmpi .ne main_v93 main_v94
  let main_v96 : IVec S135 32 := (extractStridedSlice S135 ![1] · slices_S136_S135_1) main_arg6
  let main_v97 : IVec S135 32 := (extractStridedSlice S135 ![0] · slices_S136_S135_0) main_arg6
  let main_v98 : IVec S135 1 := cmpi .eq main_v96 main_v97
  let main_v99 : IVec S135 1 := ori main_v95 main_v98
  let main_v100 : IVec S135 1 := andi main_v92 main_v99
  let main_v101 : IVec S135 32 := (extractStridedSlice S135 ![1] · slices_S136_S135_1) main_arg1
  let main_c_32 : IVec S_ 32 := constantI S_ 32 4#32
  let main_v102 : IVec S135 32 := broadcastInDim S135 ![] bcast_S_S135 main_c_32
  let main_v103 : IVec S135 1 := cmpi .ne main_v101 main_v102
  let main_v104 : IVec S135 32 := (extractStridedSlice S135 ![0] · slices_S136_S135_0) main_arg1
  let main_c_33 : IVec S_ 32 := constantI S_ 32 0#32
  let main_v105 : IVec S135 32 := broadcastInDim S135 ![] bcast_S_S135 main_c_33
  let main_v106 : IVec S135 1 := cmpi .ne main_v104 main_v105
  let main_v107 : IVec S135 32 := (extractStridedSlice S135 ![1] · slices_S136_S135_1) main_arg6
  let main_v108 : IVec S135 32 := (extractStridedSlice S135 ![0] · slices_S136_S135_0) main_arg6
  fn_part6 (F := F) main_arg0 main_arg1 main_arg3 main_arg4 main_arg5 main_arg6 main_v40 main_v45 main_v50 main_v51 main_v56 main_v79 main_v83 main_v100 main_v103 main_v106 main_v107 main_v108

def fn_part4 {F : FTy → Type} [FloatOps F] (main_arg0 : IVec S72 32) (main_arg1 : IVec S136 32) (main_arg3 : IVec S136 32) (main_arg4 : IVec S136 32) (main_arg5 : IVec S136 32) (main_arg6 : IVec S136 32) (main_v40 : IVec S_ 1) (main_v45 : IVec S136 1) (main_v50 : IVec S136 1) (main_v51 : IVec S136 1) (main_v56 : IVec S136 32) (main_v67 : IVec S_ 1) (main_v68 : IVec S1 32) : IVec S_ 1 :=
  let main_v69 : IVec S_ 32 := shapeCast S_ main_v68 shapeCasts_S1_S_
  let main_c_26 : IVec S_ 32 := constantI S_ 32 0#32
  let main_v70 : IVec S_ 1 := cmpi .eq main_v69 main_c_26
  let main_v71 : IVec S_ 1 := andi main_v67 main_v70
  let main_v72 : IVec S1 32 := (extractStridedSlice S1 ![135] · slices_S136_S1_135) main_arg6
  let main_v73 : IVec S_ 32 := shapeCast S_ main_v72 shapeCasts_S1_S_
  let main_c_27 : IVec S_ 32 := constantI S_ 32 71#32
  let main_v74 : IVec S_ 1 := cmpi .eq main_v73 main_c_27
  let main_v75 : IVec S_ 1 := andi main_v71 main_v74
  let main_v76 : IVec S1 32 := (extractStridedSlice S1 ![135] · slices_S136_S1_135) main_arg1
  let main_v77 : IVec S_ 32 := shapeCast S_ main_v76 shapeCasts_S1_S_
  let main_c_28 : IVec S_ 32 := constantI S_ 32 0#32
  let main_v78 : IVec S_ 1 := cmpi .ne main_v77 main_c_28
  let main_v79 : IVec S_ 1 := andi main_v75 main_v78
  let main_v80 : IVec S136 1 := noti main_v45
  let main_v81 : IVec S136 1 := cmpi .eq main_arg5 main_arg3
  let main_v82 : IVec S136 1 := ori main_v80 main_v81
  let main_c_29 : IVec S_ 1 := constantI S_ 1 1#1
  let main_v83 : IVec S_ 1 := (fun x v => Host.reduce IntOp.andi x v reducesTo_S136_S_d0 h_S_) main_v82 main_c_29
  let main_v84 : IVec S135 32 := (extractStridedSlice S135 ![1] · slices_S136_S135_1) main_arg6
  let main_v85 : IVec S135 32 := (extractStridedSlice S135 ![0] · slices_S136_S135_0) main_arg6
  let main_v86 : IVec S135 1 := cmpi .eq main_v84 main_v85
  let main_v87 : IVec S135 32 := (extractStridedSlice S135 ![1] · slices_S136_S135_1) main_arg6
  let main_v88 : IVec S135 32 := (extractStridedSlice S135 ![0] · slices_S136_S135_0) main_arg6
  fn_part5 (F := F) main_arg0 main_arg1 main_arg3 main_arg4 main_arg5 main_arg6 main_v40 main_v45 main_v50 main_v51 main_v56 main_v79 main_v83 main_v86 main_v87 main_v88

def fn_part3 {F : FTy → Type} [FloatOps F] (main_arg0 : IVec S72 32) (main_arg1 : IVec S136 32) (main_arg2 : IVec S136 32) (main_arg3 : IVec S136 32) (main_arg4 : IVec S136 32) (main_arg5 : IVec S136 32) (main_arg6 : IVec S136 32) (main_v40 : IVec S_ 1) (main_v45 : IVec S136 1) (main_v47 : IVec S136 1) (main_v49 : IVec S136 1) : IVec S_ 1 :=
  let main_v50 : IVec S136 1 := ori main_v47 main_v49
  let main_v51 : IVec S136 1 := ori main_v45 main_v50
  let main_c_21 : IVec S_ 32 := constantI S_ 32 0#32
  let main_v52 : IVec S136 32 := broadcastInDim S136 ![] bcast_S_S136 main_c_21
  let main_v53 : IVec S136 1 := cmpi .eq main_arg1 main_v52
  let main_c_22 : IVec S_ 32 := constantI S_ 32 1#32
  let main_v54 : IVec S136 32 := broadcastInDim S136 ![] bcast_S_S136 main_c_22
  let main_v55 : IVec S136 32 := subi main_v54 main_arg2
  let main_v56 : IVec S136 32 := fn_where (F := F) main_v53 main_arg2 main_v55
  let main_v57 : IVec S1 32 := (extractStridedSlice S1 ![0] · slices_S136_S1_0) main_arg1
  let main_v58 : IVec S_ 32 := shapeCast S_ main_v57 shapeCasts_S1_S_
  let main_c_23 : IVec S_ 32 := constantI S_ 32 0#32
  let main_v59 : IVec S_ 1 := cmpi .eq main_v58 main_c_23
  let main_v60 : IVec S1 32 := (extractStridedSlice S1 ![0] · slices_S136_S1_0) main_arg3
  let main_v61 : IVec S_ 32 := shapeCast S_ main_v60 shapeCasts_S1_S_
  let main_c_24 : IVec S_ 32 := constantI S_ 32 0#32
  let main_v62 : IVec S_ 1 := cmpi .eq main_v61 main_c_24
  let main_v63 : IVec S_ 1 := andi main_v59 main_v62
  let main_v64 : IVec S1 32 := (extractStridedSlice S1 ![0] · slices_S136_S1_0) main_arg1
  let main_v65 : IVec S_ 32 := shapeCast S_ main_v64 shapeCasts_S1_S_
  let main_c_25 : IVec S_ 32 := constantI S_ 32 3#32
  let main_v66 : IVec S_ 1 := cmpi .eq main_v65 main_c_25
  let main_v67 : IVec S_ 1 := ori main_v63 main_v66
  let main_v68 : IVec S1 32 := (extractStridedSlice S1 ![0] · slices_S136_S1_0) main_arg6
  fn_part4 (F := F) main_arg0 main_arg1 main_arg3 main_arg4 main_arg5 main_arg6 main_v40 main_v45 main_v50 main_v51 main_v56 main_v67 main_v68

def fn_part2 {F : FTy → Type} [FloatOps F] (main_arg0 : IVec S72 32) (main_arg1 : IVec S136 32) (main_arg2 : IVec S136 32) (main_arg3 : IVec S136 32) (main_arg4 : IVec S136 32) (main_arg5 : IVec S136 32) (main_arg6 : IVec S136 32) (main_v26 : IVec S_ 1) (main_v32 : IVec S_ 1) : IVec S_ 1 :=
  let main_v33 : IVec S_ 1 := andi main_v26 main_v32
  let main_c_14 : IVec S_ 32 := constantI S_ 32 0#32
  let main_v34 : IVec S136 32 := broadcastInDim S136 ![] bcast_S_S136 main_c_14
  let main_v35 : IVec S136 1 := cmpi .sge main_arg6 main_v34
  let main_c_15 : IVec S_ 32 := constantI S_ 32 71#32
  let main_v36 : IVec S136 32 := broadcastInDim S136 ![] bcast_S_S136 main_c_15
  let main_v37 : IVec S136 1 := cmpi .sle main_arg6 main_v36
  let main_v38 : IVec S136 1 := andi main_v35 main_v37
  let main_c_16 : IVec S_ 1 := constantI S_ 1 1#1
  let main_v39 : IVec S_ 1 := (fun x v => Host.reduce IntOp.andi x v reducesTo_S136_S_d0 h_S_) main_v38 main_c_16
  let main_v40 : IVec S_ 1 := andi main_v33 main_v39
  let main_c_17 : IVec S_ 32 := constantI S_ 32 0#32
  let main_v41 : IVec S136 32 := broadcastInDim S136 ![] bcast_S_S136 main_c_17
  let main_v42 : IVec S136 1 := cmpi .eq main_arg1 main_v41
  let main_c_18 : IVec S_ 32 := constantI S_ 32 2#32
  let main_v43 : IVec S136 32 := broadcastInDim S136 ![] bcast_S_S136 main_c_18
  let main_v44 : IVec S136 1 := cmpi .eq main_arg1 main_v43
  let main_v45 : IVec S136 1 := ori main_v42 main_v44
  let main_c_19 : IVec S_ 32 := constantI S_ 32 1#32
  let main_v46 : IVec S136 32 := broadcastInDim S136 ![] bcast_S_S136 main_c_19
  let main_v47 : IVec S136 1 := cmpi .eq main_arg1 main_v46
  let main_c_20 : IVec S_ 32 := constantI S_ 32 2#32
  let main_v48 : IVec S136 32 := broadcastInDim S136 ![] bcast_S_S136 main_c_20
  let main_v49 : IVec S136 1 := cmpi .eq main_arg1 main_v48
  fn_part3 (F := F) main_arg0 main_arg1 main_arg2 main_arg3 main_arg4 main_arg5 main_arg6 main_v40 main_v45 main_v47 main_v49

def fn_part1 {F : FTy → Type} [FloatOps F] (main_arg0 : IVec S72 32) (main_arg1 : IVec S136 32) (main_arg2 : IVec S136 32) (main_arg3 : IVec S136 32) (main_arg4 : IVec S136 32) (main_arg5 : IVec S136 32) (main_arg6 : IVec S136 32) (main_v12 : IVec S_ 1) (main_v14 : IVec S136 1) (main_v15 : IVec S136 32) : IVec S_ 1 :=
  let main_v16 : IVec S136 1 := cmpi .sle main_arg3 main_v15
  let main_v17 : IVec S136 1 := andi main_v14 main_v16
  let main_c_7 : IVec S_ 1 := constantI S_ 1 1#1
  let main_v18 : IVec S_ 1 := (fun x v => Host.reduce IntOp.andi x v reducesTo_S136_S_d0 h_S_) main_v17 main_c_7
  let main_v19 : IVec S_ 1 := andi main_v12 main_v18
  let main_c_8 : IVec S_ 32 := constantI S_ 32 0#32
  let main_v20 : IVec S136 32 := broadcastInDim S136 ![] bcast_S_S136 main_c_8
  let main_v21 : IVec S136 1 := cmpi .sge main_arg4 main_v20
  let main_c_9 : IVec S_ 32 := constantI S_ 32 7#32
  let main_v22 : IVec S136 32 := broadcastInDim S136 ![] bcast_S_S136 main_c_9
  let main_v23 : IVec S136 1 := cmpi .sle main_arg4 main_v22
  let main_v24 : IVec S136 1 := andi main_v21 main_v23
  let main_c_10 : IVec S_ 1 := constantI S_ 1 1#1
  let main_v25 : IVec S_ 1 := (fun x v => Host.reduce IntOp.andi x v reducesTo_S136_S_d0 h_S_) main_v24 main_c_10
  let main_v26 : IVec S_ 1 := andi main_v19 main_v25
  let main_c_11 : IVec S_ 32 := constantI S_ 32 0#32
  let main_v27 : IVec S136 32 := broadcastInDim S136 ![] bcast_S_S136 main_c_11
  let main_v28 : IVec S136 1 := cmpi .sge main_arg5 main_v27
  let main_c_12 : IVec S_ 32 := constantI S_ 32 7#32
  let main_v29 : IVec S136 32 := broadcastInDim S136 ![] bcast_S_S136 main_c_12
  let main_v30 : IVec S136 1 := cmpi .sle main_arg5 main_v29
  let main_v31 : IVec S136 1 := andi main_v28 main_v30
  let main_c_13 : IVec S_ 1 := constantI S_ 1 1#1
  let main_v32 : IVec S_ 1 := (fun x v => Host.reduce IntOp.andi x v reducesTo_S136_S_d0 h_S_) main_v31 main_c_13
  fn_part2 (F := F) main_arg0 main_arg1 main_arg2 main_arg3 main_arg4 main_arg5 main_arg6 main_v26 main_v32

def fn {F : FTy → Type} [FloatOps F] (main_arg0 : IVec S72 32) (main_arg1 : IVec S136 32) (main_arg2 : IVec S136 32) (main_arg3 : IVec S136 32) (main_arg4 : IVec S136 32) (main_arg5 : IVec S136 32) (main_arg6 : IVec S136 32) (main_arg7 : FVec F S36864x1024 .f32) (main_arg8 : FVec F S8x1024x2816 .f32) (main_arg9 : FVec F S8x1024x2816 .f32) (main_arg10 : FVec F S8x2816x1024 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 4#32
  let main_v2 : IVec S136 32 := broadcastInDim S136 ![] bcast_S_S136 main_c_0
  let main_v3 : IVec S136 1 := cmpi .sle main_arg1 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  let main_c_2 : IVec S_ 32 := constantI S_ 32 0#32
  let main_v6 : IVec S136 32 := broadcastInDim S136 ![] bcast_S_S136 main_c_2
  let main_v7 : IVec S136 1 := cmpi .sge main_arg2 main_v6
  let main_c_3 : IVec S_ 32 := constantI S_ 32 1#32
  let main_v8 : IVec S136 32 := broadcastInDim S136 ![] bcast_S_S136 main_c_3
  let main_v9 : IVec S136 1 := cmpi .sle main_arg2 main_v8
  let main_v10 : IVec S136 1 := andi main_v7 main_v9
  let main_c_4 : IVec S_ 1 := constantI S_ 1 1#1
  let main_v11 : IVec S_ 1 := (fun x v => Host.reduce IntOp.andi x v reducesTo_S136_S_d0 h_S_) main_v10 main_c_4
  let main_v12 : IVec S_ 1 := andi main_v5 main_v11
  let main_c_5 : IVec S_ 32 := constantI S_ 32 0#32
  let main_v13 : IVec S136 32 := broadcastInDim S136 ![] bcast_S_S136 main_c_5
  let main_v14 : IVec S136 1 := cmpi .sge main_arg3 main_v13
  let main_c_6 : IVec S_ 32 := constantI S_ 32 7#32
  let main_v15 : IVec S136 32 := broadcastInDim S136 ![] bcast_S_S136 main_c_6
  fn_part1 (F := F) main_arg0 main_arg1 main_arg2 main_arg3 main_arg4 main_arg5 main_arg6 main_v12 main_v14 main_v15
-- ==== Kernel.lean ====
abbrev S16384x2048 : Shape := ⟨2, ![16384, 2048]⟩
abbrev S16384x8192 : Shape := ⟨2, ![16384, 8192]⟩
abbrev S4x64 : Shape := ⟨2, ![4, 64]⟩
abbrev S128 : Shape := ⟨1, ![128]⟩
abbrev S1x128 : Shape := ⟨2, ![1, 128]⟩
abbrev S16384x512 : Shape := ⟨2, ![16384, 512]⟩
abbrev S2048x256 : Shape := ⟨2, ![2048, 256]⟩
abbrev S2048x128 : Shape := ⟨2, ![2048, 128]⟩
abbrev S256x256 : Shape := ⟨2, ![256, 256]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S1792x256 : Shape := ⟨2, ![1792, 256]⟩
abbrev S2048 : Shape := ⟨1, ![2048]⟩
abbrev S2048x1 : Shape := ⟨2, ![2048, 1]⟩
abbrev S256 : Shape := ⟨1, ![256]⟩
abbrev S256x1 : Shape := ⟨2, ![256, 1]⟩
abbrev S1792x128 : Shape := ⟨2, ![1792, 128]⟩
abbrev S1536x256 : Shape := ⟨2, ![1536, 256]⟩
abbrev S1792 : Shape := ⟨1, ![1792]⟩
abbrev S1792x1 : Shape := ⟨2, ![1792, 1]⟩
abbrev S1536x128 : Shape := ⟨2, ![1536, 128]⟩
abbrev S1280x256 : Shape := ⟨2, ![1280, 256]⟩
abbrev S1536 : Shape := ⟨1, ![1536]⟩
abbrev S1536x1 : Shape := ⟨2, ![1536, 1]⟩
abbrev S1280x128 : Shape := ⟨2, ![1280, 128]⟩
abbrev S1024x256 : Shape := ⟨2, ![1024, 256]⟩
abbrev S1280 : Shape := ⟨1, ![1280]⟩
abbrev S1280x1 : Shape := ⟨2, ![1280, 1]⟩
abbrev S1024x128 : Shape := ⟨2, ![1024, 128]⟩
abbrev S768x256 : Shape := ⟨2, ![768, 256]⟩
abbrev S1024 : Shape := ⟨1, ![1024]⟩
abbrev S1024x1 : Shape := ⟨2, ![1024, 1]⟩
abbrev S768x128 : Shape := ⟨2, ![768, 128]⟩
abbrev S512x256 : Shape := ⟨2, ![512, 256]⟩
abbrev S768 : Shape := ⟨1, ![768]⟩
abbrev S768x1 : Shape := ⟨2, ![768, 1]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x8192, .bf16⟩
  | .hbm, ⟨2, _⟩ => ⟨S4x64, .f32⟩
  | .hbm, ⟨3, _⟩ => ⟨S128, .f32⟩
  | .hbm, ⟨4, _⟩ => ⟨S1x128, .f32⟩
  | .hbm, ⟨5, _⟩ => ⟨S16384x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S4x64, .f32⟩
  | .local _ .vmem, ⟨7, _⟩ => ⟨S1x128, .f32⟩
  | .local _ .vmem, ⟨8, _⟩ => ⟨S2048x256, .bf16⟩
  | .local _ .vmem, ⟨9, _⟩ => ⟨S2048x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S16384x8192 : Shape := ⟨2, ![16384, 8192]⟩
abbrev S4x64 : Shape := ⟨2, ![4, 64]⟩
abbrev S128 : Shape := ⟨1, ![128]⟩
abbrev S16384x512 : Shape := ⟨2, ![16384, 512]⟩
abbrev S8x2048x4x2x64 : Shape := ⟨5, ![8, 2048, 4, 2, 64]⟩
abbrev S8x4x2x2048x64 : Shape := ⟨5, ![8, 4, 2, 2048, 64]⟩
abbrev S8x2048x4x128 : Shape := ⟨4, ![8, 2048, 4, 128]⟩
abbrev S8x4x2048x128 : Shape := ⟨4, ![8, 4, 2048, 128]⟩
abbrev S1x64 : Shape := ⟨2, ![1, 64]⟩
abbrev S64 : Shape := ⟨1, ![64]⟩
abbrev S_ : Shape := ⟨0, ![]⟩
abbrev S8x4x2x2048x2048 : Shape := ⟨5, ![8, 4, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x2048 : Shape := ⟨3, ![8, 4, 2048]⟩
abbrev S8x4x2048x1 : Shape := ⟨4, ![8, 4, 2048, 1]⟩
abbrev S1x1x1x128 : Shape := ⟨4, ![1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x8192, .bf16⟩
  | .hbm, ⟨2, _⟩ => ⟨S4x64, .f32⟩
  | .hbm, ⟨3, _⟩ => ⟨S128, .f32⟩
  | .hbm, ⟨4, _⟩ => ⟨S16384x512, .bf16⟩
  | .hbm, ⟨5, _⟩ => ⟨S16384x512, .f32⟩
  | .hbm, ⟨6, _⟩ => ⟨S8x2048x4x2x64, .f32⟩
  | .hbm, ⟨7, _⟩ => ⟨S8x4x2x2048x64, .f32⟩
  | .hbm, ⟨8, _⟩ => ⟨S16384x512, .bf16⟩
  | .hbm, ⟨9, _⟩ => ⟨S16384x512, .f32⟩
  | .hbm, ⟨10, _⟩ => ⟨S8x2048x4x2x64, .f32⟩
  | .hbm, ⟨11, _⟩ => ⟨S8x4x2x2048x64, .f32⟩
  | .hbm, ⟨12, _⟩ => ⟨S16384x512, .bf16⟩
  | .hbm, ⟨13, _⟩ => ⟨S16384x512, .f32⟩
  | .hbm, ⟨14, _⟩ => ⟨S8x2048x4x128, .f32⟩
  | .hbm, ⟨15, _⟩ => ⟨S8x4x2048x128, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x4x2x2048x2048, .f32⟩
  | .hbm, ⟨36, _⟩ => ⟨S_, .f32⟩
  | .hbm, ⟨37, _⟩ => ⟨S_, .f32⟩
  | .hbm, ⟨38, _⟩ => ⟨S8x4x2x2048x2048, .f32⟩
  | .hbm, ⟨39, _⟩ => ⟨S8x4x2x2048x2048, .f32⟩
  | .hbm, ⟨40, _⟩ => ⟨S2048, .i32⟩
  | .hbm, ⟨41, _⟩ => ⟨S1x2048, .i32⟩
  | .hbm, ⟨42, _⟩ => ⟨S2048x1, .i32⟩
  | .hbm, ⟨43, _⟩ => ⟨S2048x2048, .i32⟩
  | .hbm, ⟨44, _⟩ => ⟨S2048x2048, .i32⟩
  | .hbm, ⟨45, _⟩ => ⟨S2048x2048, .i1⟩
  | .hbm, ⟨46, _⟩ => ⟨S_, .f32⟩
  | .hbm, ⟨47, _⟩ => ⟨S_, .f32⟩
  | .hbm, ⟨48, _⟩ => ⟨S8x4x2x2048x2048, .i1⟩
  | .hbm, ⟨49, _⟩ => ⟨S8x4x2x2048x2048, .f32⟩
  | .hbm, ⟨50, _⟩ => ⟨S8x4x2x2048x2048, .f32⟩
  | .hbm, ⟨51, _⟩ => ⟨S_, .f32⟩
  | .hbm, ⟨52, _⟩ => ⟨S8x4x2x2048, .f32⟩
  | .hbm, ⟨53, _⟩ => ⟨S_, .f32⟩
  | .hbm, ⟨54, _⟩ => ⟨S8x4x2x2048, .f32⟩
  | .hbm, ⟨55, _⟩ => ⟨S8x4x2x2048, .f32⟩
  | .hbm, ⟨56, _⟩ => ⟨S8x4x2x2048x1, .f32⟩
  | .hbm, ⟨57, _⟩ => ⟨S8x4x2x2048x2048, .f32⟩
  | .hbm, ⟨58, _⟩ => ⟨S8x4x2x2048x2048, .f32⟩
  | .hbm, ⟨59, _⟩ => ⟨S8x4x2x2048x2048, .f32⟩
  | .hbm, ⟨60, _⟩ => ⟨S_, .f32⟩
  | .hbm, ⟨61, _⟩ => ⟨S8x4x2x2048, .f32⟩
  | .hbm, ⟨62, _⟩ => ⟨S8x4x2x2048x1, .f32⟩
  | .hbm, ⟨63, _⟩ => ⟨S8x4x2x2048x2048, .f32⟩
  | .hbm, ⟨64, _⟩ => ⟨S8x4x2x2048x2048, .f32⟩
  | .hbm, ⟨65, _⟩ => ⟨S8x4x1x2048x2048, .f32⟩
  | .hbm, ⟨66, _⟩ => ⟨S8x4x2048x2048, .f32⟩
  | .hbm, ⟨67, _⟩ => ⟨S8x4x1x2048x2048, .f32⟩
  | .hbm, ⟨68, _⟩ => ⟨S8x4x2048x2048, .f32⟩
  | .hbm, ⟨69, _⟩ => ⟨S8x4x2048x2048, .f32⟩
  | .hbm, ⟨70, _⟩ => ⟨S8x4x2048x2048, .f32⟩
  | .hbm, ⟨71, _⟩ => ⟨S8x4x2048x2048, .f32⟩
  | .hbm, ⟨72, _⟩ => ⟨S8x4x2048x128, .f32⟩
  | .hbm, ⟨73, _⟩ => ⟨S8x4x2048x128, .f32⟩
  | .hbm, ⟨74, _⟩ => ⟨S_, .f32⟩
  | .hbm, ⟨75, _⟩ => ⟨S8x4x2048, .f32⟩
  | .hbm, ⟨76, _⟩ => ⟨S8x4x2048x1, .f32⟩
  | .hbm, ⟨77, _⟩ => ⟨S_, .f32⟩
  | .hbm, ⟨78, _⟩ => ⟨S8x4x2048x1, .f32⟩
  | .hbm, ⟨79, _⟩ => ⟨S8x4x2048x1, .f32⟩
  | .hbm, ⟨80, _⟩ => ⟨S_, .f32⟩
  | .hbm, ⟨81, _⟩ => ⟨S8x4x2048x1, .f32⟩
  | .hbm, ⟨82, _⟩ => ⟨S8x4x2048x1, .f32⟩
  | .hbm, ⟨83, _⟩ => ⟨S8x4x2048x1, .f32⟩
  | .hbm, ⟨84, _⟩ => ⟨S8x4x2048x128, .f32⟩
  | .hbm, ⟨85, _⟩ => ⟨S8x4x2048x128, .f32⟩
  | .hbm, ⟨86, _⟩ => ⟨S1x1x1x128, .f32⟩
  | .hbm, ⟨87, _⟩ => ⟨S8x4x2048x128, .f32⟩
  | .hbm, ⟨88, _⟩ => ⟨S8x4x2048x128, .f32⟩
  | .hbm, ⟨89, _⟩ => ⟨S_, .f32⟩
  | .hbm, ⟨90, _⟩ => ⟨S8x4x2048x128, .f32⟩
  | .hbm, ⟨91, _⟩ => ⟨S8x4x2048x128, .f32⟩
  | .hbm, ⟨92, _⟩ => ⟨S8x2048x4x128, .f32⟩
  | .hbm, ⟨93, _⟩ => ⟨S16384x512, .f32⟩
  | .hbm, ⟨94, _⟩ => ⟨S16384x512, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== InProj.lean ====
abbrev S16384x1024 : Shape := ⟨2, ![16384, 1024]⟩
abbrev S8x6x1024 : Shape := ⟨3, ![8, 6, 1024]⟩
abbrev S1024 : Shape := ⟨1, ![1024]⟩
abbrev S2x1024x8192 : Shape := ⟨3, ![2, 1024, 8192]⟩
abbrev S1x1024 : Shape := ⟨2, ![1, 1024]⟩
abbrev S16384x8192 : Shape := ⟨2, ![16384, 8192]⟩
abbrev S512x1024 : Shape := ⟨2, ![512, 1024]⟩
abbrev S1x6x1024 : Shape := ⟨3, ![1, 6, 1024]⟩
abbrev S1x128x8192 : Shape := ⟨3, ![1, 128, 8192]⟩
abbrev S512x8192 : Shape := ⟨2, ![512, 8192]⟩
abbrev S1024x8192 : Shape := ⟨2, ![1024, 8192]⟩
abbrev S128x8192 : Shape := ⟨2, ![128, 8192]⟩
abbrev S6x1024 : Shape := ⟨2, ![6, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S2x1024x8192, .f32⟩
  | .hbm, ⟨4, _⟩ => ⟨S1x1024, .f32⟩
  | .hbm, ⟨5, _⟩ => ⟨S16384x8192, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x128x8192, .f32⟩
  | .local _ .vmem, ⟨6, _⟩ => ⟨S1x128x8192, .f32⟩
  | .local _ .vmem, ⟨7, _⟩ => ⟨S512x8192, .bf16⟩
  | .local _ .vmem, ⟨8, _⟩ => ⟨S512x8192, .bf16⟩
  | .local _ .vmem, ⟨9, _⟩ => ⟨S1024x8192, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v9 : BitVec 32 := Scalar.muli arg0 c128_i32
  v9
def k0_off1 (i : grid0.Coords) : Fin 2 → Nat :=
  let arg0 : BitVec 32 := BitVec.ofNat 32 (i 0).val
  let c128_i32 : BitVec 32 := 128#32
  let v9 : BitVec 32 := Scalar.muli arg0 c128_i32
  let v10 : BitVec 32 := v9
  let v11 : Index := Scalar.indexCast v10
  let c0_4 : Index := 0#32
  ![v11.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S16384x1024 : Shape := ⟨2, ![16384, 1024]⟩
abbrev S8x6x1024 : Shape := ⟨3, ![8, 6, 1024]⟩
abbrev S1024 : Shape := ⟨1, ![1024]⟩
abbrev S2x1024x8192 : Shape := ⟨3, ![2, 1024, 8192]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S1x1024x8192 : Shape := ⟨3, ![1, 1024, 8192]⟩
abbrev S1024x8192 : Shape := ⟨2, ![1024, 8192]⟩
abbrev S8x2048x8192 : Shape := ⟨3, ![8, 2048, 8192]⟩
abbrev S16384x8192 : Shape := ⟨2, ![16384, 8192]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S2x1024x8192, .f32⟩
  | .hbm, ⟨4, _⟩ => ⟨S8x2048x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x1x1024, .f32⟩
  | .hbm, ⟨30, _⟩ => ⟨S8x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S1x1024x8192, .f32⟩
  | .hbm, ⟨35, _⟩ => ⟨S1024x8192, .f32⟩
  | .hbm, ⟨36, _⟩ => ⟨S8x2048x8192, .f32⟩
  | .hbm, ⟨37, _⟩ => ⟨S16384x8192, .f32⟩
  | .hbm, ⟨38, _⟩ => ⟨S16384x8192, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== DenseFfn.lean ====
abbrev S16384x1024 : Shape := ⟨2, ![16384, 1024]⟩
abbrev S8x6x1024 : Shape := ⟨3, ![8, 6, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x6x1024 : Shape := ⟨3, ![1, 6, 1024]⟩
abbrev S128x2816 : Shape := ⟨2, ![128, 2816]⟩
abbrev S352x1024 : Shape := ⟨2, ![352, 1024]⟩
abbrev S6x1024 : Shape := ⟨2, ![6, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S352x1024, .f32⟩
  | .local _ .vmem, ⟨10, _⟩ => ⟨S352x1024, .f32⟩
  | .local _ .vmem, ⟨11, _⟩ => ⟨S512x1024, .f32⟩
  | .local _ .vmem, ⟨12, _⟩ => ⟨S512x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v6 : BitVec 32 := Scalar.muli arg0 c128_i32
  v6
def k0_off1 (i : grid0.Coords) : Fin 2 → Nat :=
  let arg0 : BitVec 32 := BitVec.ofNat 32 (i 0).val
  let c128_i32 : BitVec 32 := 128#32
  let v6 : BitVec 32 := Scalar.muli arg0 c128_i32
  let v7 : BitVec 32 := v6
  let v10 : Index := Scalar.indexCast v7
  let c0_3 : Index := 0#32
  ![v10.toNat, 0]
def k0_mult2 (i : grid0.Coords) : BitVec 32 :=
  let arg0 : BitVec 32 := BitVec.ofNat 32 (i 0).val
  let c128_i32_4 : BitVec 32 := 128#32
  let v14 : BitVec 32 := Scalar.muli arg0 c128_i32_4
  v14
def k0_mult3 (i : grid0.Coords) : BitVec 32 :=
  let arg0 : BitVec 32 := BitVec.ofNat 32 (i 0).val
  let c352_i32 : BitVec 32 := 352#32
  let v22 : BitVec 32 := Scalar.muli arg0 c352_i32
  v22
def k0_off2 (i : grid0.Coords) : Fin 2 → Nat :=
  let arg0 : BitVec 32 := BitVec.ofNat 32 (i 0).val
  let c352_i32 : BitVec 32 := 352#32
  let v22 : BitVec 32 := Scalar.muli arg0 c352_i32
  let v23 : BitVec 32 := v22
  let v26 : Index := Scalar.indexCast v23
  let c0_10 : Index := 0#32
  ![v26.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DenseFfnRefIdeal.lean ====
abbrev S16384x1024 : Shape := ⟨2, ![16384, 1024]⟩
abbrev S8x6x1024 : Shape := ⟨3, ![8, 6, 1024]⟩
abbrev S1024 : Shape := ⟨1, ![1024]⟩
abbrev S1024x2816 : Shape := ⟨2, ![1024, 2816]⟩
abbrev S2816x1024 : Shape := ⟨2, ![2816, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x2816 : Shape := ⟨3, ![8, 2048, 2816]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S_, .f32⟩
  | .hbm, ⟨40, _⟩ => ⟨S8x2048x2816, .f32⟩
  | .hbm, ⟨41, _⟩ => ⟨S8x2048x2816, .f32⟩
  | .hbm, ⟨42, _⟩ => ⟨S_, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S8x2048x1024, .f32⟩
  | .hbm, ⟨49, _⟩ => ⟨S8x1x1024, .f32⟩
  | .hbm, ⟨50, _⟩ => ⟨S8x1024, .f32⟩
  | .hbm, ⟨51, _⟩ => ⟨S8x1x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x8192 : Shape := ⟨2, ![16384, 8192]⟩
abbrev S3x1024 : Shape := ⟨2, ![3, 1024]⟩
abbrev S8x6x1024 : Shape := ⟨3, ![8, 6, 1024]⟩
abbrev S1024x1024 : Shape := ⟨2, ![1024, 1024]⟩
abbrev S512x1024 : Shape := ⟨2, ![512, 1024]⟩
abbrev S1024x512 : Shape := ⟨2, ![1024, 512]⟩
abbrev S1x6x1024 : Shape := ⟨3, ![1, 6, 1024]⟩
abbrev S1x1024 : Shape := ⟨2, ![1, 1024]⟩
abbrev S6x1024 : Shape := ⟨2, ![6, 1024]⟩

abbrev nBuf : Space → Nat
  | .hbm => 16
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S16384x8192, .bf16⟩
  | .hbm, ⟨5, _⟩ => ⟨S3x1024, .f32⟩
  | .hbm, ⟨6, _⟩ => ⟨S8x6x1024, .f32⟩
  | .hbm, ⟨7, _⟩ => ⟨S1024x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S3x1024, .f32⟩
  | .local _ .vmem, ⟨15, _⟩ => ⟨S1x6x1024, .f32⟩
  | .local _ .vmem, ⟨16, _⟩ => ⟨S1x6x1024, .f32⟩
  | .local _ .vmem, ⟨17, _⟩ => ⟨S1024x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S16384x1024 : Shape := ⟨2, ![16384, 1024]⟩
abbrev S16384x512 : Shape := ⟨2, ![16384, 512]⟩
abbrev S16384x8192 : Shape := ⟨2, ![16384, 8192]⟩
abbrev S3x1024 : Shape := ⟨2, ![3, 1024]⟩
abbrev S8x6x1024 : Shape := ⟨3, ![8, 6, 1024]⟩
abbrev S1024x1024 : Shape := ⟨2, ![1024, 1024]⟩
abbrev S512x1024 : Shape := ⟨2, ![512, 1024]⟩
abbrev S16384x3072 : Shape := ⟨2, ![16384, 3072]⟩
abbrev S8x2048x3x1024 : Shape := ⟨4, ![8, 2048, 3, 1024]⟩
abbrev S1x1x3x1024 : Shape := ⟨4, ![1, 1, 3, 1024]⟩
abbrev S_ : Shape := ⟨0, ![]⟩
abbrev S8x2048x1024 : Shape := ⟨3, ![8, 2048, 1024]⟩
abbrev S8x2048x512 : Shape := ⟨3, ![8, 2048, 512]⟩
abbrev S8x2048x1x1024 : Shape := ⟨4, ![8, 2048, 1, 1024]⟩
abbrev S8x1x1024 : Shape := ⟨3, ![8, 1, 1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S16384x8192, .bf16⟩
  | .hbm, ⟨5, _⟩ => ⟨S3x1024, .f32⟩
  | .hbm, ⟨6, _⟩ => ⟨S8x6x1024, .f32⟩
  | .hbm, ⟨7, _⟩ => ⟨S1024x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S16384x3072, .bf16⟩
  | .hbm, ⟨12, _⟩ => ⟨S16384x3072, .f32⟩
  | .hbm, ⟨13, _⟩ => ⟨S8x2048x3x1024, .f32⟩
  | .hbm, ⟨14, _⟩ => ⟨S1x1x3x1024, .f32⟩
  | .hbm, ⟨15, _⟩ => ⟨S8x2048x3x1024, .f32⟩
  | .hbm, ⟨16, _⟩ => ⟨S8x2048x3x1024, .f32⟩
  | .hbm, ⟨17, _⟩ => ⟨S8x2048x3x1024, .f32⟩
  | .hbm, ⟨18, _⟩ => ⟨S8x2048x3x1024, .f32⟩
  | .hbm, ⟨19, _⟩ => ⟨S_, .f32⟩
  | .hbm, ⟨20, _⟩ => ⟨S8x2048x3x1024, .f32⟩
  | .hbm, ⟨21, _⟩ => ⟨S8x2048x3x1024, .f32⟩
  | .hbm, ⟨22, _⟩ => ⟨S_, .f32⟩
  | .hbm, ⟨23, _⟩ => ⟨S8x2048x3x1024, .f32⟩
  | .hbm, ⟨24, _⟩ => ⟨S8x2048x3x1024, .f32⟩
  | .hbm, ⟨25, _⟩ => ⟨S16384x1024, .f32⟩
  | .hbm, ⟨26, _⟩ => ⟨S8x2048x1024, .f32⟩
  | .hbm, ⟨27, _⟩ => ⟨S16384x512, .f32⟩
  | .hbm, ⟨28, _⟩ => ⟨S8x2048x512, .f32⟩
  | .hbm, ⟨29, _⟩ => ⟨S16384x512, .f32⟩
  | .hbm, ⟨30, _⟩ => ⟨S8x2048x512, .f32⟩
  | .hbm, ⟨31, _⟩ => ⟨S8x2048x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x1x1024, .f32⟩
  | .hbm, ⟨47, _⟩ => ⟨S8x1024, .f32⟩
  | .hbm, ⟨48, _⟩ => ⟨S8x1x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Experts.lean ====
abbrev S72 : Shape := ⟨1, ![72]⟩
abbrev S136 : Shape := ⟨1, ![136]⟩
abbrev S36864x1024 : Shape := ⟨2, ![36864, 1024]⟩
abbrev S8x1024x2816 : Shape := ⟨3, ![8, 1024, 2816]⟩
abbrev S8x2816x1024 : Shape := ⟨3, ![8, 2816, 1024]⟩
abbrev S512x1024 : Shape := ⟨2, ![512, 1024]⟩
abbrev S1 : Shape := ⟨1, ![1]⟩
abbrev S1x128x2816 : Shape := ⟨3, ![1, 128, 2816]⟩
abbrev S1x352x1024 : Shape := ⟨3, ![1, 352, 1024]⟩
abbrev S2x1024x2816 : Shape := ⟨3, ![2, 1024, 2816]⟩
abbrev S2x2816x1024 : Shape := ⟨3, ![2, 2816, 1024]⟩
abbrev S128x2816 : Shape := ⟨2, ![128, 2816]⟩
abbrev S1x1024x2816 : Shape := ⟨3, ![1, 1024, 2816]⟩
abbrev S1024x2816 : Shape := ⟨2, ![1024, 2816]⟩
abbrev S352x1024 : Shape := ⟨2, ![352, 1024]⟩
abbrev S1x2816x1024 : Shape := ⟨3, ![1, 2816, 1024]⟩
abbrev S2816x1024 : Shape := ⟨2, ![2816, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 6
  | .vmem => 13
  | .smem => 6
  | _ => 0

abbrev bufTy : (tb : Table) → Fin (tcTables nBuf tb) → BufTy
  | .hbm, ⟨0, _⟩ => ⟨S72, .i32⟩
  | .hbm, ⟨1, _⟩ => ⟨S36864x1024, .f32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x128x2816, .f32⟩
  | .local _ .vmem, ⟨3, _⟩ => ⟨S1x128x2816, .f32⟩
  | .local _ .vmem, ⟨4, _⟩ => ⟨S1x128x2816, .f32⟩
  | .local _ .vmem, ⟨5, _⟩ => ⟨S1x128x2816, .f32⟩
  | .local _ .vmem, ⟨6, _⟩ => ⟨S1x352x1024, .f32⟩
  | .local _ .vmem, ⟨7, _⟩ => ⟨S1x352x1024, .f32⟩
  | .local _ .vmem, ⟨8, _⟩ => ⟨S512x1024, .f32⟩
  | .local _ .vmem, ⟨9, _⟩ => ⟨S512x1024, .f32⟩
  | .local _ .vmem, ⟨10, _⟩ => ⟨S2x1024x2816, .bf16⟩
  | .local _ .vmem, ⟨11, _⟩ => ⟨S2x1024x2816, .bf16⟩
  | .local _ .vmem, ⟨12, _⟩ => ⟨S2x2816x1024, .bf16⟩
  | .local _ .smem, ⟨0, _⟩ => ⟨S136, .i32⟩
  | .local _ .smem, ⟨1, _⟩ => ⟨S136, .i32⟩
  | .local _ .smem, ⟨2, _⟩ => ⟨S136, .i32⟩
  | .local _ .smem, ⟨3, _⟩ => ⟨S136, .i32⟩
  | .local _ .smem, ⟨4, _⟩ => ⟨S136, .i32⟩
  | .local _ .smem, ⟨5, _⟩ => ⟨S136, .i32⟩
  | _, _ => ⟨S72, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg7 : Ref sig .tc := ⟨.hbm, 1, rfl⟩
abbrev main_arg8 : Ref sig .tc := ⟨.hbm, 2, rfl⟩
abbrev main_arg9 : Ref sig .tc := ⟨.hbm, 3, rfl⟩
abbrev main_arg10 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev main_arg5 : Ref sig .tc := ⟨.smem, 4, rfl⟩
abbrev main_arg6 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨6, ![main_arg1.idx, main_arg2.idx, main_arg3.idx, main_arg4.idx, main_arg5.idx, main_arg6.idx], fun | 0 => main_arg1.names | 1 => main_arg2.names | 2 => main_arg3.names | 3 => main_arg4.names | 4 => main_arg5.names | 5 => main_arg6.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v23 : Index := Scalar.indexCast arg0
  ![v23.toNat]
def k0_mult1 (v24 : BitVec 32) : BitVec 32 :=
  let c128_i32 : BitVec 32 := 128#32
  let v25 : BitVec 32 := Scalar.muli v24 c128_i32
  v25
def k0_cond1 (v1 : BitVec 32) : BitVec 1 :=
  let c0_i32 : BitVec 32 := 0#32
  let v4 : BitVec 1 := Scalar.cmpi .eq v1 c0_i32
  let v5 : BitVec 32 := Scalar.extui v4
  let c0_i32_0 : BitVec 32 := 0#32
  let v6 : BitVec 1 := Scalar.cmpi .ne v5 c0_i32_0
  v6

def k0_off3 (v3 : BitVec 32) : Fin 3 → Nat :=
  let c0_i32_10 : BitVec 32 := 0#32
  let c0_i32_11 : BitVec 32 := 0#32
  ![v3.toNat, 0, 0]

def k0_off4 (v24 : BitVec 32) : Fin 2 → Nat :=
  let c128_i32 : BitVec 32 := 128#32
  let v25 : BitVec 32 := Scalar.muli v24 c128_i32
  let v26 : BitVec 32 := v25
  let v32 : Index := Scalar.indexCast v26
  let c0_12 : Index := 0#32
  ![v32.toNat, 0]
def k0_off5 (v3 : BitVec 32) (v24 : BitVec 32) : Fin 3 → Nat :=
  let c128_i32 : BitVec 32 := 128#32
  let v25 : BitVec 32 := Scalar.muli v24 c128_i32
  let v26 : BitVec 32 := v25
  let v32 : Index := Scalar.indexCast v26
  let c0_i32_11 : BitVec 32 := 0#32
  ![v3.toNat, v32.toNat, 0]
def k0_mult2 (v24 : BitVec 32) : BitVec 32 :=
  let c128_i32_13 : BitVec 32 := 128#32
  let v36 : BitVec 32 := Scalar.muli v24 c128_i32_13
  v36
def k0_mult3 (v24 : BitVec 32) : BitVec 32 :=
  let c352_i32 : BitVec 32 := 352#32
  let v47 : BitVec 32 := Scalar.muli v24 c352_i32
  v47
def k0_off6 (v3 : BitVec 32) : Fin 3 → Nat :=
  let c0_i32_23 : BitVec 32 := 0#32
  let c0_i32_24 : BitVec 32 := 0#32
  ![v3.toNat, 0, 0]
def k0_off7 (v24 : BitVec 32) : Fin 2 → Nat :=
  let c352_i32 : BitVec 32 := 352#32
  let v47 : BitVec 32 := Scalar.muli v24 c352_i32
  let v48 : BitVec 32 := v47
  let v54 : Index := Scalar.indexCast v48
  let c0_25 : Index := 0#32
  ![v54.toNat, 0]
def k0_off8 (v3 : BitVec 32) (v24 : BitVec 32) : Fin 3 → Nat :=
  let c352_i32 : BitVec 32 := 352#32
  let v47 : BitVec 32 := Scalar.muli v24 c352_i32
  let v48 : BitVec 32 := v47
  let v54 : Index := Scalar.indexCast v48
  let c0_i32_24 : BitVec 32 := 0#32
  ![v3.toNat, v54.toNat, 0]

def k0_chk1 (v1 : BitVec 32) (v3 : BitVec 32) (v24 : BitVec 32) : Prop :=
  (∀ (k0_h1 : k0_cond1 v1 = 1#1), 128 ∣ (k0_mult1 v24).toNat) ∧
  (∀ (k0_h1 : k0_cond1 v1 = 1#1), ∀ a, (k0_off4 v24) a + S128x2816.size a ≤ S1024x2816.size a) ∧
  (∀ (k0_h1 : k0_cond1 v1 = 1#1), ∀ a, (k0_off5 v3 v24) a + S1x128x2816.size a ≤ S2x1024x2816.size a) ∧
  (∀ (k0_h1 : k0_cond1 v1 = 1#1), ∀ (hinb : ∀ a, (k0_off5 v3 v24) a + S1x128x2816.size a ≤ S2x1024x2816.size a), (Rect.unit (s := S2x1024x2816) (k0_off5 v3 v24) S1x128x2816.size hinb).PackedRows (EltTy.packing .bf16)) ∧
  (∀ (k0_h1 : k0_cond1 v1 = 1#1), 128 ∣ (k0_mult2 v24).toNat) ∧
  (∀ (k0_h1 : k0_cond1 v1 = 1#1), 352 ∣ (k0_mult3 v24).toNat) ∧
  (∀ (k0_h1 : k0_cond1 v1 = 1#1), ∀ a, (k0_off7 v24) a + S352x1024.size a ≤ S2816x1024.size a) ∧
  (∀ (k0_h1 : k0_cond1 v1 = 1#1), ∀ a, (k0_off8 v3 v24) a + S1x352x1024.size a ≤ S2x2816x1024.size a) ∧
  (∀ (k0_h1 : k0_cond1 v1 = 1#1), ∀ (hinb : ∀ a, (k0_off8 v3 v24) a + S1x352x1024.size a ≤ S2x2816x1024.size a), (Rect.unit (s := S2x2816x1024) (k0_off8 v3 v24) S1x352x1024.size hinb).PackedRows (EltTy.packing .bf16))
theorem k0_mult1_dvd : ∀ (v1 : BitVec 32) (v3 : BitVec 32) (v24 : BitVec 32) (k0_hw1 : k0_chk1 v1 v3 v24), ∀ (k0_h1 : k0_cond1 v1 = 1#1), 128 ∣ (k0_mult1 v24).toNat := fun v1 v3 v24 k0_hw1 k0_h1 => k0_hw1.1 k0_h1
theorem k0_off4_inb : ∀ (v1 : BitVec 32) (v3 : BitVec 32) (v24 : BitVec 32) (k0_hw1 : k0_chk1 v1 v3 v24), ∀ (k0_h1 : k0_cond1 v1 = 1#1), ∀ a, (k0_off4 v24) a + S128x2816.size a ≤ S1024x2816.size a := fun v1 v3 v24 k0_hw1 k0_h1 => k0_hw1.2.1 k0_h1
theorem k0_off5_inb : ∀ (v1 : BitVec 32) (v3 : BitVec 32) (v24 : BitVec 32) (k0_hw1 : k0_chk1 v1 v3 v24), ∀ (k0_h1 : k0_cond1 v1 = 1#1), ∀ a, (k0_off5 v3 v24) a + S1x128x2816.size a ≤ S2x1024x2816.size a := fun v1 v3 v24 k0_hw1 k0_h1 => k0_hw1.2.2.1 k0_h1
theorem k0_off5_packedbf16 : ∀ (v1 : BitVec 32) (v3 : BitVec 32) (v24 : BitVec 32) (k0_hw1 : k0_chk1 v1 v3 v24), ∀ (k0_h1 : k0_cond1 v1 = 1#1), (Rect.unit (s := S2x1024x2816) (k0_off5 v3 v24) S1x128x2816.size (k0_off5_inb v1 v3 v24 k0_hw1 k0_h1)).PackedRows (EltTy.packing .bf16) := fun v1 v3 v24 k0_hw1 k0_h1 => k0_hw1.2.2.2.1 k0_h1 (k0_off5_inb v1 v3 v24 k0_hw1 k0_h1)
theorem k0_mult2_dvd : ∀ (v1 : BitVec 32) (v3 : BitVec 32) (v24 : BitVec 32) (k0_hw1 : k0_chk1 v1 v3 v24), ∀ (k0_h1 : k0_cond1 v1 = 1#1), 128 ∣ (k0_mult2 v24).toNat := fun v1 v3 v24 k0_hw1 k0_h1 => k0_hw1.2.2.2.2.1 k0_h1
theorem k0_mult3_dvd : ∀ (v1 : BitVec 32) (v3 : BitVec 32) (v24 : BitVec 32) (k0_hw1 : k0_chk1 v1 v3 v24), ∀ (k0_h1 : k0_cond1 v1 = 1#1), 352 ∣ (k0_mult3 v24).toNat := fun v1 v3 v24 k0_hw1 k0_h1 => k0_hw1.2.2.2.2.2.1 k0_h1
theorem k0_off7_inb : ∀ (v1 : BitVec 32) (v3 : BitVec 32) (v24 : BitVec 32) (k0_hw1 : k0_chk1 v1 v3 v24), ∀ (k0_h1 : k0_cond1 v1 = 1#1), ∀ a, (k0_off7 v24) a + S352x1024.size a ≤ S2816x1024.size a := fun v1 v3 v24 k0_hw1 k0_h1 => k0_hw1.2.2.2.2.2.2.1 k0_h1
theorem k0_off8_inb : ∀ (v1 : BitVec 32) (v3 : BitVec 32) (v24 : BitVec 32) (k0_hw1 : k0_chk1 v1 v3 v24), ∀ (k0_h1 : k0_cond1 v1 = 1#1), ∀ a, (k0_off8 v3 v24) a + S1x352x1024.size a ≤ S2x2816x1024.size a := fun v1 v3 v24 k0_hw1 k0_h1 => k0_hw1.2.2.2.2.2.2.2.1 k0_h1
theorem k0_off8_packedbf16 : ∀ (v1 : BitVec 32) (v3 : BitVec 32) (v24 : BitVec 32) (k0_hw1 : k0_chk1 v1 v3 v24), ∀ (k0_h1 : k0_cond1 v1 = 1#1), (Rect.unit (s := S2x2816x1024) (k0_off8 v3 v24) S1x352x1024.size (k0_off8_inb v1 v3 v24 k0_hw1 k0_h1)).PackedRows (EltTy.packing .bf16) := fun v1 v3 v24 k0_hw1 k0_h1 => k0_hw1.2.2.2.2.2.2.2.2 k0_h1 (k0_off8_inb v1 v3 v24 k0_hw1 k0_h1)

def k0_off9 (v3 : BitVec 32) : Fin 3 → Nat :=
  let c0_i32_9 : BitVec 32 := 0#32
  let c0_i32_10 : BitVec 32 := 0#32
  ![v3.toNat, 0, 0]
def k0_cond2 (v1 : BitVec 32) : BitVec 1 :=
  let c1_i32 : BitVec 32 := 1#32
  let v7 : BitVec 1 := Scalar.cmpi .eq v1 c1_i32
  let v8 : BitVec 32 := Scalar.extui v7
  let c0_i32_1 : BitVec 32 := 0#32
  let v9 : BitVec 1 := Scalar.cmpi .ne v8 c0_i32_1
  v9

def k0_off10 (v3 : BitVec 32) : Fin 3 → Nat :=
  let c0_i32_18 : BitVec 32 := 0#32
  let c0_i32_19 : BitVec 32 := 0#32
  ![v3.toNat, 0, 0]

def k0_chk2 (v1 : BitVec 32) (v3 : BitVec 32) : Prop :=
  (∀ (k0_h1 : k0_cond1 v1 = 1#1), ∀ a, (k0_off3 v3) a + S1x1024x2816.size a ≤ S2x1024x2816.size a) ∧
  (∀ (k0_h1 : k0_cond1 v1 = 1#1), ∀ a, (k0_off6 v3) a + S1x2816x1024.size a ≤ S2x2816x1024.size a) ∧
  (∀ (k0_h2 : k0_cond2 v1 = 1#1), ∀ a, (k0_off9 v3) a + S1x1024x2816.size a ≤ S2x1024x2816.size a) ∧
  (∀ (k0_h2 : k0_cond2 v1 = 1#1), ∀ a, (k0_off10 v3) a + S1x2816x1024.size a ≤ S2x2816x1024.size a)
theorem k0_off3_inb : ∀ (v1 : BitVec 32) (v3 : BitVec 32) (k0_hw2 : k0_chk2 v1 v3), ∀ (k0_h1 : k0_cond1 v1 = 1#1), ∀ a, (k0_off3 v3) a + S1x1024x2816.size a ≤ S2x1024x2816.size a := fun v1 v3 k0_hw2 k0_h1 => k0_hw2.1 k0_h1
theorem k0_off6_inb : ∀ (v1 : BitVec 32) (v3 : BitVec 32) (k0_hw2 : k0_chk2 v1 v3), ∀ (k0_h1 : k0_cond1 v1 = 1#1), ∀ a, (k0_off6 v3) a + S1x2816x1024.size a ≤ S2x2816x1024.size a := fun v1 v3 k0_hw2 k0_h1 => k0_hw2.2.1 k0_h1
theorem k0_off9_inb : ∀ (v1 : BitVec 32) (v3 : BitVec 32) (k0_hw2 : k0_chk2 v1 v3), ∀ (k0_h2 : k0_cond2 v1 = 1#1), ∀ a, (k0_off9 v3) a + S1x1024x2816.size a ≤ S2x1024x2816.size a := fun v1 v3 k0_hw2 k0_h2 => k0_hw2.2.2.1 k0_h2
theorem k0_off10_inb : ∀ (v1 : BitVec 32) (v3 : BitVec 32) (k0_hw2 : k0_chk2 v1 v3), ∀ (k0_h2 : k0_cond2 v1 = 1#1), ∀ a, (k0_off10 v3) a + S1x2816x1024.size a ≤ S2x2816x1024.size a := fun v1 v3 k0_hw2 k0_h2 => k0_hw2.2.2.2 k0_h2

def k0_off11 (i : grid0.Coords) : Fin 1 → Nat :=
  let arg0 : BitVec 32 := BitVec.ofNat 32 (i 0).val
  let v23 : Index := Scalar.indexCast arg0
  ![v23.toNat]
def k0_mult4 (v24 : BitVec 32) : BitVec 32 :=
  let c128_i32 : BitVec 32 := 128#32
  let v25 : BitVec 32 := Scalar.muli v24 c128_i32
  v25
def k0_cond3 (v1 : BitVec 32) (v3 : BitVec 32) : BitVec 1 :=
  let c2_i32 : BitVec 32 := 2#32
  let v10 : BitVec 1 := Scalar.cmpi .eq v1 c2_i32
  let c0_i32_2 : BitVec 32 := 0#32
  let v11 : BitVec 1 := Scalar.cmpi .eq v3 c0_i32_2
  let v12 : BitVec 1 := Scalar.andi v10 v11
  let v13 : BitVec 32 := Scalar.extui v12
  let c0_i32_3 : BitVec 32 := 0#32
  let v14 : BitVec 1 := Scalar.cmpi .ne v13 c0_i32_3
  v14

def k0_off12 (v24 : BitVec 32) : Fin 2 → Nat :=
  let c128_i32 : BitVec 32 := 128#32
  let v25 : BitVec 32 := Scalar.muli v24 c128_i32
  let v26 : BitVec 32 := v25
  let v32 : Index := Scalar.indexCast v26
  let c0_13 : Index := 0#32
  ![v32.toNat, 0]
def k0_off13 (v24 : BitVec 32) : Fin 3 → Nat :=
  let c1_i32_10 : BitVec 32 := 1#32
  let c128_i32 : BitVec 32 := 128#32
  let v25 : BitVec 32 := Scalar.muli v24 c128_i32
  let v26 : BitVec 32 := v25
  let v32 : Index := Scalar.indexCast v26
  let c0_i32_12 : BitVec 32 := 0#32
  ![1, v32.toNat, 0]
def k0_mult5 (v24 : BitVec 32) : BitVec 32 :=
  let c128_i32_14 : BitVec 32 := 128#32
  let v36 : BitVec 32 := Scalar.muli v24 c128_i32_14
  v36
def k0_mult6 (v24 : BitVec 32) : BitVec 32 :=
  let c352_i32 : BitVec 32 := 352#32
  let v47 : BitVec 32 := Scalar.muli v24 c352_i32
  v47
def k0_off14 (v24 : BitVec 32) : Fin 2 → Nat :=
  let c352_i32 : BitVec 32 := 352#32
  let v47 : BitVec 32 := Scalar.muli v24 c352_i32
  let v48 : BitVec 32 := v47
  let v54 : Index := Scalar.indexCast v48
  let c0_28 : Index := 0#32
  ![v54.toNat, 0]
def k0_off15 (v24 : BitVec 32) : Fin 3 → Nat :=
  let c1_i32_25 : BitVec 32 := 1#32
  let c352_i32 : BitVec 32 := 352#32
  let v47 : BitVec 32 := Scalar.muli v24 c352_i32
  let v48 : BitVec 32 := v47
  let v54 : Index := Scalar.indexCast v48
  let c0_i32_27 : BitVec 32 := 0#32
  ![1, v54.toNat, 0]

def k0_chk3 (v1 : BitVec 32) (v3 : BitVec 32) (v24 : BitVec 32) : Prop :=
  (∀ (k0_h3 : k0_cond3 v1 v3 = 1#1), 128 ∣ (k0_mult4 v24).toNat) ∧
  (∀ (k0_h3 : k0_cond3 v1 v3 = 1#1), ∀ a, (k0_off12 v24) a + S128x2816.size a ≤ S1024x2816.size a) ∧
  (∀ (k0_h3 : k0_cond3 v1 v3 = 1#1), ∀ a, (k0_off13 v24) a + S1x128x2816.size a ≤ S2x1024x2816.size a) ∧
  (∀ (k0_h3 : k0_cond3 v1 v3 = 1#1), ∀ (hinb : ∀ a, (k0_off13 v24) a + S1x128x2816.size a ≤ S2x1024x2816.size a), (Rect.unit (s := S2x1024x2816) (k0_off13 v24) S1x128x2816.size hinb).PackedRows (EltTy.packing .bf16)) ∧
  (∀ (k0_h3 : k0_cond3 v1 v3 = 1#1), 128 ∣ (k0_mult5 v24).toNat) ∧
  (∀ (k0_h3 : k0_cond3 v1 v3 = 1#1), 352 ∣ (k0_mult6 v24).toNat) ∧
  (∀ (k0_h3 : k0_cond3 v1 v3 = 1#1), ∀ a, (k0_off14 v24) a + S352x1024.size a ≤ S2816x1024.size a) ∧
  (∀ (k0_h3 : k0_cond3 v1 v3 = 1#1), ∀ a, (k0_off15 v24) a + S1x352x1024.size a ≤ S2x2816x1024.size a) ∧
  (∀ (k0_h3 : k0_cond3 v1 v3 = 1#1), ∀ (hinb : ∀ a, (k0_off15 v24) a + S1x352x1024.size a ≤ S2x2816x1024.size a), (Rect.unit (s := S2x2816x1024) (k0_off15 v24) S1x352x1024.size hinb).PackedRows (EltTy.packing .bf16))
theorem k0_mult4_dvd : ∀ (v1 : BitVec 32) (v3 : BitVec 32) (v24 : BitVec 32) (k0_hw3 : k0_chk3 v1 v3 v24), ∀ (k0_h3 : k0_cond3 v1 v3 = 1#1), 128 ∣ (k0_mult4 v24).toNat := fun v1 v3 v24 k0_hw3 k0_h3 => k0_hw3.1 k0_h3
theorem k0_off12_inb : ∀ (v1 : BitVec 32) (v3 : BitVec 32) (v24 : BitVec 32) (k0_hw3 : k0_chk3 v1 v3 v24), ∀ (k0_h3 : k0_cond3 v1 v3 = 1#1), ∀ a, (k0_off12 v24) a + S128x2816.size a ≤ S1024x2816.size a := fun v1 v3 v24 k0_hw3 k0_h3 => k0_hw3.2.1 k0_h3
theorem k0_off13_inb : ∀ (v1 : BitVec 32) (v3 : BitVec 32) (v24 : BitVec 32) (k0_hw3 : k0_chk3 v1 v3 v24), ∀ (k0_h3 : k0_cond3 v1 v3 = 1#1), ∀ a, (k0_off13 v24) a + S1x128x2816.size a ≤ S2x1024x2816.size a := fun v1 v3 v24 k0_hw3 k0_h3 => k0_hw3.2.2.1 k0_h3
theorem k0_off13_packedbf16 : ∀ (v1 : BitVec 32) (v3 : BitVec 32) (v24 : BitVec 32) (k0_hw3 : k0_chk3 v1 v3 v24), ∀ (k0_h3 : k0_cond3 v1 v3 = 1#1), (Rect.unit (s := S2x1024x2816) (k0_off13 v24) S1x128x2816.size (k0_off13_inb v1 v3 v24 k0_hw3 k0_h3)).PackedRows (EltTy.packing .bf16) := fun v1 v3 v24 k0_hw3 k0_h3 => k0_hw3.2.2.2.1 k0_h3 (k0_off13_inb v1 v3 v24 k0_hw3 k0_h3)
theorem k0_mult5_dvd : ∀ (v1 : BitVec 32) (v3 : BitVec 32) (v24 : BitVec 32) (k0_hw3 : k0_chk3 v1 v3 v24), ∀ (k0_h3 : k0_cond3 v1 v3 = 1#1), 128 ∣ (k0_mult5 v24).toNat := fun v1 v3 v24 k0_hw3 k0_h3 => k0_hw3.2.2.2.2.1 k0_h3
theorem k0_mult6_dvd : ∀ (v1 : BitVec 32) (v3 : BitVec 32) (v24 : BitVec 32) (k0_hw3 : k0_chk3 v1 v3 v24), ∀ (k0_h3 : k0_cond3 v1 v3 = 1#1), 352 ∣ (k0_mult6 v24).toNat := fun v1 v3 v24 k0_hw3 k0_h3 => k0_hw3.2.2.2.2.2.1 k0_h3
theorem k0_off14_inb : ∀ (v1 : BitVec 32) (v3 : BitVec 32) (v24 : BitVec 32) (k0_hw3 : k0_chk3 v1 v3 v24), ∀ (k0_h3 : k0_cond3 v1 v3 = 1#1), ∀ a, (k0_off14 v24) a + S352x1024.size a ≤ S2816x1024.size a := fun v1 v3 v24 k0_hw3 k0_h3 => k0_hw3.2.2.2.2.2.2.1 k0_h3
theorem k0_off15_inb : ∀ (v1 : BitVec 32) (v3 : BitVec 32) (v24 : BitVec 32) (k0_hw3 : k0_chk3 v1 v3 v24), ∀ (k0_h3 : k0_cond3 v1 v3 = 1#1), ∀ a, (k0_off15 v24) a + S1x352x1024.size a ≤ S2x2816x1024.size a := fun v1 v3 v24 k0_hw3 k0_h3 => k0_hw3.2.2.2.2.2.2.2.1 k0_h3
theorem k0_off15_packedbf16 : ∀ (v1 : BitVec 32) (v3 : BitVec 32) (v24 : BitVec 32) (k0_hw3 : k0_chk3 v1 v3 v24), ∀ (k0_h3 : k0_cond3 v1 v3 = 1#1), (Rect.unit (s := S2x2816x1024) (k0_off15 v24) S1x352x1024.size (k0_off15_inb v1 v3 v24 k0_hw3 k0_h3)).PackedRows (EltTy.packing .bf16) := fun v1 v3 v24 k0_hw3 k0_h3 => k0_hw3.2.2.2.2.2.2.2.2 k0_h3 (k0_off15_inb v1 v3 v24 k0_hw3 k0_h3)

def k0_off16 (i : grid0.Coords) : Fin 1 → Nat :=
  let arg0 : BitVec 32 := BitVec.ofNat 32 (i 0).val
  let v23 : Index := Scalar.indexCast arg0
  ![v23.toNat]
def k0_mult7 (v24 : BitVec 32) : BitVec 32 :=
  let c128_i32 : BitVec 32 := 128#32
  let v25 : BitVec 32 := Scalar.muli v24 c128_i32
  v25
def k0_cond4 (v1 : BitVec 32) (v3 : BitVec 32) : BitVec 1 :=
  let c2_i32_4 : BitVec 32 := 2#32
  let v15 : BitVec 1 := Scalar.cmpi .eq v1 c2_i32_4
  let c1_i32_5 : BitVec 32 := 1#32
  let v16 : BitVec 1 := Scalar.cmpi .eq v3 c1_i32_5
  let v17 : BitVec 1 := Scalar.andi v15 v16
  let v18 : BitVec 32 := Scalar.extui v17
  let c0_i32_6 : BitVec 32 := 0#32
  let v19 : BitVec 1 := Scalar.cmpi .ne v18 c0_i32_6
  v19

def k0_off17 (v24 : BitVec 32) : Fin 2 → Nat :=
  let c128_i32 : BitVec 32 := 128#32
  let v25 : BitVec 32 := Scalar.muli v24 c128_i32
  let v26 : BitVec 32 := v25
  let v32 : Index := Scalar.indexCast v26
  let c0_13 : Index := 0#32
  ![v32.toNat, 0]
def k0_off18 (v24 : BitVec 32) : Fin 3 → Nat :=
  let c0_i32_10 : BitVec 32 := 0#32
  let c128_i32 : BitVec 32 := 128#32
  let v25 : BitVec 32 := Scalar.muli v24 c128_i32
  let v26 : BitVec 32 := v25
  let v32 : Index := Scalar.indexCast v26
  let c0_i32_12 : BitVec 32 := 0#32
  ![0, v32.toNat, 0]
def k0_mult8 (v24 : BitVec 32) : BitVec 32 :=
  let c128_i32_14 : BitVec 32 := 128#32
  let v36 : BitVec 32 := Scalar.muli v24 c128_i32_14
  v36
def k0_mult9 (v24 : BitVec 32) : BitVec 32 :=
  let c352_i32 : BitVec 32 := 352#32
  let v47 : BitVec 32 := Scalar.muli v24 c352_i32
  v47
def k0_off19 (v24 : BitVec 32) : Fin 2 → Nat :=
  let c352_i32 : BitVec 32 := 352#32
  let v47 : BitVec 32 := Scalar.muli v24 c352_i32
  let v48 : BitVec 32 := v47
  let v54 : Index := Scalar.indexCast v48
  let c0_28 : Index := 0#32
  ![v54.toNat, 0]
def k0_off20 (v24 : BitVec 32) : Fin 3 → Nat :=
  let c0_i32_25 : BitVec 32 := 0#32
  let c352_i32 : BitVec 32 := 352#32
  let v47 : BitVec 32 := Scalar.muli v24 c352_i32
  let v48 : BitVec 32 := v47
  let v54 : Index := Scalar.indexCast v48
  let c0_i32_27 : BitVec 32 := 0#32
  ![0, v54.toNat, 0]

def k0_chk4 (v1 : BitVec 32) (v3 : BitVec 32) (v24 : BitVec 32) : Prop :=
  (∀ (k0_h4 : k0_cond4 v1 v3 = 1#1), 128 ∣ (k0_mult7 v24).toNat) ∧
  (∀ (k0_h4 : k0_cond4 v1 v3 = 1#1), ∀ a, (k0_off17 v24) a + S128x2816.size a ≤ S1024x2816.size a) ∧
  (∀ (k0_h4 : k0_cond4 v1 v3 = 1#1), ∀ a, (k0_off18 v24) a + S1x128x2816.size a ≤ S2x1024x2816.size a) ∧
  (∀ (k0_h4 : k0_cond4 v1 v3 = 1#1), ∀ (hinb : ∀ a, (k0_off18 v24) a + S1x128x2816.size a ≤ S2x1024x2816.size a), (Rect.unit (s := S2x1024x2816) (k0_off18 v24) S1x128x2816.size hinb).PackedRows (EltTy.packing .bf16)) ∧
  (∀ (k0_h4 : k0_cond4 v1 v3 = 1#1), 128 ∣ (k0_mult8 v24).toNat) ∧
  (∀ (k0_h4 : k0_cond4 v1 v3 = 1#1), 352 ∣ (k0_mult9 v24).toNat) ∧
  (∀ (k0_h4 : k0_cond4 v1 v3 = 1#1), ∀ a, (k0_off19 v24) a + S352x1024.size a ≤ S2816x1024.size a) ∧
  (∀ (k0_h4 : k0_cond4 v1 v3 = 1#1), ∀ a, (k0_off20 v24) a + S1x352x1024.size a ≤ S2x2816x1024.size a) ∧
  (∀ (k0_h4 : k0_cond4 v1 v3 = 1#1), ∀ (hinb : ∀ a, (k0_off20 v24) a + S1x352x1024.size a ≤ S2x2816x1024.size a), (Rect.unit (s := S2x2816x1024) (k0_off20 v24) S1x352x1024.size hinb).PackedRows (EltTy.packing .bf16))
theorem k0_mult7_dvd : ∀ (v1 : BitVec 32) (v3 : BitVec 32) (v24 : BitVec 32) (k0_hw4 : k0_chk4 v1 v3 v24), ∀ (k0_h4 : k0_cond4 v1 v3 = 1#1), 128 ∣ (k0_mult7 v24).toNat := fun v1 v3 v24 k0_hw4 k0_h4 => k0_hw4.1 k0_h4
theorem k0_off17_inb : ∀ (v1 : BitVec 32) (v3 : BitVec 32) (v24 : BitVec 32) (k0_hw4 : k0_chk4 v1 v3 v24), ∀ (k0_h4 : k0_cond4 v1 v3 = 1#1), ∀ a, (k0_off17 v24) a + S128x2816.size a ≤ S1024x2816.size a := fun v1 v3 v24 k0_hw4 k0_h4 => k0_hw4.2.1 k0_h4
theorem k0_off18_inb : ∀ (v1 : BitVec 32) (v3 : BitVec 32) (v24 : BitVec 32) (k0_hw4 : k0_chk4 v1 v3 v24), ∀ (k0_h4 : k0_cond4 v1 v3 = 1#1), ∀ a, (k0_off18 v24) a + S1x128x2816.size a ≤ S2x1024x2816.size a := fun v1 v3 v24 k0_hw4 k0_h4 => k0_hw4.2.2.1 k0_h4
theorem k0_off18_packedbf16 : ∀ (v1 : BitVec 32) (v3 : BitVec 32) (v24 : BitVec 32) (k0_hw4 : k0_chk4 v1 v3 v24), ∀ (k0_h4 : k0_cond4 v1 v3 = 1#1), (Rect.unit (s := S2x1024x2816) (k0_off18 v24) S1x128x2816.size (k0_off18_inb v1 v3 v24 k0_hw4 k0_h4)).PackedRows (EltTy.packing .bf16) := fun v1 v3 v24 k0_hw4 k0_h4 => k0_hw4.2.2.2.1 k0_h4 (k0_off18_inb v1 v3 v24 k0_hw4 k0_h4)
theorem k0_mult8_dvd : ∀ (v1 : BitVec 32) (v3 : BitVec 32) (v24 : BitVec 32) (k0_hw4 : k0_chk4 v1 v3 v24), ∀ (k0_h4 : k0_cond4 v1 v3 = 1#1), 128 ∣ (k0_mult8 v24).toNat := fun v1 v3 v24 k0_hw4 k0_h4 => k0_hw4.2.2.2.2.1 k0_h4
theorem k0_mult9_dvd : ∀ (v1 : BitVec 32) (v3 : BitVec 32) (v24 : BitVec 32) (k0_hw4 : k0_chk4 v1 v3 v24), ∀ (k0_h4 : k0_cond4 v1 v3 = 1#1), 352 ∣ (k0_mult9 v24).toNat := fun v1 v3 v24 k0_hw4 k0_h4 => k0_hw4.2.2.2.2.2.1 k0_h4
theorem k0_off19_inb : ∀ (v1 : BitVec 32) (v3 : BitVec 32) (v24 : BitVec 32) (k0_hw4 : k0_chk4 v1 v3 v24), ∀ (k0_h4 : k0_cond4 v1 v3 = 1#1), ∀ a, (k0_off19 v24) a + S352x1024.size a ≤ S2816x1024.size a := fun v1 v3 v24 k0_hw4 k0_h4 => k0_hw4.2.2.2.2.2.2.1 k0_h4
theorem k0_off20_inb : ∀ (v1 : BitVec 32) (v3 : BitVec 32) (v24 : BitVec 32) (k0_hw4 : k0_chk4 v1 v3 v24), ∀ (k0_h4 : k0_cond4 v1 v3 = 1#1), ∀ a, (k0_off20 v24) a + S1x352x1024.size a ≤ S2x2816x1024.size a := fun v1 v3 v24 k0_hw4 k0_h4 => k0_hw4.2.2.2.2.2.2.2.1 k0_h4
theorem k0_off20_packedbf16 : ∀ (v1 : BitVec 32) (v3 : BitVec 32) (v24 : BitVec 32) (k0_hw4 : k0_chk4 v1 v3 v24), ∀ (k0_h4 : k0_cond4 v1 v3 = 1#1), (Rect.unit (s := S2x2816x1024) (k0_off20 v24) S1x352x1024.size (k0_off20_inb v1 v3 v24 k0_hw4 k0_h4)).PackedRows (EltTy.packing .bf16) := fun v1 v3 v24 k0_hw4 k0_h4 => k0_hw4.2.2.2.2.2.2.2.2 k0_h4 (k0_off20_inb v1 v3 v24 k0_hw4 k0_h4)

def k0_cond5 (v1 : BitVec 32) : BitVec 1 :=
  let c3_i32 : BitVec 32 := 3#32
  let v20 : BitVec 1 := Scalar.cmpi .eq v1 c3_i32
  let v21 : BitVec 32 := Scalar.extui v20
  let c0_i32_7 : BitVec 32 := 0#32
  let v22 : BitVec 1 := Scalar.cmpi .ne v21 c0_i32_7
  v22

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 5 (Rect.unit (s := S136) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S136) ![v0.toNat] S1.size (k0_off1_inb i)) numel1_S1
  let v2 : Index := Scalar.indexCast arg0
  let v3 : BitVec 32 := pf.at 4 (Rect.unit (s := S136) ![v2.toNat] S1.size (k0_off1_inb i)) numel1_S1
  let c0_i32 : BitVec 32 := 0#32
  let c0_i32_0 : BitVec 32 := 0#32
  ![v1.toNat, v3.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S136) ![v0.toNat] S1.size (k0_off1_inb i)) numel1_S1
  let v2 : Index := Scalar.indexCast arg0
  let v3 : BitVec 32 := pf.at 4 (Rect.unit (s := S136) ![v2.toNat] S1.size (k0_off1_inb i)) numel1_S1
  let c0_i32 : BitVec 32 := 0#32
  let c0_i32_0 : BitVec 32 := 0#32
  ![v1.toNat, v3.toNat, c0_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S136) ![v0.toNat] S1.size (k0_off1_inb i)) numel1_S1
  let v2 : Index := Scalar.indexCast arg0
  let v3 : BitVec 32 := pf.at 4 (Rect.unit (s := S136) ![v2.toNat] S1.size (k0_off1_inb i)) numel1_S1
  let c0_i32 : BitVec 32 := 0#32
  let c0_i32_0 : BitVec 32 := 0#32
  ![v1.toNat, v3.toNat, c0_i32.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 5 (Rect.unit (s := S136) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S72 : Shape := ⟨1, ![72]⟩
abbrev S136 : Shape := ⟨1, ![136]⟩
abbrev S36864x1024 : Shape := ⟨2, ![36864, 1024]⟩
abbrev S8x1024x2816 : Shape := ⟨3, ![8, 1024, 2816]⟩
abbrev S8x2816x1024 : Shape := ⟨3, ![8, 2816, 1024]⟩
abbrev S72x512x1024 : Shape := ⟨3, ![72, 512, 1024]⟩
abbrev S_ : Shape := ⟨0, ![]⟩
abbrev S1x1024x2816 : Shape := ⟨3, ![1, 1024, 2816]⟩
abbrev S1024x2816 : Shape := ⟨2, ![1024, 2816]⟩
abbrev S72x512x2816 : Shape := ⟨3, ![72, 512, 2816]⟩
abbrev S72x1x1 : Shape := ⟨3, ![72, 1, 1]⟩
abbrev S1x2816x1024 : Shape := ⟨3, ![1, 2816, 1024]⟩
abbrev S2816x1024 : Shape := ⟨2, ![2816, 1024]⟩

abbrev nBuf : Space → Nat
  | .hbm => 215
  | .vmem => 0
  | .smem => 0
  | _ => 0

abbrev hbmTy0_0 (i : Nat) : BufTy := match i % 128 with
  | 0 => ⟨S72, .i32⟩
  | 1 => ⟨S136, .i32⟩
  | 2 => ⟨S136, .i32⟩
  | 3 => ⟨S136, .i32⟩
  | 4 => ⟨S136, .i32⟩
  | 5 => ⟨S136, .i32⟩
  | 6 => ⟨S136, .i32⟩
  | 7 => ⟨S36864x1024, .f32⟩
  | 8 => ⟨S8x1024x2816, .f32⟩
  | 9 => ⟨S8x1024x2816, .f32⟩
  | 10 => ⟨S8x2816x1024, .f32⟩
  | 11 => ⟨S72x512x1024, .f32⟩
  | 12 => ⟨S_, .f32⟩
  | 13 => ⟨S72x512x1024, .f32⟩
  | 14 => ⟨S1x1024x2816, .f32⟩
  | 15 => ⟨S1024x2816, .f32⟩
  | 16 => ⟨S72x512x2816, .f32⟩
  | 17 => ⟨S_, .i32⟩
  | 18 => ⟨S72, .i32⟩
  | 19 => ⟨S72, .i1⟩
  | 20 => ⟨S72x1x1, .i1⟩
  | 21 => ⟨S72x512x2816, .f32⟩
  | 22 => ⟨S72x512x2816, .f32⟩
  | 23 => ⟨S_, .f32⟩
  | 24 => ⟨S72x512x2816, .f32⟩
  | 25 => ⟨S72x512x2816, .f32⟩
  | 26 => ⟨S_, .f32⟩
  | 27 => ⟨S72x512x2816, .f32⟩
  | 28 => ⟨S72x512x2816, .f32⟩
  | 29 => ⟨S72x512x2816, .f32⟩
  | 30 => ⟨S1x1024x2816, .f32⟩
  | 31 => ⟨S1024x2816, .f32⟩
  | 32 => ⟨S72x512x2816, .f32⟩
  | 33 => ⟨S72x512x2816, .f32⟩
  | 34 => ⟨S1x2816x1024, .f32⟩
  | 35 => ⟨S2816x1024, .f32⟩
  | 36 => ⟨S72x512x1024, .f32⟩
  | 37 => ⟨S72x512x1024, .i1⟩
  | 38 => ⟨S72x512x1024, .f32⟩
  | 39 => ⟨S1x1024x2816, .f32⟩
  | 40 => ⟨S1024x2816, .f32⟩
  | 41 => ⟨S72x512x2816, .f32⟩
  | 42 => ⟨S_, .i32⟩
  | 43 => ⟨S72, .i32⟩
  | 44 => ⟨S72, .i1⟩
  | 45 => ⟨S72x1x1, .i1⟩
  | 46 => ⟨S72x512x2816, .f32⟩
  | 47 => ⟨S72x512x2816, .f32⟩
  | 48 => ⟨S_, .f32⟩
  | 49 => ⟨S72x512x2816, .f32⟩
  | 50 => ⟨S72x512x2816, .f32⟩
  | 51 => ⟨S_, .f32⟩
  | 52 => ⟨S72x512x2816, .f32⟩
  | 53 => ⟨S72x512x2816, .f32⟩
  | 54 => ⟨S72x512x2816, .f32⟩
  | 55 => ⟨S1x1024x2816, .f32⟩
  | 56 => ⟨S1024x2816, .f32⟩
  | 57 => ⟨S72x512x2816, .f32⟩
  | 58 => ⟨S72x512x2816, .f32⟩
  | 59 => ⟨S1x2816x1024, .f32⟩
  | 60 => ⟨S2816x1024, .f32⟩
  | 61 => ⟨S72x512x1024, .f32⟩
  | 62 => ⟨S72x512x1024, .i1⟩
  | 63 => ⟨S72x512x1024, .f32⟩
  | 64 => ⟨S1x1024x2816, .f32⟩
  | 65 => ⟨S1024x2816, .f32⟩
  | 66 => ⟨S72x512x2816, .f32⟩
  | 67 => ⟨S_, .i32⟩
  | 68 => ⟨S72, .i32⟩
  | 69 => ⟨S72, .i1⟩
  | 70 => ⟨S72x1x1, .i1⟩
  | 71 => ⟨S72x512x2816, .f32⟩
  | 72 => ⟨S72x512x2816, .f32⟩
  | 73 => ⟨S_, .f32⟩
  | 74 => ⟨S72x512x2816, .f32⟩
  | 75 => ⟨S72x512x2816, .f32⟩
  | 76 => ⟨S_, .f32⟩
  | 77 => ⟨S72x512x2816, .f32⟩
  | 78 => ⟨S72x512x2816, .f32⟩
  | 79 => ⟨S72x512x2816, .f32⟩
  | 80 => ⟨S1x1024x2816, .f32⟩
  | 81 => ⟨S1024x2816, .f32⟩
  | 82 => ⟨S72x512x2816, .f32⟩
  | 83 => ⟨S72x512x2816, .f32⟩
  | 84 => ⟨S1x2816x1024, .f32⟩
  | 85 => ⟨S2816x1024, .f32⟩
  | 86 => ⟨S72x512x1024, .f32⟩
  | 87 => ⟨S72x512x1024, .i1⟩
  | 88 => ⟨S72x512x1024, .f32⟩
  | 89 => ⟨S1x1024x2816, .f32⟩
  | 90 => ⟨S1024x2816, .f32⟩
  | 91 => ⟨S72x512x2816, .f32⟩
  | 92 => ⟨S_, .i32⟩
  | 93 => ⟨S72, .i32⟩
  | 94 => ⟨S72, .i1⟩
  | 95 => ⟨S72x1x1, .i1⟩
  | 96 => ⟨S72x512x2816, .f32⟩
  | 97 => ⟨S72x512x2816, .f32⟩
  | 98 => ⟨S_, .f32⟩
  | 99 => ⟨S72x512x2816, .f32⟩
  | 100 => ⟨S72x512x2816, .f32⟩
  | 101 => ⟨S_, .f32⟩
  | 102 => ⟨S72x512x2816, .f32⟩
  | 103 => ⟨S72x512x2816, .f32⟩
  | 104 => ⟨S72x512x2816, .f32⟩
  | 105 => ⟨S1x1024x2816, .f32⟩
  | 106 => ⟨S1024x2816, .f32⟩
  | 107 => ⟨S72x512x2816, .f32⟩
  | 108 => ⟨S72x512x2816, .f32⟩
  | 109 => ⟨S1x2816x1024, .f32⟩
  | 110 => ⟨S2816x1024, .f32⟩
  | 111 => ⟨S72x512x1024, .f32⟩
  | 112 => ⟨S72x512x1024, .i1⟩
  | 113 => ⟨S72x512x1024, .f32⟩
  | 114 => ⟨S1x1024x2816, .f32⟩
  | 115 => ⟨S1024x2816, .f32⟩
  | 116 => ⟨S72x512x2816, .f32⟩
  | 117 => ⟨S_, .i32⟩
  | 118 => ⟨S72, .i32⟩
  | 119 => ⟨S72, .i1⟩
  | 120 => ⟨S72x1x1, .i1⟩
  | 121 => ⟨S72x512x2816, .f32⟩
  | 122 => ⟨S72x512x2816, .f32⟩
  | 123 => ⟨S_, .f32⟩
  | 124 => ⟨S72x512x2816, .f32⟩
  | 125 => ⟨S72x512x2816, .f32⟩
  | 126 => ⟨S_, .f32⟩
  | 127 => ⟨S72x512x2816, .f32⟩
  | _ => ⟨S72, .i32⟩

abbrev hbmTy0_1 (i : Nat) : BufTy := match i % 128 with
  | 0 => ⟨S72x512x2816, .f32⟩
  | 1 => ⟨S72x512x2816, .f32⟩
  | 2 => ⟨S1x1024x2816, .f32⟩
  | 3 => ⟨S1024x2816, .f32⟩
  | 4 => ⟨S72x512x2816, .f32⟩
  | 5 => ⟨S72x512x2816, .f32⟩
  | 6 => ⟨S1x2816x1024, .f32⟩
  | 7 => ⟨S2816x1024, .f32⟩
  | 8 => ⟨S72x512x1024, .f32⟩
  | 9 => ⟨S72x512x1024, .i1⟩
  | 10 => ⟨S72x512x1024, .f32⟩
  | 11 => ⟨S1x1024x2816, .f32⟩
  | 12 => ⟨S1024x2816, .f32⟩
  | 13 => ⟨S72x512x2816, .f32⟩
  | 14 => ⟨S_, .i32⟩
  | 15 => ⟨S72, .i32⟩
  | 16 => ⟨S72, .i1⟩
  | 17 => ⟨S72x1x1, .i1⟩
  | 18 => ⟨S72x512x2816, .f32⟩
  | 19 => ⟨S72x512x2816, .f32⟩
  | 20 => ⟨S_, .f32⟩
  | 21 => ⟨S72x512x2816, .f32⟩
  | 22 => ⟨S72x512x2816, .f32⟩
  | 23 => ⟨S_, .f32⟩
  | 24 => ⟨S72x512x2816, .f32⟩
  | 25 => ⟨S72x512x2816, .f32⟩
  | 26 => ⟨S72x512x2816, .f32⟩
  | 27 => ⟨S1x1024x2816, .f32⟩
  | 28 => ⟨S1024x2816, .f32⟩
  | 29 => ⟨S72x512x2816, .f32⟩
  | 30 => ⟨S72x512x2816, .f32⟩
  | 31 => ⟨S1x2816x1024, .f32⟩
  | 32 => ⟨S2816x1024, .f32⟩
  | 33 => ⟨S72x512x1024, .f32⟩
  | 34 => ⟨S72x512x1024, .i1⟩
  | 35 => ⟨S72x512x1024, .f32⟩
  | 36 => ⟨S1x1024x2816, .f32⟩
  | 37 => ⟨S1024x2816, .f32⟩
  | 38 => ⟨S72x512x2816, .f32⟩
  | 39 => ⟨S_, .i32⟩
  | 40 => ⟨S72, .i32⟩
  | 41 => ⟨S72, .i1⟩
  | 42 => ⟨S72x1x1, .i1⟩
  | 43 => ⟨S72x512x2816, .f32⟩
  | 44 => ⟨S72x512x2816, .f32⟩
  | 45 => ⟨S_, .f32⟩
  | 46 => ⟨S72x512x2816, .f32⟩
  | 47 => ⟨S72x512x2816, .f32⟩
  | 48 => ⟨S_, .f32⟩
  | 49 => ⟨S72x512x2816, .f32⟩
  | 50 => ⟨S72x512x2816, .f32⟩
  | 51 => ⟨S72x512x2816, .f32⟩
  | 52 => ⟨S1x1024x2816, .f32⟩
  | 53 => ⟨S1024x2816, .f32⟩
  | 54 => ⟨S72x512x2816, .f32⟩
  | 55 => ⟨S72x512x2816, .f32⟩
  | 56 => ⟨S1x2816x1024, .f32⟩
  | 57 => ⟨S2816x1024, .f32⟩
  | 58 => ⟨S72x512x1024, .f32⟩
  | 59 => ⟨S72x512x1024, .i1⟩
  | 60 => ⟨S72x512x1024, .f32⟩
  | 61 => ⟨S1x1024x2816, .f32⟩
  | 62 => ⟨S1024x2816, .f32⟩
  | 63 => ⟨S72x512x2816, .f32⟩
  | 64 => ⟨S_, .i32⟩
  | 65 => ⟨S72, .i32⟩
  | 66 => ⟨S72, .i1⟩
  | 67 => ⟨S72x1x1, .i1⟩
  | 68 => ⟨S72x512x2816, .f32⟩
  | 69 => ⟨S72x512x2816, .f32⟩
  | 70 => ⟨S_, .f32⟩
  | 71 => ⟨S72x512x2816, .f32⟩
  | 72 => ⟨S72x512x2816, .f32⟩
  | 73 => ⟨S_, .f32⟩
  | 74 => ⟨S72x512x2816, .f32⟩
  | 75 => ⟨S72x512x2816, .f32⟩
  | 76 => ⟨S72x512x2816, .f32⟩
  | 77 => ⟨S1x1024x2816, .f32⟩
  | 78 => ⟨S1024x2816, .f32⟩
  | 79 => ⟨S72x512x2816, .f32⟩
  | 80 => ⟨S72x512x2816, .f32⟩
  | 81 => ⟨S1x2816x1024, .f32⟩
  | 82 => ⟨S2816x1024, .f32⟩
  | 83 => ⟨S72x512x1024, .f32⟩
  | 84 => ⟨S72x512x1024, .i1⟩
  | 85 => ⟨S72x512x1024, .f32⟩
  | 86 => ⟨S36864x1024, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call2_v0 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_8 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_9 : Ref sig .tc := ⟨.hbm, 98, rfl⟩
abbrev main_v73 : Ref sig .tc := ⟨.hbm, 99, rfl⟩
abbrev main_v74 : Ref sig .tc := ⟨.hbm, 100, rfl⟩
abbrev main_cst_10 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call3_v0 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_11 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_12 : Ref sig .tc := ⟨.hbm, 123, rfl⟩
abbrev main_v94 : Ref sig .tc := ⟨.hbm, 124, rfl⟩
abbrev main_v95 : Ref sig .tc := ⟨.hbm, 125, rfl⟩
abbrev main_cst_13 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_call4_v0 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_14 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_15 : Ref sig .tc := ⟨.hbm, 148, rfl⟩
abbrev main_v115 : Ref sig .tc := ⟨.hbm, 149, rfl⟩
abbrev main_v116 : Ref sig .tc := ⟨.hbm, 150, rfl⟩
abbrev main_cst_16 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_call5_v0 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_c_17 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_18 : Ref sig .tc := ⟨.hbm, 173, rfl⟩
abbrev main_v136 : Ref sig .tc := ⟨.hbm, 174, rfl⟩
abbrev main_v137 : Ref sig .tc := ⟨.hbm, 175, rfl⟩
abbrev main_cst_19 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_call6_v0 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_c_20 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_cst_21 : Ref sig .tc := ⟨.hbm, 198, rfl⟩
abbrev main_v157 : Ref sig .tc := ⟨.hbm, 199, rfl⟩
abbrev main_v158 : Ref sig .tc := ⟨.hbm, 200, rfl⟩
abbrev main_cst_22 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_call7_v0 : Ref sig .tc := ⟨.hbm, 212, rfl⟩
abbrev main_v169 : Ref sig .tc := ⟨.hbm, 213, rfl⟩
abbrev main_v170 : Ref sig .tc := ⟨.hbm, 214, rfl⟩

abbrev nD : Nat := 1
abbrev τ : Topo := Topo.v7x

variable {F : FTy → Type} [FloatOps F]
-- ==== Proof.Tiles.lean ====
/-
  The kernel's body as a running softmax over tiles of 256 keys, at a variable number of query rows. `next` is one
  step of it, `norm` what a finished tile of 256 rows goes through, and `Tile` chains them; the tiles that the body
  stores are the chain's, by unfolding (`pieces_eq`).
-/
module

public import proofs.«01_k».proof.Proof.Gen.KernelIdeal.Value
public import Idealize.ShloMosaic.Lib.MatmulPlain

@[expose] public section

set_option maxRecDepth 16384

noncomputable section

namespace Cert.KernelIdeal.RefValue

open Cert.KernelIdeal Cert.KernelIdeal.Gen Idealize.ShloMosaic Idealize.ShloMosaic.TcCoe Idealize.SL.Sem

/-- The shape of `n` rows of `k` lanes. -/
abbrev Sh (n k : ℕ) : Shape := ⟨2, ![n, k]⟩
/-- The shape of a vector of `n`. -/
abbrev Sv (n : ℕ) : Shape := ⟨1, ![n]⟩

/-- What the row-wise operations on `n` rows ask of the shapes. -/
structure RowFacts (n : ℕ) : Prop where
  red : (Sh n 256).Reduces [1] (Sv n)
  col : (Sv n).ShapeCasts (Sh n 1)
  colId : (Sh n 1).ShapeCasts (Sh n 1)
  bc : (Sh n 1).Broadcasts (Sh n 128)
  dup : Shape.Concatenates [Sh n 128, Sh n 128] (Sh n 256) 1
  top : (Sh n 256).Slices ![0, 0] (Sh 256 256)

/-- What cutting `n` rows into the first 256 and the `r` after them asks. -/
structure CutFacts (n r : ℕ) : Prop where
  rest : (Sh n 256).Slices ![256, 0] (Sh r 256)
  restM : (Sh n 128).Slices ![256, 0] (Sh r 128)
  cat : Shape.Concatenates [Sh 256 256, Sh r 256] (Sh n 256) 0

/-- Keys at most as late as the row, in the tile on the diagonal. -/
def causal : IVec (Sh 256 256) 1 := k0_pay5
/-- The value the mask writes. -/
def maskv : Ideal .f32 := Named.named κ "mask" 0xF149F2CA#32

/-- The products of `n` queries with 256 keys. -/
def dots (n : ℕ) (q : FVec Ideal (Sh n 128) .bf16) (k : Vec Ideal (Sh 256 128) .bf16) : FVec Ideal (Sh n 256) .f32 :=
  matmul (φ₂ := .bf16) (DotDims.transposedRhs n 128 256) none q k (constant (Sh n 256) .f32 0x00000000#32)

/-- The tile's scores: the first 256 rows lie on the diagonal and are masked, the `r` after them see every key. -/
def score {n r : ℕ} (hr : RowFacts n) (hc : CutFacts n r) (q : FVec Ideal (Sh n 128) .bf16) (k : Vec Ideal (Sh 256 128) .bf16) :
    FVec Ideal (Sh n 256) .f32 :=
  concatenate (Sh n 256) 0
    [⟨Sh 256 256, select causal (extractStridedSlice (Sh 256 256) ![0, 0] (dots n q k) hr.top) (broadcast (Sh 256 256) maskv)⟩,
     ⟨Sh r 256, extractStridedSlice (Sh r 256) ![256, 0] (dots n q k) hc.rest⟩] hc.cat

/-- The last tile's scores: all its 256 rows are on the diagonal. -/
def scoreLast (q : FVec Ideal (Sh 256 128) .bf16) (k : Vec Ideal (Sh 256 128) .bf16) : FVec Ideal (Sh 256 256) .f32 :=
  select causal (dots 256 q k) (broadcast (Sh 256 256) maskv)

/-- The running softmax's state: each row's reference point, and its weighted sums of values and of ones. -/
structure St (n : ℕ) where
  m : FVec Ideal (Sh n 128) .f32
  a : FVec Ideal (Sh n 256) .f32

/-- Each row's maximum, as a column. -/
def rowMax {n : ℕ} (hr : RowFacts n) (s : FVec Ideal (Sh n 256) .f32) : FVec Ideal (Sh n 1) .f32 :=
  shapeCast (Sh n 1) (multiReduction .maximumf [1] (Sv n) s 0xFF800000#32 hr.red (.inl rfl) rfl) hr.col

/-- A column per row next to itself: 256 lanes. -/
def twice {n : ℕ} (hr : RowFacts n) (x : FVec Ideal (Sh n 128) .f32) : FVec Ideal (Sh n 256) .f32 :=
  concatenate (Sh n 256) 1 [⟨Sh n 128, x⟩, ⟨Sh n 128, x⟩] hr.dup

/-- A tile's weights relative to `m`, applied to its values. -/
def weigh {n : ℕ} (hr : RowFacts n) (s : FVec Ideal (Sh n 256) .f32) (m : FVec Ideal (Sh n 128) .f32)
    (v : FVec Ideal (Sh 256 256) .bf16) : FVec Ideal (Sh n 256) .f32 :=
  matmul (DotDims.plain n 256 256) none (truncf .bf16 (exp2 (subf s (twice hr m))) bitsLt_bf16_f32) v
    (constant (Sh n 256) .f32 0x00000000#32)

/-- The values with as many lanes of ones after them. -/
def ones (v : Vec Ideal (Sh 256 128) .bf16) : FVec Ideal (Sh 256 256) .bf16 := k0_pay7 v

/-- The state after the first tile. -/
def first {n : ℕ} (hr : RowFacts n) (s : FVec Ideal (Sh n 256) .f32) (v : Vec Ideal (Sh 256 128) .bf16) : St n where
  m := broadcastTo (Sh n 128) (shapeCast (Sh n 1) (rowMax hr s) hr.colId) hr.bc
  a := weigh hr s (broadcastTo (Sh n 128) (shapeCast (Sh n 1) (rowMax hr s) hr.colId) hr.bc) (ones v)

/-- The reference point after a further tile. -/
def nextM {n : ℕ} (hr : RowFacts n) (s : FVec Ideal (Sh n 256) .f32) (m : FVec Ideal (Sh n 128) .f32) : FVec Ideal (Sh n 128) .f32 :=
  maximumf m (broadcastTo (Sh n 128) (rowMax hr s) hr.bc)

/-- The state after a further tile. -/
def next {n : ℕ} (hr : RowFacts n) (s : FVec Ideal (Sh n 256) .f32) (st : St n) (v : Vec Ideal (Sh 256 128) .bf16) : St n where
  m := nextM hr s st.m
  a := addf (mulf (twice hr (exp2 (subf st.m (nextM hr s st.m)))) st.a) (weigh hr s (nextM hr s st.m) (ones v))

/-- The rows after the first 256. -/
def St.drop {n r : ℕ} (hc : CutFacts n r) (st : St n) : St r where
  m := extractStridedSlice (Sh r 128) ![256, 0] st.m hc.restM
  a := extractStridedSlice (Sh r 256) ![256, 0] st.a hc.rest

/-- The first 256 rows' weighted sums over their sums of weights. -/
def St.out {n : ℕ} (hr : RowFacts n) (st : St n) : FVec Ideal (Sh 256 128) .f32 :=
  divf (extractStridedSlice (Sh 256 128) ![0, 0] (extractStridedSlice (Sh 256 256) ![0, 0] st.a hr.top) slices_S256x256_o0_0_S256x128)
    (extractStridedSlice (Sh 256 128) ![0, 128] (extractStridedSlice (Sh 256 256) ![0, 0] st.a hr.top) slices_S256x256_o0_128_S256x128)

/-- The two maps' difference, normalised. -/
def norm (o1 o2 : FVec Ideal (Sh 256 128) .f32) (lp : Vec Ideal (Sh 4 64) .f32) (g : Vec Ideal (Sh 1 128) .f32) :
    FVec Ideal (Sh 256 128) .bf16 :=
  let o := subf o1 (mulf (broadcastTo S256x128 (k0_pay6 lp) broadcasts_S1x1_S256x128) o2)
  truncf .bf16 (mulf (mulf (mulf o (broadcastTo S256x128 (rsqrt (addf (divf (shapeCast S256x1
      (multiReduction .add [1] S256 (mulf o o) 0x00000000#32 reduces_S256x128_S256 (.inl rfl) rfl) shapeCasts_S256_S256x1)
        (broadcast S256x1 (Scalar.ofBits .f32 0x43000000#32))) (broadcast S256x1 (Scalar.ofBits .f32 0x358637BD#32))))
      broadcasts_S256x1_S256x128))
    (broadcastTo S256x128 (shapeCast S1x128 g shapeCasts_S1x128_S1x128) broadcasts_S1x128_S256x128))
    (broadcast S256x128 (Scalar.ofBits .f32 0x3F4CCCCD#32))) bitsLt_bf16_f32

theorem rows2048 : RowFacts 2048 := ⟨by decide, by decide, by decide, by decide, by decide, by decide⟩
theorem rows1792 : RowFacts 1792 := ⟨by decide, by decide, by decide, by decide, by decide, by decide⟩
theorem rows1536 : RowFacts 1536 := ⟨by decide, by decide, by decide, by decide, by decide, by decide⟩
theorem rows1280 : RowFacts 1280 := ⟨by decide, by decide, by decide, by decide, by decide, by decide⟩
theorem rows1024 : RowFacts 1024 := ⟨by decide, by decide, by decide, by decide, by decide, by decide⟩
theorem rows768 : RowFacts 768 := ⟨by decide, by decide, by decide, by decide, by decide, by decide⟩
theorem rows512 : RowFacts 512 := ⟨by decide, by decide, by decide, by decide, by decide, by decide⟩
theorem rows256 : RowFacts 256 := ⟨by decide, by decide, by decide, by decide, by decide, by decide⟩
theorem cut2048 : CutFacts 2048 1792 := ⟨by decide, by decide, by decide⟩
theorem cut1792 : CutFacts 1792 1536 := ⟨by decide, by decide, by decide⟩
theorem cut1536 : CutFacts 1536 1280 := ⟨by decide, by decide, by decide⟩
theorem cut1280 : CutFacts 1280 1024 := ⟨by decide, by decide, by decide⟩
theorem cut1024 : CutFacts 1024 768 := ⟨by decide, by decide, by decide⟩
theorem cut768 : CutFacts 768 512 := ⟨by decide, by decide, by decide⟩
theorem cut512 : CutFacts 512 256 := ⟨by decide, by decide, by decide⟩

section Chain
variable (q : Vec Ideal (Sh 2048 128) .bf16) (k v : Fin 8 → Vec Ideal (Sh 256 128) .bf16)

/-- The queries from row `o` on. -/
abbrev from_ (n o : ℕ) (h : (Sh 2048 128).Slices ![o, 0] (Sh n 128)) : FVec Ideal (Sh n 128) .bf16 :=
  extractStridedSlice (Sh n 128) ![o, 0] q h

/-- The state after tile 0 … -/
def st0 : St 2048 := first rows2048 (score rows2048 cut2048 q (k 0)) (v 0)
/-- … tile 1 … -/
def st1 : St 1792 := next rows1792 (score rows1792 cut1792 (from_ q 1792 256 slices_S2048x128_o256_0_S1792x128) (k 1)) ((st0 q k v).drop cut2048) (v 1)
/-- … tile 2 … -/
def st2 : St 1536 := next rows1536 (score rows1536 cut1536 (from_ q 1536 512 slices_S2048x128_o512_0_S1536x128) (k 2)) ((st1 q k v).drop cut1792) (v 2)
/-- … tile 3 … -/
def st3 : St 1280 := next rows1280 (score rows1280 cut1280 (from_ q 1280 768 slices_S2048x128_o768_0_S1280x128) (k 3)) ((st2 q k v).drop cut1536) (v 3)
/-- … tile 4 … -/
def st4 : St 1024 := next rows1024 (score rows1024 cut1024 (from_ q 1024 1024 slices_S2048x128_o1024_0_S1024x128) (k 4)) ((st3 q k v).drop cut1280) (v 4)
/-- … tile 5 … -/
def st5 : St 768 := next rows768 (score rows768 cut768 (from_ q 768 1280 slices_S2048x128_o1280_0_S768x128) (k 5)) ((st4 q k v).drop cut1024) (v 5)
/-- … tile 6 … -/
def st6 : St 512 := next rows512 (score rows512 cut512 (from_ q 512 1536 slices_S2048x128_o1536_0_S512x128) (k 6)) ((st5 q k v).drop cut768) (v 6)
/-- … and tile 7, the last. -/
def st7 : St 256 := next rows256 (scoreLast (from_ q 256 1792 slices_S2048x128_o1792_0_S256x128) (k 7)) ((st6 q k v).drop cut512) (v 7)

/-- The softmax of tile `j`'s 256 rows, applied to the values. -/
def soft (j : Fin 8) : FVec Ideal (Sh 256 128) .f32 :=
  match j with
  | 0 => (st0 q k v).out rows2048
  | 1 => (st1 q k v).out rows1792
  | 2 => (st2 q k v).out rows1536
  | 3 => (st3 q k v).out rows1280
  | 4 => (st4 q k v).out rows1024
  | 5 => (st5 q k v).out rows768
  | 6 => (st6 q k v).out rows512
  | 7 => divf (extractStridedSlice (Sh 256 128) ![0, 0] (st7 q k v).a slices_S256x256_o0_0_S256x128)
    (extractStridedSlice (Sh 256 128) ![0, 128] (st7 q k v).a slices_S256x256_o0_128_S256x128)

/-- The tile of 256 rows that the body stores for one head. -/
def tile (lp : Vec Ideal (Sh 4 64) .f32) (g : Vec Ideal (Sh 1 128) .f32) (j : Fin 8) : FVec Ideal (Sh 256 128) .bf16 :=
  norm (soft (k0_pay3 q) k v j) (soft (k0_pay4 q) k v j) lp g
end Chain

end Cert.KernelIdeal.RefValue

end
-- ==== Proof.Soft.lean ====
/-
  What the running softmax computes, over the reals.
-/
module

public import proofs.«01_k».proof.Proof.Tiles
public import Idealize.ShloMosaic.Lib.Pointwise
public import Mathlib.Analysis.SpecialFunctions.Pow.Real

@[expose] public section

set_option maxRecDepth 16384

noncomputable section

namespace Cert.KernelIdeal.RefValue

open Cert.KernelIdeal Cert.KernelIdeal.Gen Idealize.ShloMosaic Idealize.ShloMosaic.TcCoe Idealize.SL.Sem

/-- An index of two axes is its two coordinates. -/
theorem idx_of {n k : ℕ} (x : (Sh n k).Idx) (i : Fin n) (j : Fin k) (h0 : (x 0).val = i.val) (h1 : (x 1).val = j.val) :
    x = ix2 i j := by
  funext a
  match a with
  | 0 => exact Fin.ext h0
  | 1 => exact Fin.ext h1

/-- The pattern `0xFF800000` is minus infinity. -/
theorem bot_bits : Ideal.ofBits .f32 0xFF800000#32 = ⊥ := by
  simp [Ideal.ofBits, Ideal.ieee]

/-- A real sum, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mask admits the keys at most as late as the row. -/
theorem causal_at (i k : Fin 256) : causal (ix2 i k) = if k.val ≤ i.val then 1#1 else 0#1 := by
  pointwise [causal, k0_pay5]
  rw [WordCmp.cmpi_sle_ofNat (by omega) (by omega)]
  by_cases h : k.val ≤ i.val <;> simp [h]

/-- The value the mask writes is minus infinity. -/
theorem maskv_eq : maskv = ⊥ := rfl

/-- A score is the product of a query and a key. -/
theorem dots_at {n : ℕ} (q : FVec Ideal (Sh n 128) .bf16) (k : Vec Ideal (Sh 256 128) .bf16) (i : Fin n) (j : Fin 256) :
    dots n q k (ix2 i j) = ∑ d : Fin 128, q (ix2 i d) * k (ix2 j d) := by
  pointwise [dots]
  refine Finset.sum_congr rfl fun x _ => congrArg (· * k (ix2 j x)) (congrArg q (idx_of _ _ _ rfl rfl))

/-- A row's maximum. -/
theorem rowMax_at {n : ℕ} (hr : RowFacts n) (s : FVec Ideal (Sh n 256) .f32) (i : Fin n) :
    rowMax hr s (ix2 i 0) = Finset.univ.fold max ⊥ fun k : Fin 256 => s (ix2 i k) := by
  pointwise [rowMax]
  rw [bot_bits]
  have e : (Shape.reshapeEquiv hr.col) (ix2 i 0) = ix1 i :=
    Shape.reshapeEquiv_eq_of_rowMajor _ (by
      rw [Shape.rowMajor_val_two, Shape.rowMajor_val_one]
      show i.val = i.val * 1 + 0
      omega)
  exact congrArg (fun y : (Sv n).Idx => Finset.univ.fold max ⊥ fun k : Fin 256 => s (ix2 (y 0) k)) e

/-- A column spread over the lanes. -/
theorem bc_at {n : ℕ} (hr : RowFacts n) (x : FVec Ideal (Sh n 1) .f32) (i : Fin n) (l : Fin 128) :
    broadcastTo (Sh n 128) x hr.bc (ix2 i l) = x (ix2 i 0) := by
  pointwise
  refine congrArg x (idx_of _ _ _ ?_ rfl)
  by_cases h : n = 1
  · subst h
    have := i.isLt
    show 0 = i.val
    omega
  · exact congrArg Fin.val (dif_neg h)

/-- Every lane of a doubled column holds a lane of the column's row. -/
theorem twice_at {n : ℕ} (hr : RowFacts n) (x : FVec Ideal (Sh n 128) .f32) (i : Fin n) (c : Fin 256) :
    ∃ l, twice hr x (ix2 i c) = x (ix2 i l) := by
  pointwise [twice]
  by_cases h : c.val < 128
  · refine ⟨⟨c.val, h⟩, ?_⟩
    rw [dif_pos h]
    exact congrArg x (idx_of _ _ _ rfl rfl)
  · refine ⟨⟨c.val - 128, by omega⟩, ?_⟩
    rw [dif_neg h]
    exact congrArg x (idx_of _ _ _ rfl rfl)

/-- A tile's weights, applied to its values. -/
theorem weigh_at {n : ℕ} (hr : RowFacts n) (s : FVec Ideal (Sh n 256) .f32) (m : FVec Ideal (Sh n 128) .f32)
    (v : FVec Ideal (Sh 256 256) .bf16) (i : Fin n) (c : Fin 256) :
    weigh hr s m v (ix2 i c) = ∑ k : Fin 256, Ideal.exp2 (s (ix2 i k) - twice hr m (ix2 i k)) * v (ix2 k c) := by
  pointwise [weigh]
  refine Finset.sum_congr rfl fun x _ => congrArg (· * v (ix2 x c)) ?_
  exact congrArg (fun y => Ideal.exp2 (s y - twice hr m y)) (idx_of _ _ _ rfl rfl)

/-- The values, then ones. -/
theorem ones_at (v : Vec Ideal (Sh 256 128) .bf16) (k : Fin 256) (c : Fin 256) :
    ones v (ix2 k c) = if h : c.val < 128 then v (ix2 k ⟨c.val, h⟩) else 1 := by
  pointwise [ones, k0_pay7]

/-- A tile's scores: those of keys later than the row are minus infinity. -/
theorem score_at {n r : ℕ} (hr : RowFacts n) (hc : CutFacts n r) (q : FVec Ideal (Sh n 128) .bf16) (k : Vec Ideal (Sh 256 128) .bf16) (i : Fin n) (j : Fin 256) :
    score hr hc q k (ix2 i j) = if j.val ≤ i.val then dots n q k (ix2 i j) else ⊥ := by
  pointwise [score]
  by_cases h : i.val < 256
  · rw [dif_pos h, causal_at]
    by_cases hj : j.val ≤ i.val
    · rw [if_pos hj, if_pos hj]
      exact congrArg (dots n q k) (idx_of _ i j (by show 0 + i.val = i.val; omega) (by show 0 + j.val = j.val; omega))
    · rw [if_neg hj, if_neg hj]; rfl
  · rw [dif_neg h, if_pos (by omega)]
    exact congrArg _ (idx_of _ _ _ (by show 256 + (i.val - 256) = i.val; omega) (by show 0 + j.val = j.val; omega))

/-- The last tile's scores, likewise. -/
theorem scoreLast_at (q : FVec Ideal (Sh 256 128) .bf16) (k : Vec Ideal (Sh 256 128) .bf16) (i j : Fin 256) :
    scoreLast q k (ix2 i j) = if j.val ≤ i.val then dots 256 q k (ix2 i j) else ⊥ := by
  pointwise [scoreLast]
  rw [causal_at]
  by_cases hj : j.val ≤ i.val
  · rw [if_pos hj, if_pos hj]; rfl
  · rw [if_neg hj, if_neg hj]; rfl

/-- The tile's scores are `S` where the key is at most as late as the row, and minus infinity elsewhere; the rows and the
    keys both start at `o`. -/
def IsScore (n o : ℕ) (S : ℕ → ℕ → ℝ) (s : FVec Ideal (Sh n 256) .f32) : Prop :=
  ∀ (i : Fin n) (k : Fin 256), s (ix2 i k) = if k.val ≤ i.val then ((S (o + i.val) (o + k.val) : ℝ) : EReal) else ⊥

/-- The tile's values are `V`, from key `o` on. -/
def IsValue (o : ℕ) (V : ℕ → ℕ → ℝ) (v : FVec Ideal (Sh 256 256) .bf16) : Prop :=
  ∀ (k : Fin 256) (c : Fin 256), v (ix2 k c) = ((V (o + k.val) c.val : ℝ) : EReal)

/-- The weighted sum over the first `t` keys of those at most as late as row `i`, the weights relative to `μ`. -/
def W (S V : ℕ → ℕ → ℝ) (μ : ℝ) (i c t : ℕ) : ℝ :=
  ∑ k ∈ Finset.range t, if k ≤ i then (2 : ℝ) ^ (S i k - μ) * V k c else 0

/-- The softmax's weighted mean of the values up to row `i`. -/
def rho (S V : ℕ → ℕ → ℝ) (i c : ℕ) : ℝ :=
  (∑ k ∈ Finset.range (i + 1), (2 : ℝ) ^ S i k * V k c) / ∑ k ∈ Finset.range (i + 1), (2 : ℝ) ^ S i k

/-- The state holds, for rows from `o` on, the weighted sums over the first `t` keys, relative to some reals. -/
def Inv (n o t : ℕ) (S V : ℕ → ℕ → ℝ) (st : St n) : Prop :=
  ∀ i : Fin n, ∃ μ : ℝ, (∀ l : Fin 128, st.m (ix2 i l) = (μ : EReal)) ∧
    ∀ c : Fin 256, st.a (ix2 i c) = ((W S V μ (o + i.val) c.val t : ℝ) : EReal)

/-- A maximum of values below infinity, the first of them above minus infinity, is real. -/
theorem fold_max_real (f : Fin 256 → EReal) (ht : ∀ k, f k ≠ ⊤) (h0 : f 0 ≠ ⊥) :
    ∃ μ : ℝ, Finset.univ.fold max ⊥ f = (μ : EReal) := by
  have h1 : Finset.univ.fold max ⊥ f < ⊤ :=
    (Finset.fold_max_lt _).2 ⟨bot_lt_top, fun k _ => lt_of_le_of_ne le_top (ht k)⟩
  have h2 : ⊥ < Finset.univ.fold max ⊥ f :=
    (Finset.lt_fold_max _).2 (.inr ⟨0, Finset.mem_univ _, lt_of_le_of_ne bot_le h0.symm⟩)
  exact ⟨_, (EReal.coe_toReal h1.ne h2.ne').symm⟩

/-- A row's maximum score is real: its first key is always admitted. -/
theorem rowMax_real {n o : ℕ} (hr : RowFacts n) {S : ℕ → ℕ → ℝ} {s : FVec Ideal (Sh n 256) .f32} (hs : IsScore n o S s)
    (i : Fin n) : ∃ μ : ℝ, rowMax hr s (ix2 i 0) = (μ : EReal) := by
  rw [rowMax_at]
  refine fold_max_real _ (fun k => ?_) ?_
  · rw [hs i k]
    split
    · exact EReal.coe_ne_top _
    · exact bot_ne_top
  · rw [hs i 0]
    exact (if_pos (Nat.zero_le _)).trans_ne (EReal.coe_ne_bot _)

/-- The power of two of a difference of reals. -/
theorem exp2_sub (a b : ℝ) : Ideal.exp2 ((a : EReal) - (b : EReal)) = (((2 : ℝ) ^ (a - b) : ℝ) : EReal) := by
  rw [← EReal.coe_sub]; rfl

/-- A tile's weights applied to its values, as a real sum. -/
theorem weigh_real {n o : ℕ} (hr : RowFacts n) {S V : ℕ → ℕ → ℝ} {s : FVec Ideal (Sh n 256) .f32} (hs : IsScore n o S s)
    {v : FVec Ideal (Sh 256 256) .bf16} (hv : IsValue o V v) (m : FVec Ideal (Sh n 128) .f32) (i : Fin n) (μ : ℝ)
    (hm : ∀ l : Fin 128, m (ix2 i l) = (μ : EReal)) (c : Fin 256) :
    weigh hr s m v (ix2 i c) = ((∑ k ∈ Finset.range 256,
      if o + k ≤ o + i.val then (2 : ℝ) ^ (S (o + i.val) (o + k) - μ) * V (o + k) c.val else 0 : ℝ) : EReal) := by
  rw [weigh_at, Finset.sum_range, coe_sum]
  refine Finset.sum_congr rfl fun k _ => ?_
  obtain ⟨l, hl⟩ := twice_at hr m i k
  rw [hl, hm, hs i k, hv k c]
  by_cases h : k.val ≤ i.val
  · rw [if_pos h, if_pos (by omega), exp2_sub, ← EReal.coe_mul]
  · rw [if_neg h, if_neg (by omega), EReal.bot_sub]
    show (0 : EReal) * _ = _
    rw [zero_mul, EReal.coe_zero]

/-- The sum over the first `o + 256` keys is the sum over the first `o` and that over the tile. -/
theorem W_add (S V : ℕ → ℕ → ℝ) (μ : ℝ) (i c o : ℕ) : W S V μ i c (o + 256) = W S V μ i c o +
    ∑ k ∈ Finset.range 256, if o + k ≤ i then (2 : ℝ) ^ (S i (o + k) - μ) * V (o + k) c else 0 :=
  Finset.sum_range_add _ _ _

/-- Weights relative to another real. -/
theorem W_shift (S V : ℕ → ℕ → ℝ) (μ ν : ℝ) (i c t : ℕ) : (2 : ℝ) ^ (μ - ν) * W S V μ i c t = W S V ν i c t := by
  rw [W, W, Finset.mul_sum]
  refine Finset.sum_congr rfl fun k _ => ?_
  split
  · rw [← mul_assoc, ← Real.rpow_add two_pos]
    congr 2; ring
  · exact mul_zero _

/-- After the first tile the state holds the sums over it. -/
theorem first_inv {n : ℕ} (hr : RowFacts n) {S V : ℕ → ℕ → ℝ} {s : FVec Ideal (Sh n 256) .f32} (hs : IsScore n 0 S s)
    {v : Vec Ideal (Sh 256 128) .bf16} (hv : IsValue 0 V (ones v)) : Inv n 0 256 S V (first hr s v) := by
  intro i
  obtain ⟨μ, hμ⟩ := rowMax_real hr hs i
  have hm : ∀ l : Fin 128, (first hr s v).m (ix2 i l) = (μ : EReal) := by
    intro l
    rw [← hμ]
    refine Eq.trans (bc_at hr (shapeCast (Sh n 1) (rowMax hr s) hr.colId) i l) ?_
    exact congrArg (rowMax hr s) (Shape.reshapeEquiv_self _ _)
  refine ⟨μ, hm, fun c => ?_⟩
  have := weigh_real hr hs hv (first hr s v).m i μ hm c
  have e := W_add S V μ (0 + i.val) c.val 0
  rw [show W S V μ (0 + i.val) c.val 0 = 0 from rfl, zero_add (∑ k ∈ _, _)] at e
  exact this.trans (congrArg _ e.symm)

/-- A further tile adds its sums. -/
theorem next_inv {n o : ℕ} (hr : RowFacts n) {S V : ℕ → ℕ → ℝ} {s : FVec Ideal (Sh n 256) .f32} (hs : IsScore n o S s)
    {v : Vec Ideal (Sh 256 128) .bf16} (hv : IsValue o V (ones v)) {st : St n} (h : Inv n o o S V st) :
    Inv n o (o + 256) S V (next hr s st v) := by
  intro i
  obtain ⟨μ, hμ, ha⟩ := h i
  obtain ⟨ν, hν⟩ := rowMax_real hr hs i
  have hm : ∀ l : Fin 128, nextM hr s st.m (ix2 i l) = ((max μ ν : ℝ) : EReal) := by
    intro l
    rw [EReal.coe_strictMono.monotone.map_max, ← hν, ← hμ l]
    exact congrArg (max (st.m (ix2 i l))) (bc_at hr _ i l)
  refine ⟨max μ ν, hm, fun c => ?_⟩
  have hw := weigh_real hr hs hv (nextM hr s st.m) i _ hm c
  obtain ⟨l, hl⟩ := twice_at hr (exp2 (subf st.m (nextM hr s st.m))) i c
  show twice hr (exp2 (subf st.m (nextM hr s st.m))) (ix2 i c) * st.a (ix2 i c) + weigh hr s (nextM hr s st.m) (ones v) (ix2 i c) = _
  rw [hw, hl, ha c, W_add, EReal.coe_add, ← W_shift S V μ (max μ ν), EReal.coe_mul]
  show Ideal.exp2 (st.m (ix2 i l) - nextM hr s st.m (ix2 i l)) * _ + _ = _
  rw [hμ l, hm l, exp2_sub]

/-- Dropping the first 256 rows. -/
theorem drop_inv {n r o : ℕ} (hc : CutFacts n r) (hn : n = r + 256) {S V : ℕ → ℕ → ℝ} {st : St n}
    (h : Inv n o (o + 256) S V st) : Inv r (o + 256) (o + 256) S V (st.drop hc) := by
  intro i
  obtain ⟨μ, hμ, ha⟩ := h ⟨256 + i.val, by omega⟩
  refine ⟨μ, fun l => ?_, fun c => ?_⟩
  · rw [← hμ l]
    pointwise [St.drop]
    exact congrArg st.m (idx_of _ _ _ rfl (by show 0 + l.val = l.val; omega))
  · rw [Nat.add_assoc, ← ha c]
    pointwise [St.drop]
    exact congrArg st.a (idx_of _ _ _ rfl (by show 0 + c.val = c.val; omega))

/-- All the keys up to row `i` seen, the sum is the softmax's numerator, scaled. -/
theorem W_full (S V : ℕ → ℕ → ℝ) (μ : ℝ) (i c t : ℕ) (h : i < t) :
    W S V μ i c t = (2 : ℝ) ^ (-μ) * ∑ k ∈ Finset.range (i + 1), (2 : ℝ) ^ S i k * V k c := by
  obtain ⟨d, rfl⟩ : ∃ d, t = (i + 1) + d := ⟨t - (i + 1), by omega⟩
  rw [W, Finset.sum_range_add, Finset.sum_eq_zero (s := Finset.range d) fun k _ => if_neg (by omega), add_zero, Finset.mul_sum]
  refine Finset.sum_congr rfl fun k hk => ?_
  rw [if_pos (by have := Finset.mem_range.1 hk; omega), ← mul_assoc, ← Real.rpow_add two_pos]
  congr 2; ring

/-- The weighted sum over the sum of the weights is the softmax's mean. -/
theorem W_div (S V : ℕ → ℕ → ℝ) (μ : ℝ) (i c d t : ℕ) (h : i < t) (hd : ∀ k, V k d = 1) :
    Ideal.div ((W S V μ i c t : ℝ) : EReal) ((W S V μ i d t : ℝ) : EReal) = ((rho S V i c : ℝ) : EReal) := by
  have hp : 0 < ∑ k ∈ Finset.range (i + 1), (2 : ℝ) ^ S i k :=
    Finset.sum_pos (fun k _ => Real.rpow_pos_of_pos two_pos _) ⟨0, Finset.mem_range.2 (Nat.succ_pos _)⟩
  have hq : (0 : ℝ) < (2 : ℝ) ^ (-μ) := Real.rpow_pos_of_pos two_pos _
  rw [W_full _ _ _ _ _ _ h, W_full _ _ _ _ _ _ h]
  simp only [hd, mul_one]
  rw [Ideal.div_coe (mul_pos hq hp).ne', ← EReal.coe_mul, mul_one_div, mul_div_mul_left _ _ hq.ne', rho]

/-- The first 256 rows, divided by their sums of weights, are the softmax's means. -/
theorem out_rho {n o : ℕ} (hr : RowFacts n) (hn : 256 ≤ n) {S V : ℕ → ℕ → ℝ} (hV : ∀ k d, 128 ≤ d → V k d = 1) {st : St n}
    (h : Inv n o (o + 256) S V st) (i : Fin 256) (c : Fin 128) :
    st.out hr (ix2 i c) = ((rho S V (o + i.val) c.val : ℝ) : EReal) := by
  obtain ⟨μ, hμ, ha⟩ := h ⟨i.val, by omega⟩
  have h1 := ha ⟨c.val, by omega⟩
  have h2 := ha ⟨128 + c.val, by omega⟩
  rw [← W_div S V μ (o + i.val) c.val (128 + c.val) (o + 256) (by omega) fun k => hV k _ (by omega)]
  refine Eq.trans ?_ (congrArg₂ Ideal.div h1 h2)
  pointwise [St.out]
  refine congrArg₂ Ideal.div (congrArg st.a (idx_of _ _ _ ?_ ?_)) (congrArg st.a (idx_of _ _ _ ?_ ?_))
  · show 0 + i.val = i.val; omega
  · show 0 + c.val = c.val; omega
  · show 0 + i.val = i.val; omega
  · show 0 + (128 + c.val) = 128 + c.val; omega

end Cert.KernelIdeal.RefValue

end
-- ==== Proof.Chain.lean ====
/-
  The chain of tiles: tile `j` of the body's rows holds the softmax's means of rows `256 j` to `256 j + 255`.
-/
module

public import proofs.«01_k».proof.Proof.Soft

@[expose] public section

set_option maxRecDepth 16384

noncomputable section

namespace Cert.KernelIdeal.RefValue

open Cert.KernelIdeal Cert.KernelIdeal.Gen Idealize.ShloMosaic Idealize.ShloMosaic.TcCoe Idealize.SL.Sem

section
variable (q : Vec Ideal (Sh 2048 128) .bf16) (k v : Fin 8 → Vec Ideal (Sh 256 128) .bf16) {S V : ℕ → ℕ → ℝ}

/-- The products of the queries with tile `j`'s keys are `S`. -/
def IsDots (S : ℕ → ℕ → ℝ) : Prop := ∀ (j : Fin 8) (i : Fin 2048) (x : Fin 256),
  ∑ d : Fin 128, q (ix2 i d) * k j (ix2 x d) = ((S i.val (256 * j.val + x.val) : ℝ) : EReal)

/-- The products of the queries from row `256 j` on with tile `j`'s keys. -/
theorem from_dots (hS : IsDots q k S) {n : ℕ} (j : Fin 8) (h : (Sh 2048 128).Slices ![256 * j.val, 0] (Sh n 128))
    (hn : 256 * j.val + n ≤ 2048) (i : Fin n) (x : Fin 256) :
    dots n (from_ q n (256 * j.val) h) (k j) (ix2 i x)
      = ((S (256 * j.val + i.val) (256 * j.val + x.val) : ℝ) : EReal) := by
  rw [dots_at, ← hS j ⟨256 * j.val + i.val, by omega⟩ x]
  refine Finset.sum_congr rfl fun d _ => ?_
  exact congrArg (· * k j (ix2 x d)) (congrArg q (idx_of _ _ _ rfl (by show 0 + d.val = d.val; omega)))

/-- The first tile's scores. -/
theorem isScore_first (hS : IsDots q k S) : IsScore 2048 0 S (score rows2048 cut2048 q (k 0)) := by
  intro i x
  rw [score_at, dots_at, hS 0 i x]
  simp

/-- A further tile's scores. -/
theorem isScore_next (hS : IsDots q k S) {n r : ℕ} (hr : RowFacts n) (hc : CutFacts n r) (j : Fin 8)
    (h : (Sh 2048 128).Slices ![256 * j.val, 0] (Sh n 128)) (hn : 256 * j.val + n ≤ 2048) :
    IsScore n (256 * j.val) S (score hr hc (from_ q n (256 * j.val) h) (k j)) := by
  intro i x
  rw [score_at, from_dots q k hS j h hn]

/-- The last tile's scores. -/
theorem isScore_last (hS : IsDots q k S) (h : (Sh 2048 128).Slices ![256 * (7 : Fin 8).val, 0] (Sh 256 128)) :
    IsScore 256 (256 * (7 : Fin 8).val) S (scoreLast (from_ q 256 (256 * (7 : Fin 8).val) h) (k 7)) := by
  intro i x
  rw [scoreLast_at, from_dots q k hS 7 h (by decide)]

variable (hS : IsDots q k S) (hv : ∀ j : Fin 8, IsValue (256 * j.val) V (ones (v j)))

include hS hv

/-- The state after tile 0 holds the sums over its keys and all before them. -/
theorem st0_inv : Inv 2048 0 256 S V (st0 q k v) := first_inv _ (isScore_first q k hS) (hv 0)
/-- The state after tile 1 holds the sums over its keys and all before them. -/
theorem st1_inv : Inv 1792 256 512 S V (st1 q k v) :=
  next_inv _ (isScore_next q k hS _ _ 1 _ (by decide)) (hv 1) (drop_inv (o := 0) _ rfl (st0_inv q k v hS hv))
/-- The state after tile 2 holds the sums over its keys and all before them. -/
theorem st2_inv : Inv 1536 512 768 S V (st2 q k v) :=
  next_inv _ (isScore_next q k hS _ _ 2 _ (by decide)) (hv 2) (drop_inv (o := 256) _ rfl (st1_inv q k v hS hv))
/-- The state after tile 3 holds the sums over its keys and all before them. -/
theorem st3_inv : Inv 1280 768 1024 S V (st3 q k v) :=
  next_inv _ (isScore_next q k hS _ _ 3 _ (by decide)) (hv 3) (drop_inv (o := 512) _ rfl (st2_inv q k v hS hv))
/-- The state after tile 4 holds the sums over its keys and all before them. -/
theorem st4_inv : Inv 1024 1024 1280 S V (st4 q k v) :=
  next_inv _ (isScore_next q k hS _ _ 4 _ (by decide)) (hv 4) (drop_inv (o := 768) _ rfl (st3_inv q k v hS hv))
/-- The state after tile 5 holds the sums over its keys and all before them. -/
theorem st5_inv : Inv 768 1280 1536 S V (st5 q k v) :=
  next_inv _ (isScore_next q k hS _ _ 5 _ (by decide)) (hv 5) (drop_inv (o := 1024) _ rfl (st4_inv q k v hS hv))
/-- The state after tile 6 holds the sums over its keys and all before them. -/
theorem st6_inv : Inv 512 1536 1792 S V (st6 q k v) :=
  next_inv _ (isScore_next q k hS _ _ 6 _ (by decide)) (hv 6) (drop_inv (o := 1280) _ rfl (st5_inv q k v hS hv))
/-- The state after tile 7 holds the sums over its keys and all before them. -/
theorem st7_inv : Inv 256 1792 2048 S V (st7 q k v) :=
  next_inv _ (isScore_last q k hS _) (hv 7) (drop_inv (o := 1536) _ rfl (st6_inv q k v hS hv))

/-- The last state's 256 rows, divided by their sums of weights. -/
theorem soft_last (hV : ∀ k d, 128 ≤ d → V k d = 1) (i : Fin 256) (c : Fin 128) :
    soft q k v 7 (ix2 i c) = ((rho S V (1792 + i.val) c.val : ℝ) : EReal) := by
  rw [← out_rho rows256 (le_refl _) hV (o := 1792) (st7_inv q k v hS hv)]
  have e : extractStridedSlice (Sh 256 256) ![0, 0] (st7 q k v).a rows256.top = (st7 q k v).a := by
    funext y
    exact congrArg (st7 q k v).a (funext fun a => Fin.ext (by
      match a with
      | 0 => exact Nat.zero_add _
      | 1 => exact Nat.zero_add _))
  rw [St.out, e]; rfl

/-- Tile `j` of the rows is the softmax's means. -/
theorem soft_rho (hV : ∀ k d, 128 ≤ d → V k d = 1) (j : Fin 8) (i : Fin 256) (c : Fin 128) :
    soft q k v j (ix2 i c) = ((rho S V (256 * j.val + i.val) c.val : ℝ) : EReal) := by
  match j with
  | 0 => exact out_rho rows2048 (by decide) hV (o := 0) (st0_inv q k v hS hv) i c
  | 1 => exact out_rho rows1792 (by decide) hV (o := 256) (st1_inv q k v hS hv) i c
  | 2 => exact out_rho rows1536 (by decide) hV (o := 512) (st2_inv q k v hS hv) i c
  | 3 => exact out_rho rows1280 (by decide) hV (o := 768) (st3_inv q k v hS hv) i c
  | 4 => exact out_rho rows1024 (by decide) hV (o := 1024) (st4_inv q k v hS hv) i c
  | 5 => exact out_rho rows768 (by decide) hV (o := 1280) (st5_inv q k v hS hv) i c
  | 6 => exact out_rho rows512 (by decide) hV (o := 1536) (st6_inv q k v hS hv) i c
  | 7 => exact soft_last q k v hS hv hV i c
end

end Cert.KernelIdeal.RefValue

end
-- ==== Proof.Pieces.lean ====
/-
  The sixteen tiles the body stores in its block, found by the run, are `tile` at each head and each tile of rows, in the
  order the body stores them (the last one first).
-/
module

public import proofs.«01_k».proof.Proof.Tiles

@[expose] public section
set_option maxRecDepth 16384
noncomputable section
namespace Cert.KernelIdeal.RefValue
open Cert.KernelIdeal Cert.KernelIdeal.Gen Idealize.ShloMosaic Idealize.ShloMosaic.TcCoe Idealize.SL.Sem

section
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S2048x256 .bf16) (harg7 : arg7.IsWhole)
    (x0 : Vec Ideal S2048x256 .bf16) (x1 : Vec Ideal S2048x256 .bf16) (x2 : Vec Ideal S2048x256 .bf16) (x3 : Vec Ideal S4x64 .f32) (x4 : Vec Ideal S1x128 .f32)

/-- A tile lies in its block. -/
theorem inbT (j : Fin 8) (h : Fin 2) : ∀ a, (![256 * j.val, 128 * h.val] : Fin 2 → Nat) a + S256x128.size a ≤ S2048x256.size a := by
  revert j h; decide
/-- A tile's rows lie in the head's lanes. -/
theorem inbR (j : Fin 8) : ∀ a, (![256 * j.val, 0] : Fin 2 → Nat) a + S256x128.size a ≤ S2048x128.size a := by
  revert j; decide
/-- A head's lanes lie in the block. -/
theorem inbH (h : Fin 2) : ∀ a, (![0, 128 * h.val] : Fin 2 → Nat) a + S2048x128.size a ≤ S2048x256.size a := by
  revert h; decide
/-- Tile `j` of head `h` in a block. -/
abbrev rectT (j : Fin 8) (h : Fin 2) : Rect S2048x256 := Rect.unit ![256 * j.val, 128 * h.val] S256x128.size (inbT j h)
/-- Head `h`'s lanes in a block. -/
abbrev rectH (h : Fin 2) : Rect S2048x256 := Rect.unit ![0, 128 * h.val] S2048x128.size (inbH h)
/-- Tile `j`'s rows in a head's lanes. -/
abbrev rectR (j : Fin 8) : Rect S2048x128 := Rect.unit ![256 * j.val, 0] S256x128.size (inbR j)

/-- A head's queries, as the body loads them. -/
abbrev qRead (h : Fin 2) : Vec Ideal (Sh 2048 128) .bf16 :=
  View.readAt (Elt Ideal) arg2.view (rectH h).toLoadRect (harg2.unread x0)
/-- A tile of a head's keys or values, as the body loads it. -/
abbrev tRead (h : Fin 2) (j : Fin 8) : Vec Ideal (Sh 256 128) .bf16 :=
  View.readAt (Elt Ideal) arg3.view ((rectH h).withinL (rectR j).toLoadRect (fun _ => rfl)) (harg3.unread x1)

/-- The four vectors of lambda, as the body loads them. -/
abbrev lRead : Vec Ideal (Sh 4 64) .f32 :=
  View.readAt (Elt Ideal) arg5.view (Rect.unit (s := S4x64) ![0, 0] ![4, 64] inb_S4x64_S4x64_0_0).toLoadRect (harg5.unread x3)
/-- The gains, as the body loads them. -/
abbrev gRead : Vec Ideal (Sh 1 128) .f32 :=
  View.readAt (Elt Ideal) arg6.view (Rect.unit (s := S1x128) ![0, 0] ![1, 128] inb_S1x128_S1x128_0_0).toLoadRect (harg6.unread x4)

/-- The piece that holds tile `j` of head `h`. -/
abbrev piece (h : Fin 2) (j : Fin 8) : View.Piece (Elt Ideal) S2048x256 .bf16 :=
  ⟨rectT j h, tile (qRead arg2 harg2 x0 h) (tRead arg3 harg3 x1 h) (tRead arg4 harg4 x2 h) (lRead arg5 harg5 x3) (gRead arg6 harg6 x4) j⟩

set_option maxHeartbeats 2000000 in
/-- The run's pieces are the tiles, head 1 before head 0, each head's last tile first. -/
theorem pieces_eq : (kernelRun0_A c i arg2 harg2 arg3 harg3 arg4 harg4 arg5 harg5 arg6 harg6 arg7 harg7 x0 x1 x2 x3 x4).1 =
  ([1, 0] : List (Fin 2)).flatMap fun h => ([7, 6, 5, 4, 3, 2, 1, 0] : List (Fin 8)).map fun j => piece arg2 harg2 arg3 harg3 arg4 harg4 arg5 harg5 arg6 harg6 x0 x1 x2 x3 x4 h j := by
  sl_kernel_rfl
end
end Cert.KernelIdeal.RefValue

end
-- ==== Proof.Point.lean ====
/-
  A block of the result, from the blocks of the arguments: what the body leaves at a row and a lane.
-/
module

public import proofs.«01_k».proof.Proof.Chain
public import proofs.«01_k».proof.Proof.Pieces
public import Idealize.ShloMosaic.Lib.WholeRead

@[expose] public section

set_option maxRecDepth 16384

noncomputable section

namespace Cert.KernelIdeal.RefValue

open Cert.KernelIdeal Cert.KernelIdeal.Gen Idealize.ShloMosaic Idealize.ShloMosaic.TcCoe Idealize.SL.Sem

/-- The weight of the second map, from the four vectors that give it. -/
def lamE (L : (Sh 4 64).Idx → EReal) : EReal :=
  Ideal.exp (∑ d : Fin 64, L (ix2 0 d) * L (ix2 1 d)) - Ideal.exp (∑ d : Fin 64, L (ix2 2 d) * L (ix2 3 d))
    + Ideal.ofBits .f32 0x3E4CCCCD#32

/-- A head's row of means `o`, normalised, at lane `d`, with gain `g`. -/
def normE (o : Fin 128 → EReal) (g : EReal) (d : Fin 128) : EReal :=
  o d * Ideal.rsqrt (Ideal.div (∑ c : Fin 128, o c * o c) (Ideal.ofBits .f32 0x43000000#32) + Ideal.ofBits .f32 0x358637BD#32)
    * g * Ideal.ofBits .f32 0x3F4CCCCD#32

/-- The body's weight of the second map. -/
theorem lam_at (lp : Vec Ideal (Sh 4 64) .f32) : k0_pay6 lp (ix2 0 0) = lamE lp := by
  pointwise [k0_pay6, lamE]

/-- A normalised tile. -/
theorem norm_at (o1 o2 : FVec Ideal (Sh 256 128) .f32) (lp : Vec Ideal (Sh 4 64) .f32) (g : Vec Ideal (Sh 1 128) .f32)
    (i : Fin 256) (c : Fin 128) : norm o1 o2 lp g (ix2 i c)
      = normE (fun d => o1 (ix2 i d) - lamE lp * o2 (ix2 i d)) (g (ix2 0 c)) c := by
  rw [← lam_at]
  pointwise [norm, normE]

/-- The first map's queries: the other map's lanes are zero. -/
theorem pay3_at (q : Vec Ideal S2048x128 .bf16) (i : Fin 2048) (d : Fin 128) :
    k0_pay3 q (ix2 i d) = if d.val < 64 then q (ix2 i d) else 0 := by
  pointwise [k0_pay3, k0_pay2]
  rw [WordCmp.cmpi_slt_ofNat (by omega) (by omega)]
  by_cases h : d.val < 64 <;> simp [h, Scalar.select]

/-- The second map's queries. -/
theorem pay4_at (q : Vec Ideal S2048x128 .bf16) (i : Fin 2048) (d : Fin 128) :
    k0_pay4 q (ix2 i d) = if d.val < 64 then 0 else q (ix2 i d) := by
  pointwise [k0_pay4, k0_pay2]
  rw [WordCmp.cmpi_slt_ofNat (by omega) (by omega)]
  by_cases h : d.val < 64 <;> simp [h, Scalar.select]

/-- The body's queries of map `p`. -/
def mapQ (p : Fin 2) (q : Vec Ideal S2048x128 .bf16) : FVec Ideal (Sh 2048 128) .bf16 :=
  match p with
  | 0 => k0_pay3 q
  | 1 => k0_pay4 q

/-- Lane `d` of map `p` of head `h`, in a block. -/
abbrev lane (h p : Fin 2) (d : Fin 64) : Fin 256 := ⟨128 * h.val + 64 * p.val + d.val, by omega⟩

/-- A product with a map's queries is the sum over the map's own lanes. -/
theorem mapQ_dots (p : Fin 2) (q : Vec Ideal S2048x128 .bf16) (i : Fin 2048) (f : Fin 128 → EReal) :
    ∑ d : Fin 128, mapQ p q (ix2 i d) * f d
      = ∑ d : Fin 64, q (ix2 i ⟨64 * p.val + d.val, by omega⟩) * f ⟨64 * p.val + d.val, by omega⟩ := by
  rw [Fin.sum_univ_add (a := 64) (b := 64)]
  match p with
  | 0 =>
    rw [Finset.sum_eq_zero (f := fun d : Fin 64 => mapQ 0 q (ix2 i (Fin.natAdd 64 d)) * f (Fin.natAdd 64 d)), add_zero]
    · refine Finset.sum_congr rfl fun d _ => ?_
      rw [show mapQ 0 q = k0_pay3 q from rfl, pay3_at, if_pos (show (Fin.castAdd 64 d).val < 64 from d.isLt)]
      have e : Fin.castAdd 64 d = (⟨64 * (0 : Fin 2).val + d.val, by omega⟩ : Fin 128) := Fin.ext (by simp)
      rw [e]
    · intro d _
      rw [show mapQ 0 q = k0_pay3 q from rfl, pay3_at, if_neg (by simp), zero_mul]
  | 1 =>
    rw [Finset.sum_eq_zero (f := fun d : Fin 64 => mapQ 1 q (ix2 i (Fin.castAdd 64 d)) * f (Fin.castAdd 64 d)), zero_add]
    · refine Finset.sum_congr rfl fun d _ => ?_
      rw [show mapQ 1 q = k0_pay4 q from rfl, pay4_at, if_neg (by simp)]
      have e : Fin.natAdd 64 d = (⟨64 * (1 : Fin 2).val + d.val, by omega⟩ : Fin 128) := Fin.ext (by simp [Nat.add_comm])
      rw [e]
    · intro d _
      rw [show mapQ 1 q = k0_pay4 q from rfl, pay4_at, if_pos (show (Fin.castAdd 64 d).val < 64 from d.isLt), zero_mul]

section
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S2048x256 .bf16) (harg7 : arg7.IsWhole)
    (x0 : Vec Ideal S2048x256 .bf16) (x1 : Vec Ideal S2048x256 .bf16) (x2 : Vec Ideal S2048x256 .bf16) (x3 : Vec Ideal S4x64 .f32) (x4 : Vec Ideal S1x128 .f32)

/-- A head's queries are the block's, at the head's lanes. -/
theorem qRead_at (h : Fin 2) (r : Fin 2048) (d : Fin 128) :
    qRead arg2 harg2 x0 h (ix2 r d) = x0 (ix2 r ⟨128 * h.val + d.val, by omega⟩) := by
  refine (harg2.readAt_unread x0 _ _).trans (congrArg x0 (idx_of _ _ _ ?_ ?_))
  · show 0 + 1 * r.val = r.val; omega
  · show 128 * h.val + 1 * d.val = 128 * h.val + d.val; omega

/-- A tile of a head's keys or values is the block's. -/
theorem tRead_at (h : Fin 2) (j : Fin 8) (r : Fin 256) (d : Fin 128) :
    tRead arg3 harg3 x1 h j (ix2 r d) = x1 (ix2 ⟨256 * j.val + r.val, by omega⟩ ⟨128 * h.val + d.val, by omega⟩) := by
  refine (harg3.readAt_unread x1 _ _).trans (congrArg x1 (idx_of _ _ _ ?_ ?_))
  · show 0 + 256 * j.val + 1 * r.val = 256 * j.val + r.val; omega
  · show 128 * h.val + 0 + 1 * d.val = 128 * h.val + d.val; omega

/-- The vectors of lambda are the block's. -/
theorem lRead_eq : lRead arg5 harg5 x3 = x3 := by
  funext y
  refine (harg5.readAt_unread x3 _ _).trans (congrArg x3 (funext fun a => Fin.ext ?_))
  match a with
  | 0 => show 0 + 1 * (y 0).val = (y 0).val; omega
  | 1 => show 0 + 1 * (y 1).val = (y 1).val; omega

/-- The gains are the block's. -/
theorem gRead_eq : gRead arg6 harg6 x4 = x4 := by
  funext y
  refine (harg6.readAt_unread x4 _ _).trans (congrArg x4 (funext fun a => Fin.ext ?_))
  match a with
  | 0 => show 0 + 1 * (y 0).val = (y 0).val; omega
  | 1 => show 0 + 1 * (y 1).val = (y 1).val; omega

variable {S : Fin 2 → Fin 2 → ℕ → ℕ → ℝ} {V : Fin 2 → ℕ → ℕ → ℝ}
  (hS : ∀ (h p : Fin 2) (r k : Fin 2048), ∑ d : Fin 64, x0 (ix2 r (lane h p d)) * x1 (ix2 k (lane h p d)) = ((S h p r.val k.val : ℝ) : EReal))
  (hv : ∀ (h : Fin 2) (k : Fin 2048) (d : Fin 128), x2 (ix2 k ⟨128 * h.val + d.val, by omega⟩) = ((V h k.val d.val : ℝ) : EReal))
  (hV : ∀ h k d, 128 ≤ d → V h k d = 1)

include hS in
/-- The products of a head's map's queries with a tile of keys. -/
theorem isDots_block (h p : Fin 2) : IsDots (mapQ p (qRead arg2 harg2 x0 h)) (tRead arg3 harg3 x1 h) (S h p) := by
  intro j r k
  rw [mapQ_dots p _ r fun d => tRead arg3 harg3 x1 h j (ix2 k d), ← hS h p r ⟨256 * j.val + k.val, by omega⟩]
  refine Finset.sum_congr rfl fun d _ => ?_
  rw [qRead_at, tRead_at]
  have e : (⟨128 * h.val + (64 * p.val + d.val), by omega⟩ : Fin 256) = lane h p d := Fin.ext (by simp [Nat.add_assoc])
  rw [e]

include hv hV in
/-- A tile's values, then ones. -/
theorem isValue_block (h : Fin 2) (j : Fin 8) : IsValue (256 * j.val) (V h) (ones (tRead arg4 harg4 x2 h j)) := by
  intro k d
  rw [ones_at]
  by_cases hd : d.val < 128
  · rw [dif_pos hd, tRead_at]
    exact hv h ⟨256 * j.val + k.val, by omega⟩ ⟨d.val, hd⟩
  · rw [dif_neg hd, hV _ _ _ (by omega), EReal.coe_one]

/-- The result's value at row `r`, head `h` and lane `d` of the block. -/
def blockE (S : Fin 2 → Fin 2 → ℕ → ℕ → ℝ) (V : Fin 2 → ℕ → ℕ → ℝ) (L : (Sh 4 64).Idx → EReal) (g : (Sh 1 128).Idx → EReal)
    (r : ℕ) (h : Fin 2) (d : Fin 128) : EReal :=
  normE (fun c => ((rho (S h 0) (V h) r c.val : ℝ) : EReal) - lamE L * ((rho (S h 1) (V h) r c.val : ℝ) : EReal)) (g (ix2 0 d)) d

include hS hv hV in
/-- A stored tile's values. -/
theorem piece_at (h : Fin 2) (j : Fin 8) (r : Fin 256) (d : Fin 128) :
    (piece arg2 harg2 arg3 harg3 arg4 harg4 arg5 harg5 arg6 harg6 x0 x1 x2 x3 x4 h j).2 (ix2 r d)
      = blockE S V x3 x4 (256 * j.val + r.val) h d := by
  show tile _ _ _ _ _ j (ix2 r d) = _
  rw [tile, lRead_eq, gRead_eq, norm_at, blockE]
  refine congrArg (fun o => normE o (x4 (ix2 0 d)) d) (funext fun e => ?_)
  have h0 := soft_rho (mapQ 0 (qRead arg2 harg2 x0 h)) (tRead arg3 harg3 x1 h) (tRead arg4 harg4 x2 h)
    (isDots_block arg2 harg2 arg3 harg3 x0 x1 hS h 0) (isValue_block arg4 harg4 x2 hv hV h) (hV h) j r e
  have h1 := soft_rho (mapQ 1 (qRead arg2 harg2 x0 h)) (tRead arg3 harg3 x1 h) (tRead arg4 harg4 x2 h)
    (isDots_block arg2 harg2 arg3 harg3 x0 x1 hS h 1) (isValue_block arg4 harg4 x2 hv hV h) (hV h) j r e
  exact congrArg₂ (fun a b => a - lamE x3 * b) h0 h1

include hS hv hV in
/-- What the body leaves at a place of the block. -/
theorem out_at (y : S2048x256.Idx) :
    out0_A_5 c i arg2 harg2 arg3 harg3 arg4 harg4 arg5 harg5 arg6 harg6 arg7 harg7 x0 x1 x2 x3 x4 y
      = blockE S V x3 x4 (y 0).val ⟨(y 1).val / 128, Nat.div_lt_of_lt_mul (y 1).isLt⟩ ⟨(y 1).val % 128, Nat.mod_lt _ (by decide)⟩ := by
  have hc := cover0_A_5 c i arg2 harg2 arg3 harg3 arg4 harg4 arg5 harg5 arg6 harg6 arg7 harg7 x0 x1 x2 x3 x4 y
  unfold out0_A_5
  rw [pieces_eq] at hc ⊢
  refine View.read_writes_apply_of_pieces VO0_5 _ (fun y : S2048x256.Idx => blockE S V x3 x4 (y 0).val
    ⟨(y 1).val / 128, Nat.div_lt_of_lt_mul (y 1).isLt⟩ ⟨(y 1).val % 128, Nat.mod_lt _ (by decide)⟩) _ (fun pc hpc x => ?_) y hc
  obtain ⟨h, -, hpc⟩ := List.mem_flatMap.1 hpc
  obtain ⟨j, -, rfl⟩ := List.mem_map.1 hpc
  have hx : x = ix2 (n0 := 256) (n1 := 128) (x 0) (x 1) := idx_of (n := 256) (k := 128) x (x 0) (x 1) rfl rfl
  have hd : (x 1).val < 128 := (x 1).isLt
  have e0 : ((rectT j h).emb x 0).val = 256 * j.val + (x 0).val := by
    show 256 * j.val + 1 * (x 0).val = _; omega
  have e1 : ((rectT j h).emb x 1).val = 128 * h.val + (x 1).val := by
    show 128 * h.val + 1 * (x 1).val = _; omega
  have p := piece_at arg2 harg2 arg3 harg3 arg4 harg4 arg5 harg5 arg6 harg6 x0 x1 x2 x3 x4 hS hv hV h j (x 0) (x 1)
  rw [hx]
  refine p.trans ?_
  rw [← hx]
  show _ = blockE S V x3 x4 ((rectT j h).emb x 0).val ⟨((rectT j h).emb x 1).val / 128, _⟩ ⟨((rectT j h).emb x 1).val % 128, _⟩
  congr 1
  · exact e0.symm
  · exact Fin.ext (by show h.val = ((rectT j h).emb x 1).val / 128; omega)
  · exact Fin.ext (by show (x 1).val = ((rectT j h).emb x 1).val % 128; omega)
end

end Cert.KernelIdeal.RefValue

end
-- ==== Proof.Final.lean ====
/-
  The kernel's result array, from its argument arrays.
-/
module

public import proofs.«01_k».proof.Proof.Point
public import Idealize.ShloMosaic.Lib.Pipeline.ValueKit
public import Idealize.ShloMosaic.Lib.Claim

@[expose] public section

set_option maxRecDepth 16384

noncomputable section

namespace Cert.KernelIdeal.RefValue

open Cert.KernelIdeal Cert.KernelIdeal.Gen Idealize.ShloMosaic Idealize.ShloMosaic.TcCoe Idealize.SL.Sem

/-- An array's element as a real; zero outside the array. -/
def rl {n k : ℕ} (A : (Sh n k).Idx → EReal) (r c : ℕ) : ℝ :=
  if h : r < n ∧ c < k then (A (ix2 ⟨r, h.1⟩ ⟨c, h.2⟩)).toReal else 0

/-- The element is a real. -/
def IsReal (x : EReal) : Prop := x ≠ ⊤ ∧ x ≠ ⊥

/-- A real element is its real. -/
theorem rl_at {n k : ℕ} (A : (Sh n k).Idx → EReal) (r : Fin n) (c : Fin k) (h : IsReal (A (ix2 r c))) (r' c' : ℕ)
    (hr : r' = r.val) (hc : c' = c.val) : A (ix2 r c) = ((rl A r' c' : ℝ) : EReal) := by
  subst hr hc
  rw [rl, dif_pos ⟨r.isLt, c.isLt⟩]
  exact (EReal.coe_toReal h.1 h.2).symm

/-- The scores of map `p` of head `H` in batch row `b`: products of queries and keys. -/
def scoreR (A : (Sh 16384 2048).Idx → EReal) (b H p i k : ℕ) : ℝ :=
  ∑ d : Fin 64, rl A (2048 * b + i) (128 * H + 64 * p + d.val) * rl A (2048 * b + k) (512 + 128 * H + 64 * p + d.val)

/-- The values of head `H` in batch row `b`, with as many lanes of ones after them. -/
def valueR (A : (Sh 16384 8192).Idx → EReal) (b H k c : ℕ) : ℝ :=
  if c < 128 then rl A (2048 * b + k) (3072 + 128 * H + c) else 1

/-- The result at row `i` of batch row `b`, head `H`, lane `d`. -/
def resE (A0 : (Sh 16384 2048).Idx → EReal) (A1 : (Sh 16384 8192).Idx → EReal) (L : (Sh 4 64).Idx → EReal)
    (g : (Sv 128).Idx → EReal) (b H i : ℕ) (d : Fin 128) : EReal :=
  normE (fun c => ((rho (scoreR A0 b H 0) (valueR A1 b H) i c.val : ℝ) : EReal)
    - lamE L * ((rho (scoreR A0 b H 1) (valueR A1 b H) i c.val : ℝ) : EReal)) (g (ix1 d)) d

/-- The argument arrays are real where the kernel reads queries, keys and values. -/
structure RealArgs (A0 : (Sh 16384 2048).Idx → EReal) (A1 : (Sh 16384 8192).Idx → EReal) : Prop where
  qk : ∀ (r : Fin 16384) (c : Fin 2048), c.val < 1024 → IsReal (A0 (ix2 r c))
  v : ∀ (r : Fin 16384) (c : Fin 8192), 3072 ≤ c.val → c.val < 3584 → IsReal (A1 (ix2 r c))

variable (m : (ℓ : Loc nD τ sig) → Buf (Elt Ideal) ℓ)

/-- The blocks' places, at every grid point. -/
theorem idx : ∀ t : Fin cfg0.N, win0_0.index t = ![t.val / 2, t.val % 2] ∧ win0_1.index t = ![t.val / 2, 2 + t.val % 2]
    ∧ win0_2.index t = ![t.val / 2, 12 + t.val % 2] ∧ win0_3.index t = ![0, 0] ∧ win0_4.index t = ![0, 0]
    ∧ win0_5.index t = ![t.val / 2, t.val % 2] ∧ t.val < 16 :=
  (by decide +kernel : ∀ t : Fin grid0.N, _)

/-- The first argument: queries and keys. -/
abbrev a0 (c : Dev nD) : (Sh 16384 2048).Idx → EReal := m ((c : Thread nD τ).loc main_arg0)
/-- The second argument: the projection, which holds the values. -/
abbrev a1 (c : Dev nD) : (Sh 16384 8192).Idx → EReal := m ((c : Thread nD τ).loc main_arg1)
/-- The third argument: the vectors of lambda. -/
abbrev a2 (c : Dev nD) : (Sh 4 64).Idx → EReal := m ((c : Thread nD τ).loc main_arg2)
/-- The fourth argument: the gains. -/
abbrev a3 (c : Dev nD) : (Sv 128).Idx → EReal := m ((c : Thread nD τ).loc main_arg3)

/-- The queries' block at point `t`. -/
abbrev b0 (c : Dev nD) (t : Fin cfg0.N) : Vec Ideal S2048x256 .bf16 := iblk m c 0 t
/-- The keys' block. -/
abbrev b1 (c : Dev nD) (t : Fin cfg0.N) : Vec Ideal S2048x256 .bf16 := iblk m c 1 t
/-- The values' block. -/
abbrev b2 (c : Dev nD) (t : Fin cfg0.N) : Vec Ideal S2048x256 .bf16 := iblk m c 2 t

/-- A block of queries, in the array. -/
theorem blk0 (c : Dev nD) (t : Fin cfg0.N) (r : Fin 2048) (l : Fin 256) (R : Fin 16384) (C : Fin 2048)
    (hR : R.val = 2048 * (t.val / 2) + r.val) (hC : C.val = 256 * (t.val % 2) + l.val) :
    b0 m c t (ix2 r l) = a0 m c (ix2 R C) := by
  blk_ext [b0, b1, b2, iblk, V, idx t]
/-- A block of keys, in the array. -/
theorem blk1 (c : Dev nD) (t : Fin cfg0.N) (r : Fin 2048) (l : Fin 256) (R : Fin 16384) (C : Fin 2048)
    (hR : R.val = 2048 * (t.val / 2) + r.val) (hC : C.val = 512 + 256 * (t.val % 2) + l.val) :
    b1 m c t (ix2 r l) = a0 m c (ix2 R C) := by
  blk_ext [b0, b1, b2, iblk, V, idx t]
/-- A block of values, in the array. -/
theorem blk2 (c : Dev nD) (t : Fin cfg0.N) (r : Fin 2048) (l : Fin 256) (R : Fin 16384) (C : Fin 8192)
    (hR : R.val = 2048 * (t.val / 2) + r.val) (hC : C.val = 3072 + 256 * (t.val % 2) + l.val) :
    b2 m c t (ix2 r l) = a1 m c (ix2 R C) := by
  blk_ext [b0, b1, b2, iblk, V, idx t]
/-- The vectors of lambda, whole. -/
theorem blk3 (c : Dev nD) (t : Fin cfg0.N) : iblk m c 3 t = a2 m c := by
  blk_ext! [iblk, V, idx t]
/-- The gains, as a row. -/
theorem blk4 (c : Dev nD) (t : Fin cfg0.N) (l : Fin 128) : iblk m c 4 t (ix2 0 l) = a3 m c (ix1 l) := by
  blk_simp [iblk]
  entry_read
  pointwise
  blk_ext [idx t]

section
variable {m} (c : Dev nD) (hF : RealArgs (a0 m c) (a1 m c)) (t : Fin cfg0.N)

include hF in
/-- The scores of a block's head are the array's. -/
theorem score_blk (h p : Fin 2) (r k : Fin 2048) :
    ∑ d : Fin 64, b0 m c t (ix2 r (lane h p d)) * b1 m c t (ix2 k (lane h p d))
      = ((scoreR (a0 m c) (t.val / 2) (2 * (t.val % 2) + h.val) p.val r.val k.val : ℝ) : EReal) := by
  have ht : t.val < 16 := (idx t).2.2.2.2.2.2
  rw [scoreR, coe_sum]
  refine Finset.sum_congr rfl fun d _ => ?_
  rw [blk0 m c t r (lane h p d) ⟨2048 * (t.val / 2) + r.val, by omega⟩ ⟨256 * (t.val % 2) + (lane h p d).val, by omega⟩ rfl rfl,
    blk1 m c t k (lane h p d) ⟨2048 * (t.val / 2) + k.val, by omega⟩ ⟨512 + 256 * (t.val % 2) + (lane h p d).val, by omega⟩ rfl rfl,
    rl_at _ _ _ (hF.qk _ _ (by show 256 * (t.val % 2) + (lane h p d).val < 1024; omega)) (2048 * (t.val / 2) + r.val)
      (128 * (2 * (t.val % 2) + h.val) + 64 * p.val + d.val) rfl (by show _ = 256 * (t.val % 2) + (128 * h.val + 64 * p.val + d.val); omega),
    rl_at _ _ _ (hF.qk _ _ (by show 512 + 256 * (t.val % 2) + (lane h p d).val < 1024; omega)) (2048 * (t.val / 2) + k.val)
      (512 + 128 * (2 * (t.val % 2) + h.val) + 64 * p.val + d.val) rfl
      (by show _ = 512 + 256 * (t.val % 2) + (128 * h.val + 64 * p.val + d.val); omega), EReal.coe_mul]

include hF in
/-- The values of a block's head are the array's. -/
theorem value_blk (h : Fin 2) (k : Fin 2048) (d : Fin 128) :
    b2 m c t (ix2 k ⟨128 * h.val + d.val, by omega⟩)
      = ((valueR (a1 m c) (t.val / 2) (2 * (t.val % 2) + h.val) k.val d.val : ℝ) : EReal) := by
  have ht : t.val < 16 := (idx t).2.2.2.2.2.2
  rw [valueR, if_pos d.isLt,
    blk2 m c t k ⟨128 * h.val + d.val, by omega⟩ ⟨2048 * (t.val / 2) + k.val, by omega⟩
      ⟨3072 + 256 * (t.val % 2) + (128 * h.val + d.val), by omega⟩ rfl rfl]
  exact rl_at _ _ _ (hF.v _ _ (by show 3072 ≤ 3072 + _ + _; omega) (by show 3072 + 256 * (t.val % 2) + (128 * h.val + d.val) < 3584; omega)) _ _ rfl
    (by show _ = 3072 + 256 * (t.val % 2) + (128 * h.val + d.val); omega)

include hF in
/-- The result array: at row `R` and lane `C`, the result of batch row `R / 2048`, head `C / 128`. -/
theorem final : (dats m 0 c).arrAt 5 cfg0.N = fun y : (Sh 16384 512).Idx =>
    resE (a0 m c) (a1 m c) (a2 m c) (a3 m c) ((y 0).val / 2048) ((y 1).val / 128) ((y 0).val % 2048)
      ⟨(y 1).val % 128, Nat.mod_lt _ (by decide)⟩ := by
  refine (dats m 0 c).arrAt_eq_of_covers 5 _ (by decide +kernel) fun t _ y => ?_
  blk_simp [idx t]
  rw [after0_5]
  unfold outsAt0
  have o := out_at c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) (iblk m c 4 t)
    (S := fun h p => scoreR (a0 m c) (t.val / 2) (2 * (t.val % 2) + h.val) p.val)
    (V := fun h => valueR (a1 m c) (t.val / 2) (2 * (t.val % 2) + h.val))
    (score_blk c hF t) (value_blk c hF t) (fun h k d hd => if_neg (by omega)) y
  refine o.trans ?_
  rw [blk3]
  have h0 : (y 0).val < 2048 := (y 0).isLt
  have h1 : (y 1).val < 256 := (y 1).isLt
  have e1 : (t.val / 2 * 2048 + (y 0).val) / 2048 = t.val / 2 := by omega
  have e2 : (t.val % 2 * 256 + (y 1).val) / 128 = 2 * (t.val % 2) + (y 1).val / 128 := by omega
  have e3 : (t.val / 2 * 2048 + (y 0).val) % 2048 = (y 0).val := by omega
  have e4 : (⟨(t.val % 2 * 256 + (y 1).val) % 128, Nat.mod_lt _ (by decide)⟩ : Fin 128) = ⟨(y 1).val % 128, Nat.mod_lt _ (by decide)⟩ :=
    Fin.ext (by show (t.val % 2 * 256 + (y 1).val) % 128 = (y 1).val % 128; omega)
  show _ = resE (a0 m c) (a1 m c) (a2 m c) (a3 m c) _ _ _ ⟨(t.val % 2 * 256 + (y 1).val) % 128, Nat.mod_lt _ (by decide)⟩
  rw [e1, e2, e3, e4, blockE, resE]
  exact congrArg (fun g => normE _ g _) (blk4 m c t _)
end

end Cert.KernelIdeal.RefValue

end
-- ==== Proof.RefRead.lean ====
/-
  The reference in stages, and what each of them holds.
-/
module

public import proofs.«01_k».proof.Proof.Final
public import proofs.«01_k».proof.Proof.Gen.ReferenceIdeal.Run

@[expose] public section

set_option maxRecDepth 16384

noncomputable section

namespace Cert.ReferenceIdeal.RefRead

open Cert.ReferenceIdeal Cert.ReferenceIdeal.Gen Idealize.ShloMosaic Idealize.ShloMosaic.TcCoe Idealize.SL.Sem
open Cert.KernelIdeal.RefValue (Sh Sv idx_of coe_sum bot_bits rho lamE normE rl IsReal rl_at scoreR valueR resE RealArgs fold_max_real)

/-- The queries, by batch row, head, map, row and lane. -/
def queries (A : FVec Ideal S16384x2048 .bf16) : FVec Ideal S8x4x2x2048x64 .f32 :=
  transpose S8x4x2x2048x64 [0, 2, 3, 1, 4] (shapeCast S8x2048x4x2x64 (extf .f32 (extractStridedSlice S16384x512 ![0, 0] A
    slices_S16384x2048_S16384x512_0_0) bitsLt_bf16_f32) shapeCasts_S16384x512_S8x2048x4x2x64) transposes_S8x2048x4x2x64_S8x4x2x2048x64_0_2_3_1_4

/-- The keys, likewise. -/
def keys (A : FVec Ideal S16384x2048 .bf16) : FVec Ideal S8x4x2x2048x64 .f32 :=
  transpose S8x4x2x2048x64 [0, 2, 3, 1, 4] (shapeCast S8x2048x4x2x64 (extf .f32 (extractStridedSlice S16384x512 ![0, 512] A
    slices_S16384x2048_S16384x512_0_512) bitsLt_bf16_f32) shapeCasts_S16384x512_S8x2048x4x2x64) transposes_S8x2048x4x2x64_S8x4x2x2048x64_0_2_3_1_4

/-- The values, by batch row, head, row and lane. -/
def values (A : FVec Ideal S16384x8192 .bf16) : FVec Ideal S8x4x2048x128 .f32 :=
  transpose S8x4x2048x128 [0, 2, 1, 3] (shapeCast S8x2048x4x128 (extf .f32 (extractStridedSlice S16384x512 ![0, 3072] A
    slices_S16384x8192_S16384x512_0_3072) bitsLt_bf16_f32) shapeCasts_S16384x512_S8x2048x4x128) transposes_S8x2048x4x128_S8x4x2048x128_0_2_1_3

/-- The weight of the second map. -/
def lam (L : FVec Ideal S4x64 .f32) : FVec Ideal S_ .f32 :=
  addf (subf
    (Host.exp (Host.reduceAdd (mulf (shapeCast S64 (extractStridedSlice S1x64 ![0, 0] L slices_S4x64_S1x64_0_0) shapeCasts_S1x64_S64)
      (shapeCast S64 (extractStridedSlice S1x64 ![1, 0] L slices_S4x64_S1x64_1_0) shapeCasts_S1x64_S64))
      (constant S_ .f32 0x00000000#32) reducesTo_S64_S_d0 h_S_))
    (Host.exp (Host.reduceAdd (mulf (shapeCast S64 (extractStridedSlice S1x64 ![2, 0] L slices_S4x64_S1x64_2_0) shapeCasts_S1x64_S64)
      (shapeCast S64 (extractStridedSlice S1x64 ![3, 0] L slices_S4x64_S1x64_3_0) shapeCasts_S1x64_S64))
      (constant S_ .f32 0x00000000#32) reducesTo_S64_S_d0 h_S_))) (constant S_ .f32 0x3E4CCCCD#32)

/-- The masked scores, times the logarithm of two. -/
def scores (A : FVec Ideal S16384x2048 .bf16) : FVec Ideal S8x4x2x2048x2048 .f32 :=
  select (broadcastInDim S8x4x2x2048x2048 ![3, 4] bcast_S2048x2048_S8x4x2x2048x2048_3_4
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (mulf (Host.dotGeneral (φ₂ := .f32) dot_S8x4x2x2048x64_S8x4x2x2048x64_S8x4x2x2048x2048_4_4_3_3_012_012 none (queries A) (keys A))
      (broadcastInDim S8x4x2x2048x2048 ![] bcast_S_S8x4x2x2048x2048 (Host.log (constant S_ .f32 0x40000000#32))))
    (broadcastInDim S8x4x2x2048x2048 ![] bcast_S_S8x4x2x2048x2048 (constant S_ .f32 0xFF800000#32))

/-- Each row's maximum score. -/
def rowMax (s : FVec Ideal S8x4x2x2048x2048 .f32) : FVec Ideal S8x4x2x2048 .f32 :=
  maximumf (broadcastInDim S8x4x2x2048 ![] bcast_S_S8x4x2x2048 (constant S_ .f32 0xFF800000#32))
    (Host.reduce FloatOps.maximumf s (constant S_ .f32 0xFF800000#32) reducesTo_S8x4x2x2048x2048_S8x4x2x2048_d4 h_S_)

/-- A number per row, along the keys. -/
def spread (x : FVec Ideal S8x4x2x2048 .f32) : FVec Ideal S8x4x2x2048x2048 .f32 :=
  broadcastInDim S8x4x2x2048x2048 ![0, 1, 2, 3, 4] bcast_S8x4x2x2048x1_S8x4x2x2048x2048_0_1_2_3_4
    (broadcastInDim S8x4x2x2048x1 ![0, 1, 2, 3] bcast_S8x4x2x2048_S8x4x2x2048x1_0_1_2_3 x)

/-- The weights before they are normalised. -/
def weights (s : FVec Ideal S8x4x2x2048x2048 .f32) : FVec Ideal S8x4x2x2048x2048 .f32 :=
  Host.exp (subf s (spread (rowMax s)))

/-- The softmax of the weights. -/
def soft (e : FVec Ideal S8x4x2x2048x2048 .f32) : FVec Ideal S8x4x2x2048x2048 .f32 :=
  Host.divf e (spread (Host.reduceAdd e (constant S_ .f32 0x00000000#32) reducesTo_S8x4x2x2048x2048_S8x4x2x2048_d4 h_S_))

/-- The difference of the two maps. -/
def diff (p : FVec Ideal S8x4x2x2048x2048 .f32) (l : FVec Ideal S_ .f32) : FVec Ideal S8x4x2048x2048 .f32 :=
  subf (shapeCast S8x4x2048x2048 (extractStridedSlice S8x4x1x2048x2048 ![0, 0, 0, 0, 0] p slices_S8x4x2x2048x2048_S8x4x1x2048x2048_0_0_0_0_0) shapeCasts_S8x4x1x2048x2048_S8x4x2048x2048)
    (mulf (broadcastInDim S8x4x2048x2048 ![] bcast_S_S8x4x2048x2048 l)
      (shapeCast S8x4x2048x2048 (extractStridedSlice S8x4x1x2048x2048 ![0, 0, 1, 0, 0] p slices_S8x4x2x2048x2048_S8x4x1x2048x2048_0_0_1_0_0) shapeCasts_S8x4x1x2048x2048_S8x4x2048x2048))

/-- The weighted means of the values. -/
def means (a : FVec Ideal S8x4x2048x2048 .f32) (v : FVec Ideal S8x4x2048x128 .f32) : FVec Ideal S8x4x2048x128 .f32 :=
  Host.dotGeneral (φ₂ := .f32) dot_S8x4x2048x2048_S8x4x2048x128_S8x4x2048x128_3_2_2_3_01_01 none a v

/-- The means, normalised, as the result's rows. -/
def norm (o : FVec Ideal S8x4x2048x128 .f32) (g : FVec Ideal S128 .f32) : FVec Ideal S16384x512 .bf16 :=
  truncf .bf16 (shapeCast S16384x512 (transpose S8x2048x4x128 [0, 2, 1, 3] (mulf (mulf (mulf o
    (broadcastInDim S8x4x2048x128 ![0, 1, 2, 3] bcast_S8x4x2048x1_S8x4x2048x128_0_1_2_3
      (Host.rsqrt (addf (Host.divf (broadcastInDim S8x4x2048x1 ![0, 1, 2] bcast_S8x4x2048_S8x4x2048x1_0_1_2
          (Host.reduceAdd (mulf o o) (constant S_ .f32 0x00000000#32) reducesTo_S8x4x2048x128_S8x4x2048_d3 h_S_))
          (broadcastInDim S8x4x2048x1 ![] bcast_S_S8x4x2048x1 (constant S_ .f32 0x43000000#32)))
        (broadcastInDim S8x4x2048x1 ![] bcast_S_S8x4x2048x1 (constant S_ .f32 0x358637BD#32))))))
    (broadcastInDim S8x4x2048x128 ![0, 1, 2, 3] bcast_S1x1x1x128_S8x4x2048x128_0_1_2_3 (broadcastInDim S1x1x1x128 ![3] bcast_S128_S1x1x1x128_3 g)))
    (broadcastInDim S8x4x2048x128 ![] bcast_S_S8x4x2048x128 (constant S_ .f32 0x3F4CCCCD#32)))
    transposes_S8x4x2048x128_S8x2048x4x128_0_2_1_3) shapeCasts_S8x2048x4x128_S16384x512) bitsLt_bf16_f32

set_option maxHeartbeats 2000000 in
/-- The reference's result is its stages, one after another. -/
theorem res_eq (m : (ℓ : Loc nD τ sig) → Buf (Elt Ideal) ℓ) (c : Dev nD) : Cert.ReferenceIdeal.Value.res_main_v75 m c =
    norm (means (diff (soft (weights (scores (m ((c.tc : Thread nD τ).loc main_arg0))))) (lam (m ((c.tc : Thread nD τ).loc main_arg2))))
      (values (m ((c.tc : Thread nD τ).loc main_arg1)))) (m ((c.tc : Thread nD τ).loc main_arg3)) := by
  sl_kernel_rfl

/-- A maximum along the last of five axes, at any extents. -/
theorem max_last {n0 n1 n2 n3 n4 : ℕ} (s : FVec Ideal ⟨5, ![n0, n1, n2, n3, n4]⟩ .f32) (z : FVec Ideal S_ .f32)
    (h : (⟨5, ![n0, n1, n2, n3, n4]⟩ : Shape).ReducesTo [4] ⟨4, ![n0, n1, n2, n3]⟩) (hz : 0 < S_.numel)
    (a : Fin n0) (b : Fin n1) (c : Fin n2) (d : Fin n3) :
    Host.reduce FloatOps.maximumf s z h hz (ix4 a b c d) = Finset.univ.fold max (z ix0) fun k : Fin n4 => s (ix5 a b c d k) := by
  have e : Shape.Idx.first hz = ix0 := funext fun j => j.elim0
  pointwise
  rw [e]

/-- A larger-of, in a cell. -/
theorem maximumf_at {t : Shape} (x y : FVec Ideal t .f32) (j : t.Idx) : maximumf x y j = max (x j) (y j) := rfl

/-- The queries, in the argument. -/
theorem queries_at (A : FVec Ideal S16384x2048 .bf16) (b : Fin 8) (H : Fin 4) (p : Fin 2) (i : Fin 2048) (d : Fin 64) :
    queries A (ix5 b H p i d) = A (ix2 ⟨2048 * b.val + i.val, by omega⟩ ⟨128 * H.val + 64 * p.val + d.val, by omega⟩) := by
  pointwise [queries]
  blk_ext

/-- The keys, in the argument. -/
theorem keys_at (A : FVec Ideal S16384x2048 .bf16) (b : Fin 8) (H : Fin 4) (p : Fin 2) (i : Fin 2048) (d : Fin 64) :
    keys A (ix5 b H p i d) = A (ix2 ⟨2048 * b.val + i.val, by omega⟩ ⟨512 + 128 * H.val + 64 * p.val + d.val, by omega⟩) := by
  pointwise [keys]
  blk_ext

/-- The values, in the argument. -/
theorem values_at (A : FVec Ideal S16384x8192 .bf16) (b : Fin 8) (H : Fin 4) (i : Fin 2048) (d : Fin 128) :
    values A (ix4 b H i d) = A (ix2 ⟨2048 * b.val + i.val, by omega⟩ ⟨3072 + 128 * H.val + d.val, by omega⟩) := by
  pointwise [values]
  blk_ext

/-- The weight of the second map is the kernel's. -/
theorem lam_at (L : FVec Ideal S4x64 .f32) : lam L ix0 = lamE L := by
  pointwise [lam, lamE]

/-- The pattern `0x40000000` is two, whose logarithm is real. -/
theorem log_two : Ideal.log (Ideal.ofBits .f32 0x40000000#32) = ((Real.log 2 : ℝ) : EReal) := by
  have h : Ideal.ofBits .f32 0x40000000#32 = ((2 : ℝ) : EReal) := by
    simp only [Ideal.ofBits, Ideal.ieee]
    simp
    rw [← EReal.coe_mul]
    norm_num
  rw [h]
  show (if (2 : ℝ) ≤ 0 then (⊥ : EReal) else (Real.log 2 : ℝ)) = _
  rw [if_neg (by norm_num)]

/-- The masked scores. -/
theorem scores_at (A : FVec Ideal S16384x2048 .bf16) (b : Fin 8) (H : Fin 4) (p : Fin 2) (i k : Fin 2048) :
    scores A (ix5 b H p i k) = if k.val ≤ i.val then (∑ d : Fin 64, queries A (ix5 b H p i d) * keys A (ix5 b H p k d)) * ((Real.log 2 : ℝ) : EReal) else ⊥ := by
  pointwise [scores]
  rw [log_two, bot_bits, WordCmp.cmpi_sle_ofNat (by omega) (by omega)]
  by_cases h : k.val ≤ i.val <;> simp [h, Scalar.select]

/-- Each row's maximum. -/
theorem rowMax_at (s : FVec Ideal S8x4x2x2048x2048 .f32) (b : Fin 8) (H : Fin 4) (p : Fin 2) (i : Fin 2048) :
    rowMax s (ix4 b H p i) = Finset.univ.fold max ⊥ fun k : Fin 2048 => s (ix5 b H p i k) := by
  have h := max_last s (constant S_ .f32 0xFF800000#32) reducesTo_S8x4x2x2048x2048_S8x4x2x2048_d4 h_S_ b H p i
  have z : (constant S_ .f32 0xFF800000#32 : FVec Ideal S_ .f32) ix0 = ⊥ := bot_bits
  rw [z] at h
  unfold rowMax
  rw [maximumf_at, h]
  refine (congrArg (max · _) ?_).trans (max_eq_right bot_le)
  exact bot_bits

/-- The weights before they are normalised. -/
theorem weights_at (s : FVec Ideal S8x4x2x2048x2048 .f32) (b : Fin 8) (H : Fin 4) (p : Fin 2) (i k : Fin 2048) :
    weights s (ix5 b H p i k) = Ideal.exp (s (ix5 b H p i k) - rowMax s (ix4 b H p i)) := by
  pointwise [weights, spread]

/-- The softmax. -/
theorem soft_at (e : FVec Ideal S8x4x2x2048x2048 .f32) (b : Fin 8) (H : Fin 4) (p : Fin 2) (i k : Fin 2048) :
    soft e (ix5 b H p i k) = Ideal.div (e (ix5 b H p i k)) (∑ x : Fin 2048, e (ix5 b H p i x)) := by
  pointwise [soft, spread]

/-- The difference of the two maps. -/
theorem diff_at (p : FVec Ideal S8x4x2x2048x2048 .f32) (l : FVec Ideal S_ .f32) (b : Fin 8) (H : Fin 4) (i k : Fin 2048) :
    diff p l (ix4 b H i k) = p (ix5 b H 0 i k) - l ix0 * p (ix5 b H 1 i k) := by
  pointwise [diff]

/-- The weighted means. -/
theorem means_at (a : FVec Ideal S8x4x2048x2048 .f32) (v : FVec Ideal S8x4x2048x128 .f32) (b : Fin 8) (H : Fin 4) (i : Fin 2048) (d : Fin 128) :
    means a v (ix4 b H i d) = ∑ k : Fin 2048, a (ix4 b H i k) * v (ix4 b H k d) := by
  pointwise [means]

/-- The result, in its rows and lanes. -/
theorem norm_at (o : FVec Ideal S8x4x2048x128 .f32) (g : FVec Ideal S128 .f32) (R : Fin 16384) (C : Fin 512) :
    norm o g (ix2 R C) = normE (fun d => o (ix4 ⟨R.val / 2048, by omega⟩ ⟨C.val / 128, by omega⟩ ⟨R.val % 2048, by omega⟩ d))
      (g (ix1 ⟨C.val % 128, by omega⟩)) ⟨C.val % 128, by omega⟩ := by
  pointwise [norm, normE]

end Cert.ReferenceIdeal.RefRead

end
-- ==== Proof.RefFinal.lean ====
/-
  The reference's result array, from its argument arrays.
-/
module

public import proofs.«01_k».proof.Proof.RefRead
public import proofs.«01_k».proof.Proof.Final

@[expose] public section

set_option maxRecDepth 16384

noncomputable section

namespace Cert.ReferenceIdeal.RefRead

open Cert.ReferenceIdeal Cert.ReferenceIdeal.Gen Idealize.ShloMosaic Idealize.ShloMosaic.TcCoe
open Cert.KernelIdeal.RefValue (coe_sum rho rl rl_at IsReal scoreR valueR resE normE lamE RealArgs)

/-- A product of the reference's queries and keys is the score. -/
theorem score_real {A : FVec Ideal S16384x2048 .bf16} (hA : ∀ (r : Fin 16384) (c : Fin 2048), c.val < 1024 → IsReal (A (ix2 r c)))
    (b : Fin 8) (H : Fin 4) (p : Fin 2) (i k : Fin 2048) :
    ∑ d : Fin 64, queries A (ix5 b H p i d) * keys A (ix5 b H p k d) = ((scoreR A b.val H.val p.val i.val k.val : ℝ) : EReal) := by
  rw [scoreR, coe_sum]
  refine Finset.sum_congr rfl fun d _ => ?_
  rw [queries_at, keys_at,
    rl_at A ⟨2048 * b.val + i.val, by omega⟩ ⟨128 * H.val + 64 * p.val + d.val, by omega⟩ (hA _ _ (by show _ < 1024; simp only []; omega)) _ _ rfl rfl,
    rl_at A ⟨2048 * b.val + k.val, by omega⟩ ⟨512 + 128 * H.val + 64 * p.val + d.val, by omega⟩ (hA _ _ (by show _ < 1024; simp only []; omega)) _ _ rfl rfl,
    EReal.coe_mul]

/-- A maximum of values below infinity, one of them above minus infinity, is real. -/
theorem fold_real {n : ℕ} (f : Fin n → EReal) (ht : ∀ k, f k ≠ ⊤) (z : Fin n) (h0 : f z ≠ ⊥) :
    ∃ μ : ℝ, Finset.univ.fold max ⊥ f = (μ : EReal) := by
  have h1 : Finset.univ.fold max ⊥ f < ⊤ :=
    (Finset.fold_max_lt _).2 ⟨bot_lt_top, fun k _ => lt_of_le_of_ne le_top (ht k)⟩
  have h2 : ⊥ < Finset.univ.fold max ⊥ f :=
    (Finset.lt_fold_max _).2 (.inr ⟨z, Finset.mem_univ _, lt_of_le_of_ne bot_le h0.symm⟩)
  exact ⟨_, (EReal.coe_toReal h1.ne h2.ne').symm⟩

/-- A sum over a row's keys that leaves out the late ones is the sum over the early ones. -/
theorem sum_early {n : ℕ} (i : Fin n) (f : ℕ → ℝ) :
    (∑ k : Fin n, if k.val ≤ i.val then f k.val else 0) = ∑ k ∈ Finset.range (i.val + 1), f k := by
  rw [← Finset.sum_range (fun k => if k ≤ i.val then f k else 0), ← Finset.sum_filter]
  refine Finset.sum_congr (Finset.ext fun k => ?_) fun _ _ => rfl
  rw [Finset.mem_filter, Finset.mem_range, Finset.mem_range]
  have := i.isLt
  omega

/-- The exponential of a score times the logarithm of two, less a real. -/
theorem exp_two (x μ : ℝ) : Ideal.exp (((x * Real.log 2 : ℝ) : EReal) - (μ : EReal)) = (((2 : ℝ) ^ x * Real.exp (-μ) : ℝ) : EReal) := by
  rw [← EReal.coe_sub]
  show ((Real.exp (x * Real.log 2 - μ) : ℝ) : EReal) = _
  rw [sub_eq_add_neg, Real.exp_add, Real.rpow_def_of_pos two_pos, mul_comm x]

/-- A masked row of scores gives the softmax, in powers of two. -/
theorem soft_real (s : FVec Ideal S8x4x2x2048x2048 .f32) (S : ℕ → ℕ → ℝ) (b : Fin 8) (H : Fin 4) (p : Fin 2) (i : Fin 2048)
    (hs : ∀ k : Fin 2048, s (ix5 b H p i k) = if k.val ≤ i.val then ((S i.val k.val * Real.log 2 : ℝ) : EReal) else ⊥) (k : Fin 2048) :
    soft (weights s) (ix5 b H p i k)
      = ((if k.val ≤ i.val then (2 : ℝ) ^ S i.val k.val / ∑ x ∈ Finset.range (i.val + 1), (2 : ℝ) ^ S i.val x else 0 : ℝ) : EReal) := by
  obtain ⟨μ, hμ⟩ : ∃ μ : ℝ, rowMax s (ix4 b H p i) = (μ : EReal) := by
    rw [rowMax_at]
    refine fold_real _ (fun k => ?_) i ?_
    · rw [hs k]
      split
      · exact EReal.coe_ne_top _
      · exact bot_ne_top
    · rw [hs i, if_pos le_rfl]
      exact EReal.coe_ne_bot _
  have hw (k : Fin 2048) : weights s (ix5 b H p i k)
      = ((if k.val ≤ i.val then (2 : ℝ) ^ S i.val k.val * Real.exp (-μ) else 0 : ℝ) : EReal) := by
    rw [weights_at, hμ, hs k]
    split
    · exact exp_two _ _
    · rw [EReal.bot_sub]
      rfl
  have hd : ∑ x : Fin 2048, weights s (ix5 b H p i x)
      = (((∑ x ∈ Finset.range (i.val + 1), (2 : ℝ) ^ S i.val x) * Real.exp (-μ) : ℝ) : EReal) := by
    rw [Finset.sum_mul, ← sum_early i (fun x => (2 : ℝ) ^ S i.val x * Real.exp (-μ)), coe_sum]
    exact Finset.sum_congr rfl fun x _ => hw x
  have hp : 0 < ∑ x ∈ Finset.range (i.val + 1), (2 : ℝ) ^ S i.val x :=
    Finset.sum_pos (fun x _ => Real.rpow_pos_of_pos two_pos _) ⟨0, Finset.mem_range.2 (Nat.succ_pos _)⟩
  have he : 0 < Real.exp (-μ) := Real.exp_pos _
  rw [soft_at, hd, hw k, Ideal.div_coe (mul_pos hp he).ne', ← EReal.coe_mul, mul_one_div]
  refine congrArg _ ?_
  by_cases h : k.val ≤ i.val
  · rw [if_pos h, if_pos h]
    exact mul_div_mul_right _ _ he.ne'
  · rw [if_neg h, if_neg h]
    exact zero_div _

/-- The masked scores, as reals. -/
theorem scores_real {A : FVec Ideal S16384x2048 .bf16} (hA : ∀ (r : Fin 16384) (c : Fin 2048), c.val < 1024 → IsReal (A (ix2 r c)))
    (b : Fin 8) (H : Fin 4) (p : Fin 2) (i k : Fin 2048) :
    scores A (ix5 b H p i k) = if k.val ≤ i.val then ((scoreR A b.val H.val p.val i.val k.val * Real.log 2 : ℝ) : EReal) else ⊥ := by
  rw [scores_at, score_real hA, EReal.coe_mul]

/-- The reference's values, as reals. -/
theorem values_real {A : FVec Ideal S16384x8192 .bf16}
    (hA : ∀ (r : Fin 16384) (c : Fin 8192), 3072 ≤ c.val → c.val < 3584 → IsReal (A (ix2 r c)))
    (b : Fin 8) (H : Fin 4) (k : Fin 2048) (d : Fin 128) :
    values A (ix4 b H k d) = ((valueR A b.val H.val k.val d.val : ℝ) : EReal) := by
  rw [values_at, valueR, if_pos d.isLt]
  exact rl_at A ⟨2048 * b.val + k.val, by omega⟩ ⟨3072 + 128 * H.val + d.val, by omega⟩
    (hA _ _ (by show 3072 ≤ 3072 + 128 * H.val + d.val; omega) (by show 3072 + 128 * H.val + d.val < 3584; omega)) _ _ rfl rfl

/-- The weight of the second map is real where its four vectors are. -/
theorem lam_real {L : FVec Ideal S4x64 .f32} (hL : ∀ r d, IsReal (L (ix2 r d))) : ∃ l : ℝ, lamE L = (l : EReal) := by
  have hs (a b : Fin 4) : ∑ d : Fin 64, L (ix2 a d) * L (ix2 b d)
      = ((∑ d : Fin 64, (L (ix2 a d)).toReal * (L (ix2 b d)).toReal : ℝ) : EReal) := by
    rw [coe_sum]
    refine Finset.sum_congr rfl fun d _ => ?_
    rw [EReal.coe_mul, EReal.coe_toReal (hL a d).1 (hL a d).2, EReal.coe_toReal (hL b d).1 (hL b d).2]
  obtain ⟨z, hz⟩ : ∃ z : ℝ, Ideal.ofBits .f32 0x3E4CCCCD#32 = (z : EReal) := by
    simp only [Ideal.ofBits, Ideal.ieee]
    simp
    exact ⟨_, (EReal.coe_mul _ _).symm⟩
  rw [lamE, hs, hs, hz]
  exact ⟨Real.exp _ - Real.exp _ + z, by rw [EReal.coe_add, EReal.coe_sub]; rfl⟩

/-- The weighted mean of the values under the difference of the maps. -/
theorem mean_real {A0 : FVec Ideal S16384x2048 .bf16} {A1 : FVec Ideal S16384x8192 .bf16} (hA : RealArgs A0 A1)
    {L : FVec Ideal S4x64 .f32} (hL : ∀ r d, IsReal (L (ix2 r d))) (b : Fin 8) (H : Fin 4) (i : Fin 2048) (d : Fin 128) :
    means (diff (soft (weights (scores A0))) (lam L)) (values A1) (ix4 b H i d)
      = ((rho (scoreR A0 b.val H.val 0) (valueR A1 b.val H.val) i.val d.val : ℝ) : EReal)
        - lamE L * ((rho (scoreR A0 b.val H.val 1) (valueR A1 b.val H.val) i.val d.val : ℝ) : EReal) := by
  obtain ⟨l, hl⟩ := lam_real hL
  have hm (k : Fin 2048) : diff (soft (weights (scores A0))) (lam L) (ix4 b H i k) * values A1 (ix4 b H k d)
      = ((if k.val ≤ i.val then
          (2 : ℝ) ^ scoreR A0 b.val H.val 0 i.val k.val * valueR A1 b.val H.val k.val d.val
              / (∑ x ∈ Finset.range (i.val + 1), (2 : ℝ) ^ scoreR A0 b.val H.val 0 i.val x)
            - l * ((2 : ℝ) ^ scoreR A0 b.val H.val 1 i.val k.val * valueR A1 b.val H.val k.val d.val
              / (∑ x ∈ Finset.range (i.val + 1), (2 : ℝ) ^ scoreR A0 b.val H.val 1 i.val x)) else 0 : ℝ) : EReal) := by
    rw [diff_at, lam_at, hl, values_real hA.v,
      soft_real _ (scoreR A0 b.val H.val 0) b H 0 i (scores_real hA.qk b H 0 i) k,
      soft_real _ (scoreR A0 b.val H.val 1) b H 1 i (scores_real hA.qk b H 1 i) k,
      ← EReal.coe_mul, ← EReal.coe_sub, ← EReal.coe_mul]
    refine congrArg _ ?_
    by_cases h : k.val ≤ i.val
    · simp only [if_pos h]
      ring
    · simp only [if_neg h]
      ring
  rw [means_at, hl, ← EReal.coe_mul, ← EReal.coe_sub, Finset.sum_congr rfl fun k _ => hm k, ← coe_sum]
  refine congrArg _ ?_
  rw [sum_early i (fun k => (2 : ℝ) ^ scoreR A0 b.val H.val 0 i.val k * valueR A1 b.val H.val k d.val
              / (∑ x ∈ Finset.range (i.val + 1), (2 : ℝ) ^ scoreR A0 b.val H.val 0 i.val x)
            - l * ((2 : ℝ) ^ scoreR A0 b.val H.val 1 i.val k * valueR A1 b.val H.val k d.val
              / (∑ x ∈ Finset.range (i.val + 1), (2 : ℝ) ^ scoreR A0 b.val H.val 1 i.val x))),
    Finset.sum_sub_distrib, ← Finset.mul_sum, ← Finset.sum_div, ← Finset.sum_div, rho, rho]

/-- The reference's result, from its four arguments. -/
theorem result {A0 : FVec Ideal S16384x2048 .bf16} {A1 : FVec Ideal S16384x8192 .bf16} (hA : RealArgs A0 A1)
    {L : FVec Ideal S4x64 .f32} (hL : ∀ r d, IsReal (L (ix2 r d))) (g : FVec Ideal S128 .f32) :
    norm (means (diff (soft (weights (scores A0))) (lam L)) (values A1)) g
      = fun y => resE A0 A1 L g ((y 0).val / 2048) ((y 1).val / 128) ((y 0).val % 2048) ⟨(y 1).val % 128, Nat.mod_lt _ (by norm_num)⟩ := by
  funext y
  obtain ⟨R, C, rfl⟩ : ∃ (R : Fin 16384) (C : Fin 512), y = ix2 R C := ⟨y 0, y 1, by funext a; fin_cases a <;> rfl⟩
  rw [norm_at, resE]
  simp only [mean_real hA hL]
  rfl

end Cert.ReferenceIdeal.RefRead

end
-- ==== Proof.Pre.lean ====
/-
  What the precondition says of the arguments: the elements it reads are reals.
-/
module

public import proofs.«01_k».proof.Proof.Gen.Pre_finite_inputs
public import proofs.«01_k».proof.Proof.Final
public import Idealize.ShloMosaic.Lib.ReduceAll

@[expose] public section

set_option maxRecDepth 16384

noncomputable section

namespace Cert.Pre_finite_inputs.Meaning

open Cert.Pre_finite_inputs Cert.Pre_finite_inputs.Gen Idealize.ShloMosaic
open Cert.KernelIdeal.RefValue (IsReal RealArgs)

/-- The pattern `0x7F800000` is infinity. -/
theorem top_bits : Ideal.ofBits .f32 0x7F800000#32 = ⊤ := by
  simp [Ideal.ofBits, Ideal.ieee]

/-- An element whose absolute value is below infinity is a real. -/
theorem real_of_lt (x : EReal) (h : Ideal.cmp .olt (max x (-x)) (Ideal.ofBits .f32 0x7F800000#32) = 1#1) : IsReal x := by
  rw [top_bits] at h
  have h' : max x (-x) < ⊤ := by
    by_contra n
    simp [Ideal.cmp, n] at h
  refine ⟨fun e => ?_, fun e => ?_⟩
  · subst e; simp at h'
  · subst e; simp at h'

instance : Subsingleton S_.Idx := ⟨fun a b => funext fun j => j.elim0⟩

/-- All elements of an array pass the comparison where the precondition's conjunction is one. -/
theorem all_real {s : Shape} {axes : List (Fin s.rank)} (x : FVec Ideal s .f32) (hb : S_.BroadcastsInDim s (![] : Fin 0 → Fin s.rank))
    (hr : s.ReducesTo axes S_) (hz : 0 < S_.numel) (j : S_.Idx)
    (h : Host.reduce IntOp.andi (cmpf .olt (Host.absf x) (broadcastInDim s ![] hb (constant S_ .f32 0x7F800000#32))) (constantI S_ 1 1#1) hr hz j = 1#1)
    (i : s.Idx) : IsReal (x i) :=
  real_of_lt _ (Host.reduce_andi_all _ _ hr hz j h i)

/-- Where the precondition holds, the queries, keys, values and vectors of lambda are reals. -/
theorem reals (A0 : FVec Ideal S16384x2048 .bf16) (A1 : FVec Ideal S16384x8192 .bf16) (L : FVec Ideal S4x64 .f32) (g : FVec Ideal S128 .f32)
    (h : fn (F := Ideal) A0 A1 L g = fun _ => 1#1) : RealArgs A0 A1 ∧ ∀ r d, IsReal (L (ix2 r d)) := by
  have e := congrFun h ix0
  dsimp only [fn] at e
  obtain ⟨e, e2⟩ := IntOp.andi_eq_one.1 e
  obtain ⟨e0, e1⟩ := IntOp.andi_eq_one.1 e
  refine ⟨⟨fun r c hc => ?_, fun r c h0 h1 => ?_⟩, fun r d => all_real _ _ _ _ _ e2 (ix2 r d)⟩
  · have a := all_real _ _ _ _ _ e0 (ix2 r ⟨c.val, hc⟩)
    refine (congrArg (fun i => IsReal (A0 i)) ?_).mp a
    funext j
    apply Fin.ext
    fin_cases j
    · show 0 + r.val = r.val; omega
    · show 0 + c.val = c.val; omega
  · have a := all_real _ _ _ _ _ e1 (ix2 r ⟨c.val - 3072, by omega⟩)
    refine (congrArg (fun i => IsReal (A1 i)) ?_).mp a
    funext j
    apply Fin.ext
    fin_cases j
    · show 0 + r.val = r.val; omega
    · show 3072 + (c.val - 3072) = c.val; omega

end Cert.Pre_finite_inputs.Meaning

end
-- ==== Proof.MergeValue.lean ====
/-
  The merge of the three mixers: the result array of the kernel, from its argument arrays.
-/
module

public import proofs.«01_k».proof.Proof.Point
public import proofs.«01_k».proof.Proof.Gen.MergeIdeal.Value
public import Idealize.ShloMosaic.Lib.Pipeline.ValueKit
public import Idealize.ShloMosaic.Lib.Claim

@[expose] public section

set_option maxRecDepth 16384

noncomputable section

namespace Cert.MergeIdeal.RefValue

open Cert.MergeIdeal Cert.MergeIdeal.Gen Idealize.ShloMosaic Idealize.ShloMosaic.TcCoe Idealize.SL.Sem
open Cert.KernelIdeal.RefValue (Sh idx_of)

/-- The merged row's entry: three gated products, summed. -/
def mergedE (p b : Fin 3 → EReal) (ya : Fin 1024 → EReal) (yb yc : Fin 512 → EReal) (wa : Fin 1024 → EReal) (wb wc : Fin 512 → EReal) : EReal :=
  Ideal.logistic (p 0 + b 0) * (∑ j, ya j * wa j) + Ideal.logistic (p 1 + b 1) * (∑ j, yb j * wb j)
    + Ideal.logistic (p 2 + b 2) * (∑ j, yc j * wc j)

/-- The result at row `R` and lane `C`, from the whole arrays. -/
def resE (x : (Sh 16384 1024).Idx → EReal) (ya : (Sh 16384 1024).Idx → EReal) (yb yc : (Sh 16384 512).Idx → EReal)
    (pj : (Sh 16384 8192).Idx → EReal) (gb : (Sh 3 1024).Idx → EReal) (md : S8x6x1024.Idx → EReal) (wa : (Sh 1024 1024).Idx → EReal)
    (wb wc : (Sh 512 1024).Idx → EReal) (wo : (Sh 1024 1024).Idx → EReal) (R : Fin 16384) (C : Fin 1024) : EReal :=
  x (ix2 R C) + md (ix3 ⟨R.val / 2048, by omega⟩ 2 C) * ∑ k : Fin 1024,
    mergedE (fun a => pj (ix2 R ⟨5120 + 1024 * a.val + k.val, by omega⟩)) (fun a => gb (ix2 a k)) (fun j => ya (ix2 R j)) (fun j => yb (ix2 R j))
      (fun j => yc (ix2 R j)) (fun j => wa (ix2 j k)) (fun j => wb (ix2 j k)) (fun j => wc (ix2 j k)) * wo (ix2 k C)

section
variable (x0 : Vec Ideal S1024x1024 .f32) (x1 : Vec Ideal S1024x1024 .bf16) (x2 : Vec Ideal S1024x512 .bf16) (x3 : Vec Ideal S1024x512 .bf16)
  (x4 : Vec Ideal S1024x1024 .bf16) (x5 : Vec Ideal S1024x1024 .bf16) (x6 : Vec Ideal S1024x1024 .bf16) (x7 : Vec Ideal S3x1024 .f32)
  (x8 : Vec Ideal S1x6x1024 .f32) (x9 : Vec Ideal S1024x1024 .bf16) (x10 : Vec Ideal S512x1024 .bf16) (x11 : Vec Ideal S512x1024 .bf16)
  (x12 : Vec Ideal S1024x1024 .bf16)

/-- A row of the gates' biases. -/
theorem bias0 (k : Fin 1024) : View.ld x7 r0_1 (ix2 (n0 := 1) 0 k) = x7 (ix2 0 k) :=
  congrArg x7 (idx_of _ _ _ (by show 0 + 1 * 0 = 0; rfl) (by show 0 + 1 * k.val = k.val; omega))
/-- A row of the gates' biases. -/
theorem bias1 (k : Fin 1024) : View.ld x7 r0_2 (ix2 (n0 := 1) 0 k) = x7 (ix2 1 k) :=
  congrArg x7 (idx_of _ _ _ (by show 1 + 1 * 0 = 1; rfl) (by show 0 + 1 * k.val = k.val; omega))
/-- A row of the gates' biases. -/
theorem bias2 (k : Fin 1024) : View.ld x7 r0_5 (ix2 (n0 := 1) 0 k) = x7 (ix2 2 k) :=
  congrArg x7 (idx_of _ _ _ (by show 2 + 1 * 0 = 2; rfl) (by show 0 + 1 * k.val = k.val; omega))

/-- The first two gated products. -/
theorem pay2_at (v0 : Vec Ideal S1024x1024 .bf16) (v2 : Vec Ideal S1x1024 .f32) (v6 v7 v11 : Vec Ideal S1024x1024 .bf16) (v13 : Vec Ideal S1x1024 .f32)
    (v17 : Vec Ideal S1024x512 .bf16) (v18 : Vec Ideal S512x1024 .bf16) (r k : Fin 1024) :
    k0_pay2 v0 v2 v6 v7 v11 v13 v17 v18 (ix2 r k) = Ideal.logistic (v0 (ix2 r k) + v2 (ix2 0 k)) * (∑ j : Fin 1024, v6 (ix2 r j) * v7 (ix2 j k))
      + Ideal.logistic (v11 (ix2 r k) + v13 (ix2 0 k)) * (∑ j : Fin 512, v17 (ix2 r j) * v18 (ix2 j k)) := by
  pointwise [k0_pay2]

/-- The third gate. -/
theorem pay3_at (v23 : Vec Ideal S1024x1024 .bf16) (v25 : Vec Ideal S1x1024 .f32) (r k : Fin 1024) :
    k0_pay3 v23 v25 (ix2 r k) = Ideal.logistic (v23 (ix2 r k) + v25 (ix2 0 k)) := by
  pointwise [k0_pay3]

/-- The stored tile. -/
theorem pay1_at (v22 v28 : FVec Ideal S1024x1024 .f32) (v29 : Vec Ideal S1024x512 .bf16) (v30 : Vec Ideal S512x1024 .bf16)
    (v36 : Vec Ideal S1024x1024 .bf16) (v39 : Vec Ideal S1024x1024 .f32) (v40 : Vec Ideal S1x6x1024 .f32) (r c : Fin 1024) :
    k0_pay1 v22 v28 v29 (k0_pay4 v30) (constant S1024x1024 .f32 0x00000000#32) v36 v39 v40 (ix2 r c)
      = v39 (ix2 r c) + v40 (ix3 0 2 c) * ∑ k : Fin 1024, (v22 (ix2 r k) + v28 (ix2 r k) * ∑ j : Fin 512, v29 (ix2 r j) * v30 (ix2 j k)) * v36 (ix2 k c) := by
  pointwise [k0_pay1, k0_pay4]

/-- What the body leaves at a place of the block. -/
theorem out_at (r c : Fin 1024) : out0_13 x0 x1 x2 x3 x4 x5 x6 x7 x8 x9 x10 x11 x12 (ix2 r c)
    = x0 (ix2 r c) + x8 (ix3 0 2 c) * ∑ k : Fin 1024, mergedE (fun a => match a with | 0 => x4 (ix2 r k) | 1 => x5 (ix2 r k) | 2 => x6 (ix2 r k))
        (fun a => x7 (ix2 a k)) (fun j => x1 (ix2 r j)) (fun j => x2 (ix2 r j)) (fun j => x3 (ix2 r j)) (fun j => x9 (ix2 j k))
        (fun j => x10 (ix2 j k)) (fun j => x11 (ix2 j k)) * x12 (ix2 k c) := by
  have e (x : Vec Ideal S1024x1024 .bf16) : View.ld x r0_0 = x := View.ld_unit_lit _ _ (by decide)
  have e3 (x : Vec Ideal S1024x512 .bf16) : View.ld x r0_3 = x := View.ld_unit_lit _ _ (by decide)
  have e4 (x : Vec Ideal S512x1024 .bf16) : View.ld x r0_4 = x := View.ld_unit_lit _ _ (by decide)
  have e0 : View.ld x0 r0_0 = x0 := View.ld_unit_lit _ _ (by decide)
  have e6 : View.ld x8 r0_6 = x8 := View.ld_unit_lit _ _ (by decide)
  unfold out0_13
  rw [View.canon_cons_unit_lit _ _ _ (by decide), e0, e6, e x1, e x4, e x5, e x6, e x9, e x12, e3 x2, e3 x3, e4 x10, e4 x11, pay1_at]
  refine congrArg (fun s : EReal => x0 (ix2 r c) + x8 (ix3 0 2 c) * s) (Finset.sum_congr rfl fun k _ => ?_)
  rw [pay2_at, pay3_at, mergedE]
  erw [bias0, bias1, bias2]
end

variable (m : (ℓ : Loc nD τ sig) → Buf (Elt Ideal) ℓ)

/-- The blocks' places, at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 5] ∧ win0_5.index t = ![t.val, 6] ∧ win0_6.index t = ![t.val, 7]
    ∧ win0_7.index t = ![0, 0] ∧ win0_8.index t = ![t.val / 2, 0, 0] ∧ win0_9.index t = ![0, 0] ∧ win0_10.index t = ![0, 0]
    ∧ win0_11.index t = ![0, 0] ∧ win0_12.index t = ![0, 0] ∧ win0_13.index t = ![t.val, 0] ∧ t.val < 16 :=
  (by decide +kernel : ∀ t : Fin grid0.N, _)

section
variable (c : Dev nD) (t : Fin cfg0.N)

/-- A block of the first argument. -/
theorem blk0 (r l : Fin 1024) (R : Fin 16384) (hR : R.val = 1024 * t.val + r.val) :
    (iblk m c 0 t : Vec Ideal S1024x1024 .f32) (ix2 r l) = (m ((c : Thread nD τ).loc main_arg0) : (Sh 16384 1024).Idx → EReal) (ix2 R l) := by
  blk_ext [iblk, V, idx t]
/-- A block of the first mixer's rows. -/
theorem blk1 (r l : Fin 1024) (R : Fin 16384) (hR : R.val = 1024 * t.val + r.val) :
    (iblk m c 1 t : Vec Ideal S1024x1024 .bf16) (ix2 r l) = (m ((c : Thread nD τ).loc main_arg1) : (Sh 16384 1024).Idx → EReal) (ix2 R l) := by
  blk_ext [iblk, V, idx t]
/-- A block of the second mixer's rows. -/
theorem blk2 (r : Fin 1024) (l : Fin 512) (R : Fin 16384) (hR : R.val = 1024 * t.val + r.val) :
    (iblk m c 2 t : Vec Ideal S1024x512 .bf16) (ix2 r l) = (m ((c : Thread nD τ).loc main_arg2) : (Sh 16384 512).Idx → EReal) (ix2 R l) := by
  blk_ext [iblk, V, idx t]
/-- A block of the third mixer's rows. -/
theorem blk3 (r : Fin 1024) (l : Fin 512) (R : Fin 16384) (hR : R.val = 1024 * t.val + r.val) :
    (iblk m c 3 t : Vec Ideal S1024x512 .bf16) (ix2 r l) = (m ((c : Thread nD τ).loc main_arg3) : (Sh 16384 512).Idx → EReal) (ix2 R l) := by
  blk_ext [iblk, V, idx t]
/-- The gates' blocks, in the projection. -/
theorem blk4 (a : Fin 3) (r l : Fin 1024) (R : Fin 16384) (hR : R.val = 1024 * t.val + r.val) :
    (match a with
      | 0 => (iblk m c 4 t : Vec Ideal S1024x1024 .bf16) (ix2 r l)
      | 1 => (iblk m c 5 t : Vec Ideal S1024x1024 .bf16) (ix2 r l)
      | 2 => (iblk m c 6 t : Vec Ideal S1024x1024 .bf16) (ix2 r l))
      = (m ((c : Thread nD τ).loc main_arg4) : (Sh 16384 8192).Idx → EReal) (ix2 R ⟨5120 + 1024 * a.val + l.val, by omega⟩) := by
  match a with
  | 0 => blk_ext [iblk, V, idx t]
  | 1 => blk_ext [iblk, V, idx t]
  | 2 => blk_ext [iblk, V, idx t]
/-- The gates' biases, whole. -/
theorem blk7 : iblk m c 7 t = m ((c : Thread nD τ).loc main_arg5) := by
  blk_ext! [iblk, V, idx t]
/-- A batch row's modulation. -/
theorem blk8 (l : Fin 1024) (b : Fin 8) (hb : b.val = t.val / 2) :
    (iblk m c 8 t : Vec Ideal S1x6x1024 .f32) (ix3 0 2 l) = (m ((c : Thread nD τ).loc main_arg6) : S8x6x1024.Idx → EReal) (ix3 b 2 l) := by
  blk_ext [iblk, V, idx t]
/-- The first mixer's weights, whole. -/
theorem blk9 (j k : Fin 1024) : (iblk m c 9 t : Vec Ideal S1024x1024 .bf16) (ix2 j k) = (m ((c : Thread nD τ).loc main_arg7) : (Sh 1024 1024).Idx → EReal) (ix2 j k) := by
  blk_simp [iblk]
  entry_read
  pointwise
  blk_ext [idx t]
/-- The second mixer's weights, whole. -/
theorem blk10 (j : Fin 512) (k : Fin 1024) : (iblk m c 10 t : Vec Ideal S512x1024 .bf16) (ix2 j k) = (m ((c : Thread nD τ).loc main_arg8) : (Sh 512 1024).Idx → EReal) (ix2 j k) := by
  blk_simp [iblk]
  entry_read
  pointwise
  blk_ext [idx t]
/-- The third mixer's weights, whole. -/
theorem blk11 (j : Fin 512) (k : Fin 1024) : (iblk m c 11 t : Vec Ideal S512x1024 .bf16) (ix2 j k) = (m ((c : Thread nD τ).loc main_arg9) : (Sh 512 1024).Idx → EReal) (ix2 j k) := by
  blk_simp [iblk]
  entry_read
  pointwise
  blk_ext [idx t]
/-- The output's weights, whole. -/
theorem blk12 (j k : Fin 1024) : (iblk m c 12 t : Vec Ideal S1024x1024 .bf16) (ix2 j k) = (m ((c : Thread nD τ).loc main_arg10) : (Sh 1024 1024).Idx → EReal) (ix2 j k) := by
  blk_simp [iblk]
  entry_read
  pointwise
  blk_ext [idx t]
end

/-- What the body leaves at a place of the block, from the whole arrays. -/
theorem tile_at (c : Dev nD) (t : Fin cfg0.N) (r q : Fin 1024) (R : Fin 16384) (hR : R.val = 1024 * t.val + r.val) :
    out0_13 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 r q)
      = resE (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) R q := by
  have ht := (idx t).2.2.2.2.2.2.2.2.2.2.2.2.2.2
  refine (out_at ..).trans ?_
  rw [resE, blk0 m c t r q _ hR, blk8 m c t q ⟨R.val / 2048, by omega⟩ (by show R.val / 2048 = _; omega), blk7]
  refine congrArg (fun s : EReal => (_ : EReal) + (_ : EReal) * s) (Finset.sum_congr rfl fun k _ => ?_)
  rw [blk12, funext (fun j => blk9 m c t j k), funext (fun j => blk10 m c t j k), funext (fun j => blk11 m c t j k),
    funext (fun j => blk1 m c t r j _ hR), funext (fun j => blk2 m c t r j _ hR), funext (fun j => blk3 m c t r j _ hR)]
  refine congrArg (fun p => mergedE p _ _ _ _ _ _ _ * (_ : EReal)) (funext fun a => ?_)
  exact blk4 m c t a r k _ hR

/-- The result array. -/
theorem final (c : Dev nD) : (dats m 0 c).arrAt 13 cfg0.N = fun y : (Sh 16384 1024).Idx =>
    resE (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (y 0) (y 1) := by
  refine (dats m 0 c).arrAt_eq_of_covers 13 _ (by decide +kernel) fun t _ y => ?_
  have ht := (idx t).2.2.2.2.2.2.2.2.2.2.2.2.2.2
  obtain ⟨r, q, hy⟩ : ∃ (r q : Fin 1024), y = ix2 r q := ⟨y 0, y 1, idx_of y _ _ rfl rfl⟩
  subst hy
  have h := tile_at m c t r q ⟨1024 * t.val + r.val, by omega⟩ rfl
  rw [after0_13]
  blk_simp [idx t]
  have e0 : (win0_13.blk t).view.emb (ix2 r q) 0 = (⟨1024 * t.val + r.val, by omega⟩ : Fin 16384) := Fin.ext (by
    blk_simp [idx t]
    show _ = 1024 * t.val + r.val
    omega)
  have e1 : (win0_13.blk t).view.emb (ix2 r q) 1 = q := Fin.ext (by
    blk_simp [idx t])
  rw [e0, e1]
  exact h

end Cert.MergeIdeal.RefValue

end
-- ==== Proof.MergeRef.lean ====
/-
  The merge of the three mixers: the reference's result array, from its argument arrays.
-/
module

public import proofs.«01_k».proof.Proof.MergeValue
public import proofs.«01_k».proof.Proof.Gen.MergeRefIdeal.Run

@[expose] public section

set_option maxRecDepth 16384

noncomputable section

namespace Cert.MergeRefIdeal.RefRead

open Cert.MergeRefIdeal Cert.MergeRefIdeal.Gen Idealize.ShloMosaic Idealize.ShloMosaic.TcCoe Idealize.SL.Sem
open Cert.KernelIdeal.RefValue (Sh Sv idx_of)
open Cert.MergeIdeal.RefValue (mergedE resE)

/-- The three gates. -/
def gates (pj : FVec Ideal S16384x8192 .bf16) (gb : FVec Ideal S3x1024 .f32) : FVec Ideal S8x2048x3x1024 .f32 :=
  Host.divf (broadcastInDim S8x2048x3x1024 ![] bcast_S_S8x2048x3x1024 (constant S_ .f32 0x3F800000#32))
    (addf (broadcastInDim S8x2048x3x1024 ![] bcast_S_S8x2048x3x1024 (constant S_ .f32 0x3F800000#32))
      (Host.exp (Host.negf (addf
        (shapeCast S8x2048x3x1024 (extf .f32 (extractStridedSlice S16384x3072 ![0, 5120] pj slices_S16384x8192_S16384x3072_0_5120) bitsLt_bf16_f32) shapeCasts_S16384x3072_S8x2048x3x1024)
        (broadcastInDim S8x2048x3x1024 ![0, 1, 2, 3] bcast_S1x1x3x1024_S8x2048x3x1024_0_1_2_3 (broadcastInDim S1x1x3x1024 ![2, 3] bcast_S3x1024_S1x1x3x1024_2_3 gb))))))

/-- The merged rows. -/
def merged (g : FVec Ideal S8x2048x3x1024 .f32) (ya : FVec Ideal S16384x1024 .bf16) (yb yc : FVec Ideal S16384x512 .bf16)
    (wa : FVec Ideal S1024x1024 .f32) (wb wc : FVec Ideal S512x1024 .f32) : FVec Ideal S8x2048x1024 .f32 :=
  addf (addf
      (mulf (shapeCast S8x2048x1024 (extractStridedSlice S8x2048x1x1024 ![0, 0, 0, 0] g slices_S8x2048x3x1024_S8x2048x1x1024_0_0_0_0) shapeCasts_S8x2048x1x1024_S8x2048x1024)
        (Host.dotGeneral (φ₂ := .f32) dot_S8x2048x1024_S1024x1024_S8x2048x1024_2_0_01_1_n_n none (shapeCast S8x2048x1024 (extf .f32 ya bitsLt_bf16_f32) shapeCasts_S16384x1024_S8x2048x1024) wa))
      (mulf (shapeCast S8x2048x1024 (extractStridedSlice S8x2048x1x1024 ![0, 0, 1, 0] g slices_S8x2048x3x1024_S8x2048x1x1024_0_0_1_0) shapeCasts_S8x2048x1x1024_S8x2048x1024)
        (Host.dotGeneral (φ₂ := .f32) dot_S8x2048x512_S512x1024_S8x2048x1024_2_0_01_1_n_n none (shapeCast S8x2048x512 (extf .f32 yb bitsLt_bf16_f32) shapeCasts_S16384x512_S8x2048x512) wb)))
    (mulf (shapeCast S8x2048x1024 (extractStridedSlice S8x2048x1x1024 ![0, 0, 2, 0] g slices_S8x2048x3x1024_S8x2048x1x1024_0_0_2_0) shapeCasts_S8x2048x1x1024_S8x2048x1024)
      (Host.dotGeneral (φ₂ := .f32) dot_S8x2048x512_S512x1024_S8x2048x1024_2_0_01_1_n_n none (shapeCast S8x2048x512 (extf .f32 yc bitsLt_bf16_f32) shapeCasts_S16384x512_S8x2048x512) wc))

/-- The result. -/
def outRows (x : FVec Ideal S16384x1024 .f32) (md : FVec Ideal S8x6x1024 .f32) (y : FVec Ideal S8x2048x1024 .f32) (wo : FVec Ideal S1024x1024 .f32) :
    FVec Ideal S16384x1024 .f32 :=
  shapeCast S16384x1024 (addf (shapeCast S8x2048x1024 x shapeCasts_S16384x1024_S8x2048x1024)
    (mulf (broadcastInDim S8x2048x1024 ![0, 1, 2] bcast_S8x1x1024_S8x2048x1024_0_1_2 (broadcastInDim S8x1x1024 ![0, 2] bcast_S8x1024_S8x1x1024_0_2
        (shapeCast S8x1024 (extractStridedSlice S8x1x1024 ![0, 2, 0] md slices_S8x6x1024_S8x1x1024_0_2_0) shapeCasts_S8x1x1024_S8x1024)))
      (Host.dotGeneral (φ₂ := .f32) dot_S8x2048x1024_S1024x1024_S8x2048x1024_2_0_01_1_n_n none y wo))) shapeCasts_S8x2048x1024_S16384x1024

/-- A gate. -/
theorem gates_at (pj : FVec Ideal S16384x8192 .bf16) (gb : FVec Ideal S3x1024 .f32) (b : Fin 8) (i : Fin 2048) (a : Fin 3) (k : Fin 1024) :
    gates pj gb (ix4 b i a k) = Ideal.logistic (pj (ix2 (⟨b.val * 2048 + i.val, by omega⟩ : Fin 16384) (⟨5120 + (a.val * 1024 + k.val), by omega⟩ : Fin 8192)) + gb (ix2 a k)) := by
  pointwise [gates, Ideal.logistic]

/-- The merged rows' entries. -/
theorem merged_at (g : FVec Ideal S8x2048x3x1024 .f32) (ya : FVec Ideal S16384x1024 .bf16) (yb yc : FVec Ideal S16384x512 .bf16)
    (wa : FVec Ideal S1024x1024 .f32) (wb wc : FVec Ideal S512x1024 .f32) (b : Fin 8) (i : Fin 2048) (k : Fin 1024) :
    merged g ya yb yc wa wb wc (ix3 b i k)
      = g (ix4 b i 0 k) * (∑ j : Fin 1024, ya (ix2 (⟨b.val * 2048 + i.val, by omega⟩ : Fin 16384) j) * wa (ix2 j k))
        + g (ix4 b i 1 k) * (∑ j : Fin 512, yb (ix2 (⟨b.val * 2048 + i.val, by omega⟩ : Fin 16384) j) * wb (ix2 j k))
        + g (ix4 b i 2 k) * (∑ j : Fin 512, yc (ix2 (⟨b.val * 2048 + i.val, by omega⟩ : Fin 16384) j) * wc (ix2 j k)) := by
  pointwise [merged]

/-- The result's entries. -/
theorem outRows_at (x : FVec Ideal S16384x1024 .f32) (md : FVec Ideal S8x6x1024 .f32) (y : FVec Ideal S8x2048x1024 .f32) (wo : FVec Ideal S1024x1024 .f32)
    (R : Fin 16384) (C : Fin 1024) :
    outRows x md y wo (ix2 R C) = x (ix2 R C) + md (ix3 (⟨R.val / 2048, by omega⟩ : Fin 8) 2 C)
      * ∑ k : Fin 1024, y (ix3 (⟨R.val / 2048, by omega⟩ : Fin 8) (⟨R.val % 2048, by omega⟩ : Fin 2048) k) * wo (ix2 k C) := by
  pointwise [outRows]

/-- The reference's entry is the kernel's. -/
theorem ref_at (x : FVec Ideal S16384x1024 .f32) (ya : FVec Ideal S16384x1024 .bf16) (yb yc : FVec Ideal S16384x512 .bf16)
    (pj : FVec Ideal S16384x8192 .bf16) (gb : FVec Ideal S3x1024 .f32) (md : FVec Ideal S8x6x1024 .f32) (wa : FVec Ideal S1024x1024 .f32)
    (wb wc : FVec Ideal S512x1024 .f32) (wo : FVec Ideal S1024x1024 .f32) (R : Fin 16384) (C : Fin 1024) :
    outRows x md (merged (gates pj gb) ya yb yc wa wb wc) wo (ix2 R C) = resE x ya yb yc pj gb md wa wb wc wo R C := by
  have e : (⟨R.val / 2048 * 2048 + R.val % 2048, by omega⟩ : Fin 16384) = R := Fin.ext (by show R.val / 2048 * 2048 + R.val % 2048 = R.val; omega)
  rw [outRows_at]
  unfold resE mergedE
  refine congrArg (fun s : EReal => (_ : EReal) + _ * s) (Finset.sum_congr rfl fun k _ => ?_)
  have col (a : Fin 3) : (⟨5120 + (a.val * 1024 + k.val), by omega⟩ : Fin 8192) = ⟨5120 + 1024 * a.val + k.val, by omega⟩ :=
    Fin.ext (by show 5120 + (a.val * 1024 + k.val) = 5120 + 1024 * a.val + k.val; omega)
  rw [merged_at, gates_at, gates_at, gates_at, e, col, col, col]

/-- The reference's result array. -/
theorem ref_eq (x : FVec Ideal S16384x1024 .f32) (ya : FVec Ideal S16384x1024 .bf16) (yb yc : FVec Ideal S16384x512 .bf16)
    (pj : FVec Ideal S16384x8192 .bf16) (gb : FVec Ideal S3x1024 .f32) (md : FVec Ideal S8x6x1024 .f32) (wa : FVec Ideal S1024x1024 .f32)
    (wb wc : FVec Ideal S512x1024 .f32) (wo : FVec Ideal S1024x1024 .f32) :
    outRows x md (merged (gates pj gb) ya yb yc wa wb wc) wo = fun y => resE x ya yb yc pj gb md wa wb wc wo (y 0) (y 1) := by
  funext y
  obtain ⟨R, C, hy⟩ : ∃ (R : Fin 16384) (C : Fin 1024), y = ix2 R C := ⟨y 0, y 1, idx_of y _ _ rfl rfl⟩
  subst hy
  exact ref_at x ya yb yc pj gb md wa wb wc wo R C

end Cert.MergeRefIdeal.RefRead

end
-- ==== Proof.InProjBody.lean ====
/-
  The input projection's body: it fills its weight buffer one slab a point for eight points, then multiplies.
-/
module

public import proofs.«01_k».proof.Proof.Gen.InProjIdeal.Frame
public import proofs.«01_k».proof.Proof.Gen.InProjIdeal.Skeleton
public import Idealize.ShloMosaic.Lib.Pipeline.ValueKit
public import Idealize.ShloMosaic.Lib.WritesUnit

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first eight points load a slab of the weights. -/
theorem cond1_iff : ∀ t : Fin cfg0.N, k0_cond1 (grid0.coords t) = 1#1 ↔ t.val < 8 := by decide +kernel
/-- The other points multiply. -/
theorem cond2_iff : ∀ t : Fin cfg0.N, k0_cond2 (grid0.coords t) = 1#1 ↔ 8 ≤ t.val := by decide +kernel
/-- A point's coordinate is its number. -/
theorem coord : ∀ t : Fin cfg0.N, ((grid0.coords t) 0).val = t.val := by decide +kernel
/-- A loading point writes no result back. -/
theorem flush4 : ∀ t : Fin cfg0.N, t.val < 8 → (cfg0.win 4).flush t = false := by decide +kernel

abbrev r1 : Rect S512x1024 := Rect.unit (s := S512x1024) ![0, 0] S512x1024.size inb_S512x1024_S512x1024_0_0
abbrev r2 : Rect S1x6x1024 := Rect.unit (s := S1x6x1024) ![0, 0, 0] S1x6x1024.size inb_S1x6x1024_S1x6x1024_0_0_0
abbrev r3 : Rect S1x1024 := Rect.unit (s := S1x1024) ![0, 0] S1x1024.size inb_S1x1024_S1x1024_0_0
abbrev r4 : Rect S1x128x8192 := Rect.unit (s := S1x128x8192) ![0, 0, 0] S1x128x8192.size inb_S1x128x8192_S1x128x8192_0_0_0

/-- The slab a loading point stores. -/
def slab (x3 : Vec F S1x128x8192 .f32) : Vec F S128x8192 .bf16 := k0_pay1 (View.ld x3 r4)

/-- The weight buffer with 128 rows from row `o` replaced. -/
def putRows (o : ℕ) (p : Vec F S128x8192 .bf16) (w : Vec F S1024x8192 .bf16) : Vec F S1024x8192 .bf16 := fun y =>
  if h : o ≤ (y 0).val ∧ (y 0).val < o + 128 then p (ix2 ⟨(y 0).val - o, by omega⟩ (y 1)) else w y

set_option maxHeartbeats 1000000 in
/-- A loading point's body. -/
theorem load_kernel (c : Dev nD) (E : Set ℕ) (i : grid0.Coords) (h1 : k0_cond1 i = 1#1) (h2 : ¬ k0_cond2 i = 1#1)
    (arg1 : Memref sig .tc .vmem S512x1024 .f32) (harg1 : arg1.IsWhole) (arg2 : Memref sig .tc .vmem S1x6x1024 .f32) (harg2 : arg2.IsWhole)
    (arg3 : Memref sig .tc .vmem S1x1024 .f32) (harg3 : arg3.IsWhole) (arg4 : Memref sig .tc .vmem S1x128x8192 .f32) (harg4 : arg4.IsWhole)
    (arg5 : Memref sig .tc .vmem S512x8192 .bf16) (harg5 : arg5.IsWhole) (arg6 : Memref sig .tc .vmem S1024x8192 .bf16) (harg6 : arg6.IsWhole)
    (x3 : Vec F S1x128x8192 .f32) (w : Vec F S1024x8192 .bf16) (K : PUnit → sProp 𝕄) :
    iprop(owns (c : Thread nD τ) arg4 fullShare x3 ∗ owns (c : Thread nD τ) arg6 fullShare w
        ∗ (iprop(owns (c : Thread nD τ) arg4 fullShare x3 ∗ owns (c : Thread nD τ) arg6 fullShare (putRows (128 * (i 0).val) (slab x3) w)) -∗ K ⟨⟩))
      ⊢ wp frame (wpE (defs₀ (F := F)) Variants.none c none) E (cc0_in_proj i arg1 harg1 arg2 harg2 arg3 harg3 arg4 harg4 arg5 harg5 arg6 harg6) K := by
  simp only [cc0_in_proj_eq_skeleton]; unfold cc0_in_proj_skel
  simp only [dif_pos h1, dif_neg h2]
  unfold owns
  iintro ⟨⟨%f3, %hf3, H3⟩, ⟨%f6, %hf6, H6⟩, Hk⟩
  subst hf3 hf6
  sl_exec
  sl_step
  iapply Hk
  isplitl [H3]
  · iexists f3; isplitr; · ipureintro; rfl
    iexact H3
  iexists _; isplitr
  swap; · iexact H6
  ipureintro
  funext y
  refine (View.read_writes_cons_rows (size := ![128, 8192]) (o := 128 * (i 0).val) (W := 128) arg6.view f6 _ _ _ y (k0_off1_eq i) rfl rfl).trans ?_
  unfold putRows
  by_cases h : 128 * (i 0).val ≤ (y 0).val ∧ (y 0).val < 128 * (i 0).val + 128
  · rw [dif_pos h, dif_pos h]
    exact congrArg (slab (View.read (Elt F) arg4.view f3)) (funext fun a => Fin.ext (by
      rw [Rect.unitLocal_val]
      match a with
      | ⟨0, _⟩ => rfl
      | ⟨1, _⟩ => exact Nat.sub_zero _))
  · rw [dif_neg h, dif_neg h]
    rfl

/-- The result block of a multiplying point: the eight column chunks, last stored first. -/
def out (x0 : Vec F S512x1024 .f32) (x1 : Vec F S1x6x1024 .f32) (x2 : Vec F S1x1024 .f32) (w : Vec F S1024x8192 .bf16) : Vec F S512x8192 .bf16 :=
  View.canon (Val := Elt F) [⟨Rect.unit (s := S512x8192) ![0, 7168] S512x1024.size inb_S512x8192_S512x1024_0_7168, k0_pay7 (k0_pay8 (View.ld x0 r1) (View.ld x2 r3) (View.ld x1 r2)) (View.ld w (Rect.unit (s := S1024x8192) ![0, 7168] S1024x1024.size inb_S1024x8192_S1024x1024_0_7168))⟩,
    ⟨Rect.unit (s := S512x8192) ![0, 6144] S512x1024.size inb_S512x8192_S512x1024_0_6144, k0_pay6 (k0_pay8 (View.ld x0 r1) (View.ld x2 r3) (View.ld x1 r2)) (View.ld w (Rect.unit (s := S1024x8192) ![0, 6144] S1024x1024.size inb_S1024x8192_S1024x1024_0_6144))⟩,
    ⟨Rect.unit (s := S512x8192) ![0, 5120] S512x1024.size inb_S512x8192_S512x1024_0_5120, k0_pay5 (k0_pay8 (View.ld x0 r1) (View.ld x2 r3) (View.ld x1 r2)) (View.ld w (Rect.unit (s := S1024x8192) ![0, 5120] S1024x1024.size inb_S1024x8192_S1024x1024_0_5120))⟩,
    ⟨Rect.unit (s := S512x8192) ![0, 4096] S512x1024.size inb_S512x8192_S512x1024_0_4096, k0_pay4 (k0_pay8 (View.ld x0 r1) (View.ld x2 r3) (View.ld x1 r2)) (View.ld w (Rect.unit (s := S1024x8192) ![0, 4096] S1024x1024.size inb_S1024x8192_S1024x1024_0_4096))⟩,
    ⟨Rect.unit (s := S512x8192) ![0, 3072] S512x1024.size inb_S512x8192_S512x1024_0_3072, k0_pay3 (k0_pay8 (View.ld x0 r1) (View.ld x2 r3) (View.ld x1 r2)) (View.ld w (Rect.unit (s := S1024x8192) ![0, 3072] S1024x1024.size inb_S1024x8192_S1024x1024_0_3072))⟩,
    ⟨Rect.unit (s := S512x8192) ![0, 2048] S512x1024.size inb_S512x8192_S512x1024_0_2048, k0_pay2 (k0_pay8 (View.ld x0 r1) (View.ld x2 r3) (View.ld x1 r2)) (View.ld w (Rect.unit (s := S1024x8192) ![0, 2048] S1024x1024.size inb_S1024x8192_S1024x1024_0_2048))⟩,
    ⟨Rect.unit (s := S512x8192) ![0, 1024] S512x1024.size inb_S512x8192_S512x1024_0_1024, k0_pay10 (View.ld x0 r1) (View.ld x2 r3) (View.ld x1 r2) (View.ld w (Rect.unit (s := S1024x8192) ![0, 1024] S1024x1024.size inb_S1024x8192_S1024x1024_0_1024))⟩,
    ⟨Rect.unit (s := S512x8192) ![0, 0] S512x1024.size inb_S512x8192_S512x1024_0_0, k0_pay9 (View.ld x0 r1) (View.ld x2 r3) (View.ld x1 r2) (View.ld w (Rect.unit (s := S1024x8192) ![0, 0] S1024x1024.size inb_S1024x8192_S1024x1024_0_0))⟩]

set_option maxHeartbeats 1000000 in
/-- A multiplying point's body. -/
theorem mul_kernel (c : Dev nD) (E : Set ℕ) (i : grid0.Coords) (h1 : ¬ k0_cond1 i = 1#1) (h2 : k0_cond2 i = 1#1)
    (arg1 : Memref sig .tc .vmem S512x1024 .f32) (harg1 : arg1.IsWhole) (arg2 : Memref sig .tc .vmem S1x6x1024 .f32) (harg2 : arg2.IsWhole)
    (arg3 : Memref sig .tc .vmem S1x1024 .f32) (harg3 : arg3.IsWhole) (arg4 : Memref sig .tc .vmem S1x128x8192 .f32) (harg4 : arg4.IsWhole)
    (arg5 : Memref sig .tc .vmem S512x8192 .bf16) (harg5 : arg5.IsWhole) (arg6 : Memref sig .tc .vmem S1024x8192 .bf16) (harg6 : arg6.IsWhole)
    (x0 : Vec F S512x1024 .f32) (x1 : Vec F S1x6x1024 .f32) (x2 : Vec F S1x1024 .f32) (w : Vec F S1024x8192 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d) ∗ owns (c : Thread nD τ) arg6 fullShare w
        ∗ (iprop(owns (c : Thread nD τ) arg1 fullShare x0 ∗ owns (c : Thread nD τ) arg2 fullShare x1 ∗ owns (c : Thread nD τ) arg3 fullShare x2
          ∗ owns (c : Thread nD τ) arg5 fullShare (out x0 x1 x2 w) ∗ owns (c : Thread nD τ) arg6 fullShare w) -∗ K ⟨⟩))
      ⊢ wp frame (wpE (defs₀ (F := F)) Variants.none c none) E (cc0_in_proj i arg1 harg1 arg2 harg2 arg3 harg3 arg4 harg4 arg5 harg5 arg6 harg6) K := by
  simp only [cc0_in_proj_eq_skeleton]; unfold cc0_in_proj_skel
  simp only [dif_neg h1, dif_pos h2, k0_part1_eq_skeleton]
  unfold owns
  iintro ⟨⟨%f0, %hf0, H0⟩, ⟨%f1, %hf1, H1⟩, ⟨%f2, %hf2, H2⟩, ⟨%d5, %f5, -, H5⟩, ⟨%f6, %hf6, H6⟩, Hk⟩
  subst hf0 hf1 hf2 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact View.read_writes_eq_canon _ _ _ (View.cover_of_tiled _ S512x1024.size (by rfl))
  iexists f6; isplitr; · ipureintro; rfl
  iexact H6

/-! ## The proof data -/

/-- The weight buffer once every slab is in. -/
def wfull (c : Dev nD) : Vec F S1024x8192 .bf16 := fun y =>
  slab (iblk m c 3 ⟨(y 0).val / 128, by have := (y 0).isLt; show _ < 40; have : (y 0).val < 1024 := this; omega⟩)
    (ix2 ⟨(y 0).val % 128, Nat.mod_lt _ (by decide)⟩ (y 1))

/-- Before point `n` the weight buffer's first `128 n` rows are in. -/
def Inv (c : Dev nD) (n : ℕ) : sProp 𝕄 :=
  iprop((∃ w : Vec F S1024x8192 .bf16, owns (c : Thread nD τ) (Memref.whole cc0_scratch0) fullShare w
      ∗ ⌜∀ y : S1024x8192.Idx, (y 0).val < 128 * n → w y = wfull m c y⌝) ∗ ∃ r, prngReg c r)

/-- The proof data: an input's buffer keeps its block, the result's holds the point's block, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out (iblk m c 0 t) (iblk m c 1 t) (iblk m c 2 t) (wfull m c)
  Φ t := Inv m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out (iblk m c 0 t) (iblk m c 1 t) (iblk m c 2 t) (wfull m c) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem Φ_start (c : Dev nD) (t : Fin cfg0.N) : (dats m 0 c).Φ t.castSucc = Inv m c t.val := by
  dsimp only [dats]; exact Dat.Φ_castSucc (fun n _ => Inv m c n) t
theorem Φ_end (c : Dev nD) (t : Fin cfg0.N) : (dats m 0 c).Φ t.succ = Inv m c (t.val + 1) := by dsimp only [dats]; rfl

/-- One more slab. -/
theorem put_step (c : Dev nD) (t : Fin cfg0.N) (ht : t.val < 8) (w : Vec F S1024x8192 .bf16)
    (hw : ∀ y : S1024x8192.Idx, (y 0).val < 128 * t.val → w y = wfull m c y) (y : S1024x8192.Idx) (hy : (y 0).val < 128 * (t.val + 1)) :
    putRows (128 * ((grid0.coords t) 0).val) (slab (iblk m c 3 t)) w y = wfull m c y := by
  rw [coord t]
  unfold putRows
  by_cases h : 128 * t.val ≤ (y 0).val ∧ (y 0).val < 128 * t.val + 128
  · rw [dif_pos h]
    unfold wfull
    have e1 : (y 0).val - 128 * t.val = (y 0).val % 128 := by omega
    have e2 : t.val = (y 0).val / 128 := by omega
    obtain ⟨n, hn⟩ := t
    dsimp only at e1 e2
    subst e2
    simp only [e1]
  · rw [dif_neg h]
    exact hw y (by omega)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns, the result's buffer as `Q`. -/
def bodyPost (c : Dev nD) (t : Fin cfg0.N) (Q : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ Q)

/-- A loading point. -/
theorem load_body (c : Dev nD) (t : Fin cfg0.N) (ht : t.val < 8) :
    bodyPre m c t ⊢ wp frame (wpE (defs₀ (F := F)) Variants.none c none) Set.univ (bodyAt0 t)
      (fun _ => bodyPost m c t iprop(∃ d, owns (c : Thread nD τ) (st0_4 t) fullShare ((dats m 0 c).before 4 t d))) := by
  unfold bodyPre bodyPost bodyAt0
  simp only [before0, before1, before2, before3]
  rw [Φ_start, Φ_end, show (dats m 0 c).owesAt () t.succ = (dats m 0 c).owesAt () t.castSucc from rfl, after0, after1, after2, after3]
  unfold Inv
  iintro ⟨⟨⟨%w, Hw, %hw⟩, Hr⟩, Ho, ⟨%d0, H0⟩, ⟨%d1, H1⟩, ⟨%d2, H2⟩, ⟨%d3, H3⟩, H4⟩
  iapply (load_kernel c Set.univ (grid0.coords t) ((cond1_iff t).2 ht) (fun h => absurd ((cond2_iff t).1 h) (by omega)) _ _ _ _ _ _ _ _ _ _ _ _
    (iblk m c 3 t) w _)
  isplitl [H3]; · iexact H3
  isplitl [Hw]; · iexact Hw
  iintro ⟨H3, Hw⟩
  isplitl [Hw Hr]
  · isplitl [Hw]
    · iexists _
      isplitl [Hw]; · iexact Hw
      ipureintro
      exact put_step m c t ht w hw
    iexact Hr
  isplitl [Ho]; · iexact Ho
  isplitl [H0]; · iexact H0
  isplitl [H1]; · iexact H1
  isplitl [H2]; · iexact H2
  isplitl [H3]; · iexact H3
  iexact H4

/-- A multiplying point. -/
theorem mul_body (c : Dev nD) (t : Fin cfg0.N) (ht : 8 ≤ t.val) :
    bodyPre m c t ⊢ wp frame (wpE (defs₀ (F := F)) Variants.none c none) Set.univ (bodyAt0 t)
      (fun _ => bodyPost m c t (owns (c : Thread nD τ) (st0_4 t) fullShare ((dats m 0 c).after 4 t))) := by
  unfold bodyPre bodyPost bodyAt0
  simp only [before0, before1, before2, before3]
  rw [Φ_start, Φ_end, show (dats m 0 c).owesAt () t.succ = (dats m 0 c).owesAt () t.castSucc from rfl, after0, after1, after2, after3, after4]
  unfold Inv
  iintro ⟨⟨⟨%w, Hw, %hw⟩, Hr⟩, Ho, ⟨%d0, H0⟩, ⟨%d1, H1⟩, ⟨%d2, H2⟩, ⟨%d3, H3⟩, ⟨%d4, H4⟩⟩
  have e : w = wfull m c := funext fun y => hw y (by have h : (y 0).val < 1024 := (y 0).isLt; omega)
  subst e
  iapply (mul_kernel c Set.univ (grid0.coords t) (fun h => absurd ((cond1_iff t).1 h) (by omega)) ((cond2_iff t).2 ht) _ _ _ _ _ _ _ _ _ _ _ _
    (iblk m c 0 t) (iblk m c 1 t) (iblk m c 2 t) (wfull m c) _)
  isplitl [H0]; · iexact H0
  isplitl [H1]; · iexact H1
  isplitl [H2]; · iexact H2
  isplitl [H4]; · iexists _; iexact H4
  isplitl [Hw]; · iexact Hw
  iintro ⟨H0, H1, H2, H4, Hw⟩
  isplitl [Hw Hr]
  · isplitl [Hw]
    · iexists _
      isplitl [Hw]; · iexact Hw
      ipureintro
      exact fun _ _ => rfl
    iexact Hr
  isplitl [Ho]; · iexact Ho
  isplitl [H0]; · iexact H0
  isplitl [H1]; · iexact H1
  isplitl [H2]; · iexact H2
  isplitl [H3]; · iexact H3
  iexact H4

theorem row (t : Fin cfg0.N) : defs₀ (F := F) .tc cfg0.body (cfg0.bodyArgs t (cfg0.slots t)) = bodyAt0 t := by
  unfold defs₀; rw [Defs.onTc_tc]

/-- The body obligation. -/
theorem obligation (c : Dev nD) : BodyObligationLoose (dats (F := F) m 0 c) (defs₀ (F := F)) Variants.none () Set.univ := fun t => by
  rw [bigSep_W0, bigSep_W0, row]
  by_cases ht : t.val < 8
  · have hi : cfg0.idle 4 (cfg0.grid.coords t) = true := by
      show (!(k0_cond2 (grid0.coords t) == 1#1)) = true
      have : ¬ k0_cond2 (grid0.coords t) = 1#1 := fun h => absurd ((cond2_iff t).1 h) (by omega)
      simp [this]
    rw [hi, flush4 t ht]
    exact triple_restated (load_body m c t ht) rfl .rfl fun _ => .rfl
  · have hi : cfg0.idle 4 (cfg0.grid.coords t) = false := by
      show (!(k0_cond2 (grid0.coords t) == 1#1)) = false
      have : k0_cond2 (grid0.coords t) = 1#1 := (cond2_iff t).2 (by omega)
      simp [this]
    rw [hi]
    exact triple_restated (mul_body m c t (by omega)) rfl .rfl fun _ => .rfl

/-- The invariant at the start asks nothing of the weight buffer. -/
theorem start (c : Dev nD) : Pipeline.ΦA spec0 c ⊢ (dats (F := F) m 0 c).Φ 0 := by
  rw [show (dats (F := F) m 0 c).Φ 0 = Inv m c 0 from rfl]
  unfold Pipeline.ΦA Inv
  rw [scopedRest0_eq]
  iintro ⟨⟨%f, H⟩, Hr⟩
  isplitl [H]
  · iexists f
    rw [owns_whole]
    isplitl [H]; · iexact H
    ipureintro
    exact fun y hy => absurd hy (by omega)
  iexact Hr

/-- After the last point the weight buffer is forgotten. -/
theorem finish (c : Dev nD) : (dats (F := F) m 0 c).Φ (Fin.last cfg0.N) ⊢ Pipeline.ΦA spec0 c := by
  rw [show (dats (F := F) m 0 c).Φ (Fin.last cfg0.N) = Inv m c (Fin.last cfg0.N).val from rfl]
  unfold Pipeline.ΦA Inv
  rw [scopedRest0_eq]
  iintro ⟨⟨%w, H, -⟩, Hr⟩
  isplitl [H]
  · iexists w
    rw [owns_whole]
    exact .rfl
  iexact Hr

set_option backward.isDefEq.respectTransparency.types false in
set_option maxHeartbeats 800000 in
/-- The run, with every counter at zero at the end. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := obligation m) (hshare := fun _ w => by fin_cases w <;> rfl) (howed := fun _ _ => rfl) (V := V m) (hmain := hmain m Variants.none) (hA := A_eq m)
    (hin := start m) (hout := finish m)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.InProjIdeal.Body

end
-- ==== Proof.InProjBits.lean ====
/-
  The input projection in the machine's own arithmetic: its program is the idealized one's, so its frame is too.
-/
module

public import proofs.«01_k».proof.Proof.InProjBody
public import proofs.«01_k».proof.Proof.Gen.InProj
public import proofs.«01_k».proof.Defs

@[expose] public section

set_option maxRecDepth 65536
set_option backward.isDefEq.respectTransparency.types false
set_option backward.isDefEq.respectTransparency false

noncomputable section

namespace Cert.InProj.Body

open Idealize.ShloMosaic Idealize.SL.Sem

/-- The two programs' body tables. -/
theorem bodies_eq : Cert.InProj.defs₀ (F := Bits) = Cert.InProjIdeal.defs₀ (F := Bits) := by
  funext c n
  cases c with
  | tc =>
    obtain ⟨_ | n, h⟩ := n
    · funext x
      obtain ⟨t, s⟩ := x
      rfl
    · exact absurd h (by omega)
  | _ => rfl

/-- The two programs' tables. -/
theorem defs_eq : Cert.InProj.defs (F := Bits) = Cert.InProjIdeal.defs (F := Bits) :=
  congrArg (Pipeline.defs (Cert.InProjIdeal.pcfgs (F := Bits))) bodies_eq

/-- The two programs. -/
theorem main_eq : Cert.InProj.main (F := Bits) = Cert.InProjIdeal.main (F := Bits) := rfl

/-- The frame. -/
theorem frame : Cert.quiescent_InProj (hInProj := Cert.InProj.Gen.facts) := fun m g _ => by
  rw [defs_eq, main_eq]
  exact Cert.InProjIdeal.Body.frame (F := Bits) m g

end Cert.InProj.Body

end
-- ==== Proof.InProjValue.lean ====
/-
  The input projection: the result array of the kernel, from its argument arrays.
-/
module

public import proofs.«01_k».proof.Proof.Point
public import proofs.«01_k».proof.Proof.InProjBody
public import Idealize.ShloMosaic.Lib.Pipeline.Value
public import Idealize.ShloMosaic.Lib.Claim

@[expose] public section

set_option maxRecDepth 16384

noncomputable section

namespace Cert.InProjIdeal.RefValue

open Cert.InProjIdeal Cert.InProjIdeal.Gen Cert.InProjIdeal.Body Idealize.ShloMosaic Idealize.ShloMosaic.TcCoe Idealize.SL.Sem
open Cert.KernelIdeal.RefValue (Sh idx_of)

/-- A row `x`, normalised, at lane `k`: gain `g`, scale `s`, shift `h`. -/
def modE (x : Fin 1024 → EReal) (g s h : EReal) (k : Fin 1024) : EReal :=
  x k * Ideal.rsqrt (Ideal.div (∑ c : Fin 1024, x c * x c) (Ideal.ofBits .f32 0x44800000#32) + Ideal.ofBits .f32 0x358637BD#32)
    * g * (1 + s) + h

/-- The projection's entry at row `R` and lane `C`. -/
def projE (x : (Sh 16384 1024).Idx → EReal) (md : S8x6x1024.Idx → EReal) (g : Fin 1024 → EReal) (w : S2x1024x8192.Idx → EReal)
    (R : Fin 16384) (C : Fin 8192) : EReal :=
  ∑ k : Fin 1024, modE (fun c => x (ix2 R c)) (g k) (md (ix3 ⟨R.val / 2048, by omega⟩ 1 k)) (md (ix3 ⟨R.val / 2048, by omega⟩ 0 k)) k * w (ix3 0 k C)

/-- The modulated rows of a block. -/
theorem pay8_at (x : Vec Ideal S512x1024 .f32) (g : Vec Ideal S1x1024 .f32) (md : Vec Ideal S1x6x1024 .f32) (r : Fin 512) (k : Fin 1024) :
    k0_pay8 x g md (ix2 r k) = modE (fun c => x (ix2 r c)) (g (ix2 0 k)) (md (ix3 0 1 k)) (md (ix3 0 0 k)) k := by
  pointwise [k0_pay8, modE]

/-- A chunk of the result. -/
theorem pay2_at (h : FVec Ideal S512x1024 .bf16) (w : Vec Ideal S1024x1024 .bf16) (r : Fin 512) (c : Fin 1024) :
    k0_pay2 h w (ix2 r c) = ∑ k : Fin 1024, h (ix2 r k) * w (ix2 k c) := by
  pointwise [k0_pay2]

/-- The slab's entries. -/
theorem slab_at (x : Vec Ideal S1x128x8192 .f32) (r : Fin 128) (c : Fin 8192) : slab x (ix2 r c) = x (ix3 0 r c) := by
  unfold slab
  rw [show View.ld x r4 = x from View.ld_unit_lit _ _ (by decide)]
  pointwise [k0_pay1]

section
variable (x0 : Vec Ideal S512x1024 .f32) (x1 : Vec Ideal S1x6x1024 .f32) (x2 : Vec Ideal S1x1024 .f32) (w : Vec Ideal S1024x8192 .bf16)

/-- What the body leaves, as one function. -/
def outE (y : S512x8192.Idx) : EReal :=
  ∑ k : Fin 1024, modE (fun c => x0 (ix2 (y 0) c)) (x2 (ix2 0 k)) (x1 (ix3 0 1 k)) (x1 (ix3 0 0 k)) k * w (ix2 k (y 1))

/-- A chunk's entries are its places' in it. -/
theorem chunk_at (o : ℕ) (ha : ∀ a, (![0, o] : Fin 2 → ℕ) a + S1024x1024.size a ≤ S1024x8192.size a)
    (hb : ∀ a, (![0, o] : Fin 2 → ℕ) a + S512x1024.size a ≤ S512x8192.size a) (y : S512x1024.Idx) :
    k0_pay2 (k0_pay8 (View.ld x0 r1) (View.ld x2 r3) (View.ld x1 r2)) (View.ld w (Rect.unit (s := S1024x8192) ![0, o] S1024x1024.size ha)) y
      = outE x0 x1 x2 w ((Rect.unit (s := S512x8192) ![0, o] S512x1024.size hb).emb y) := by
  obtain ⟨r, q, hy⟩ : ∃ (r : Fin 512) (q : Fin 1024), y = ix2 r q := ⟨y 0, y 1, idx_of y _ _ rfl rfl⟩
  subst hy
  have hq : o + q.val < 8192 := by
    have h : o + 1024 ≤ 8192 := ha 1
    omega
  have e0 : (Rect.unit (s := S512x8192) ![0, o] S512x1024.size hb).emb (ix2 r q) 0 = r := Fin.ext (by show 0 + 1 * r.val = r.val; omega)
  have e1 : (Rect.unit (s := S512x8192) ![0, o] S512x1024.size hb).emb (ix2 r q) 1 = (⟨o + q.val, hq⟩ : Fin 8192) :=
    Fin.ext (by show o + 1 * q.val = o + q.val; omega)
  rw [show View.ld x0 r1 = x0 from View.ld_unit_lit _ _ (by decide), show View.ld x2 r3 = x2 from View.ld_unit_lit _ _ (by decide),
    show View.ld x1 r2 = x1 from View.ld_unit_lit _ _ (by decide), pay2_at]
  unfold outE
  rw [e0, e1]
  refine Finset.sum_congr rfl fun k _ => ?_
  rw [pay8_at]
  exact congrArg (fun s : EReal => (_ : EReal) * s) (congrArg w (idx_of _ _ _ (by show 0 + 1 * k.val = k.val; omega) (by show o + 1 * q.val = o + q.val; omega)))

/-- What the body leaves at a place of the block. -/
theorem out_at (y : S512x8192.Idx) : out x0 x1 x2 w y = outE x0 x1 x2 w y := by
  unfold out
  refine View.canon_apply_of_pieces (S := S512x8192) (e := .bf16) (Val := Elt Ideal) (outE x0 x1 x2 w) _ ?_ y ?_
  swap
  · exact View.cover_of_tiled (s := S512x8192) _ S512x1024.size (by rfl) y
  intro p hp
  simp only [List.mem_cons, List.not_mem_nil, or_false] at hp
  rcases hp with rfl | rfl | rfl | rfl | rfl | rfl | rfl | rfl <;> exact fun x => chunk_at x0 x1 x2 w _ _ (by decide) x
end

variable (m : (ℓ : Loc nD τ sig) → Buf (Elt Ideal) ℓ)

/-- The blocks' places at a multiplying point. -/
theorem idx : ∀ t : Fin cfg0.N, 8 ≤ t.val → win0_0.index t = ![t.val - 8, 0] ∧ win0_1.index t = ![(t.val - 8) / 4, 0, 0] ∧ win0_2.index t = ![0, 0]
    ∧ win0_4.index t = ![t.val - 8, 0] ∧ t.val < 40 :=
  (by decide +kernel : ∀ t : Fin grid0.N, _)
/-- The slabs' places at a loading point. -/
theorem idx3 : ∀ t : Fin cfg0.N, t.val < 8 → win0_3.index t = ![0, t.val, 0] :=
  (by decide +kernel : ∀ t : Fin grid0.N, _)

section
variable (c : Dev nD) (t : Fin cfg0.N)

/-- A block of rows. -/
theorem blk0 (ht : 8 ≤ t.val) (r : Fin 512) (l : Fin 1024) (R : Fin 16384) (hR : R.val = 512 * (t.val - 8) + r.val) :
    (iblk m c 0 t : Vec Ideal S512x1024 .f32) (ix2 r l) = (m ((c : Thread nD τ).loc main_arg0) : (Sh 16384 1024).Idx → EReal) (ix2 R l) := by
  blk_ext [iblk, V, idx t ht]
/-- A batch row's modulation. -/
theorem blk1 (ht : 8 ≤ t.val) (a : Fin 6) (l : Fin 1024) (b : Fin 8) (hb : b.val = (t.val - 8) / 4) :
    (iblk m c 1 t : Vec Ideal S1x6x1024 .f32) (ix3 0 a l) = (m ((c : Thread nD τ).loc main_arg1) : S8x6x1024.Idx → EReal) (ix3 b a l) := by
  blk_ext [iblk, V, idx t ht]
/-- The gains. -/
theorem blk2 (ht : 8 ≤ t.val) (l : Fin 1024) :
    (iblk m c 2 t : Vec Ideal S1x1024 .f32) (ix2 0 l) = (m ((c : Thread nD τ).loc main_arg2) : S1024.Idx → EReal) (ix1 l) := by
  blk_simp [iblk]
  entry_read
  pointwise
  blk_ext [idx t ht]
/-- A slab of the weights. -/
theorem blk3 (ht : t.val < 8) (r : Fin 128) (l : Fin 8192) (k : Fin 1024) (hk : k.val = 128 * t.val + r.val) :
    (iblk m c 3 t : Vec Ideal S1x128x8192 .f32) (ix3 0 r l) = (m ((c : Thread nD τ).loc main_arg3) : S2x1024x8192.Idx → EReal) (ix3 0 k l) := by
  blk_ext [iblk, V, idx3 t ht]
/-- The weight buffer, full. -/
theorem wfull_at (k : Fin 1024) (l : Fin 8192) :
    wfull m c (ix2 k l) = (m ((c : Thread nD τ).loc main_arg3) : S2x1024x8192.Idx → EReal) (ix3 0 k l) := by
  unfold wfull
  have h : k.val / 128 < 8 := by omega
  refine (slab_at _ _ _).trans ?_
  exact blk3 m c ⟨k.val / 128, by show k.val / 128 < 40; omega⟩ h ⟨k.val % 128, Nat.mod_lt _ (by decide)⟩ l k
    (by show k.val = 128 * (k.val / 128) + k.val % 128; omega)
end

/-- The result array. -/
theorem final (c : Dev nD) : (dats m 0 c).arrAt 4 cfg0.N = fun y : (Sh 16384 8192).Idx =>
    projE (m ((c : Thread nD τ).loc main_arg0)) (m ((c : Thread nD τ).loc main_arg1))
      (fun l => (m ((c : Thread nD τ).loc main_arg2) : S1024.Idx → EReal) (ix1 l)) (m ((c : Thread nD τ).loc main_arg3)) (y 0) (y 1) := by
  refine (dats m 0 c).arrAt_eq_of_covers 4 _ (by decide +kernel) fun t hf y => ?_
  have h8 : 8 ≤ t.val := by
    by_contra h
    rw [flush4 t (by omega)] at hf
    exact absurd hf (by decide)
  have ht := (idx t h8).2.2.2.2
  obtain ⟨r, q, hy⟩ : ∃ (r : Fin 512) (q : Fin 8192), y = ix2 r q := ⟨y 0, y 1, idx_of y _ _ rfl rfl⟩
  subst hy
  rw [after4]
  have e0 : (win0_4.blk t).view.emb (ix2 r q) 0 = (⟨512 * (t.val - 8) + r.val, by omega⟩ : Fin 16384) := Fin.ext (by
    blk_simp [idx t h8]
    show _ = 512 * (t.val - 8) + r.val
    omega)
  have e1 : (win0_4.blk t).view.emb (ix2 r q) 1 = q := Fin.ext (by
    blk_simp [idx t h8])
  blk_simp [idx t h8]
  rw [e0, e1]
  refine (out_at ..).trans ?_
  unfold outE projE
  refine Finset.sum_congr rfl fun k _ => ?_
  refine congrArg₂ (fun a b : EReal => a * b) ?_ (wfull_at m c k q)
  have hb : (512 * (t.val - 8) + r.val) / 2048 = (t.val - 8) / 4 := by omega
  exact (congrArg₂ (fun a b => modE a b _ _ k) (funext fun l => blk0 m c t h8 r l _ rfl) (blk2 m c t h8 k)).trans
    (congrArg₂ (fun a b => modE _ _ a b k) (blk1 m c t h8 1 k _ hb) (blk1 m c t h8 0 k _ hb))

/-- The run, with the result array named. -/
theorem run (g : Dev nD → PrngReg) : θ_run defs (onTc (τ := τ) (main (F := Ideal))) ⟨m, fun _ => 0, g⟩ (fun r => ∀ c : Dev nD,
    r.2.mem ((c.tc : Thread nD τ).loc main_v1) = (dats m 0 c).arrAt 4 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h.1 c).1 4, h.2.1 c⟩)
    (θ_run_and ((θ_run defs _ _).mono (fun _ h => h.1) (run_main m g)) (frame m g))

end Cert.InProjIdeal.RefValue

end
-- ==== Proof.InProjRef.lean ====
/-
  The input projection: the reference's result array, from its argument arrays.
-/
module

public import proofs.«01_k».proof.Proof.InProjValue
public import proofs.«01_k».proof.Proof.Gen.InProjRefIdeal.Run

@[expose] public section

set_option maxRecDepth 16384

noncomputable section

namespace Cert.InProjRefIdeal.RefRead

open Cert.InProjRefIdeal Cert.InProjRefIdeal.Gen Idealize.ShloMosaic Idealize.ShloMosaic.TcCoe Idealize.SL.Sem
open Cert.KernelIdeal.RefValue (Sh Sv idx_of)
open Cert.InProjIdeal.RefValue (modE projE)

/-- The modulated rows. -/
def modRows (x : FVec Ideal S16384x1024 .f32) (md : FVec Ideal S8x6x1024 .f32) (g : FVec Ideal S1024 .f32) : FVec Ideal S8x2048x1024 .f32 :=
  addf (mulf (mulf (mulf (shapeCast S8x2048x1024 x shapeCasts_S16384x1024_S8x2048x1024)
        (broadcastInDim S8x2048x1024 ![0, 1, 2] bcast_S8x2048x1_S8x2048x1024_0_1_2 (Host.rsqrt (addf
          (Host.divf (broadcastInDim S8x2048x1 ![0, 1] bcast_S8x2048_S8x2048x1_0_1
              (Host.reduceAdd (mulf (shapeCast S8x2048x1024 x shapeCasts_S16384x1024_S8x2048x1024) (shapeCast S8x2048x1024 x shapeCasts_S16384x1024_S8x2048x1024))
                (constant S_ .f32 0x00000000#32) reducesTo_S8x2048x1024_S8x2048_d2 h_S_))
            (broadcastInDim S8x2048x1 ![] bcast_S_S8x2048x1 (constant S_ .f32 0x44800000#32)))
          (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S8x1x1024_S8x2048x1024_0_1_2 (addf (broadcastInDim S8x1x1024 ![] bcast_S_S8x1x1024 (constant S_ .f32 0x3F800000#32))
      (broadcastInDim S8x1x1024 ![0, 2] bcast_S8x1024_S8x1x1024_0_2 (shapeCast S8x1024 (extractStridedSlice S8x1x1024 ![0, 1, 0] md slices_S8x6x1024_S8x1x1024_0_1_0) shapeCasts_S8x1x1024_S8x1024)))))
    (broadcastInDim S8x2048x1024 ![0, 1, 2] bcast_S8x1x1024_S8x2048x1024_0_1_2 (broadcastInDim S8x1x1024 ![0, 2] bcast_S8x1024_S8x1x1024_0_2
      (shapeCast S8x1024 (extractStridedSlice S8x1x1024 ![0, 0, 0] md slices_S8x6x1024_S8x1x1024_0_0_0) shapeCasts_S8x1x1024_S8x1024)))

/-- The projection. -/
def proj (h : FVec Ideal S8x2048x1024 .f32) (w : FVec Ideal S2x1024x8192 .f32) : FVec Ideal S16384x8192 .bf16 :=
  truncf .bf16 (shapeCast S16384x8192 (Host.dotGeneral (φ₂ := .f32) dot_S8x2048x1024_S1024x8192_S8x2048x8192_2_0_01_1_n_n none h
    (shapeCast S1024x8192 (extractStridedSlice S1x1024x8192 ![0, 0, 0] w slices_S2x1024x8192_S1x1024x8192_0_0_0) shapeCasts_S1x1024x8192_S1024x8192))
    shapeCasts_S8x2048x8192_S16384x8192) bitsLt_bf16_f32

/-- A modulated row's entries. -/
theorem modRows_at (x : FVec Ideal S16384x1024 .f32) (md : FVec Ideal S8x6x1024 .f32) (g : FVec Ideal S1024 .f32) (b : Fin 8) (i : Fin 2048) (k : Fin 1024) :
    modRows x md g (ix3 b i k) = modE (fun c => x (ix2 (⟨b.val * 2048 + i.val, by omega⟩ : Fin 16384) c)) (g (ix1 k)) (md (ix3 b 1 k)) (md (ix3 b 0 k)) k := by
  pointwise [modRows, modE]

/-- The projection's entries. -/
theorem proj_at (h : FVec Ideal S8x2048x1024 .f32) (w : FVec Ideal S2x1024x8192 .f32) (R : Fin 16384) (C : Fin 8192) :
    proj h w (ix2 R C) = ∑ k : Fin 1024, h (ix3 (⟨R.val / 2048, by omega⟩ : Fin 8) (⟨R.val % 2048, by omega⟩ : Fin 2048) k) * w (ix3 0 k C) := by
  pointwise [proj]

/-- The reference's result array. -/
theorem ref_eq (x : FVec Ideal S16384x1024 .f32) (md : FVec Ideal S8x6x1024 .f32) (g : FVec Ideal S1024 .f32) (w : FVec Ideal S2x1024x8192 .f32) :
    proj (modRows x md g) w = fun y => projE x md (fun l => g (ix1 l)) w (y 0) (y 1) := by
  funext y
  obtain ⟨R, C, hy⟩ : ∃ (R : Fin 16384) (C : Fin 8192), y = ix2 R C := ⟨y 0, y 1, idx_of y _ _ rfl rfl⟩
  subst hy
  have e : (⟨R.val / 2048 * 2048 + R.val % 2048, by omega⟩ : Fin 16384) = R := Fin.ext (by show R.val / 2048 * 2048 + R.val % 2048 = R.val; omega)
  refine (proj_at (modRows x md g) w R C).trans ?_
  unfold projE
  refine Finset.sum_congr rfl fun k _ => ?_
  rw [modRows_at, e]
  rfl

end Cert.InProjRefIdeal.RefRead

end
-- ==== Proof.Rows.lean ====
/-
  A buffer filled slab by slab: `W` rows at a time, eight times.
-/
module

public import Idealize.ShloMosaic.Lib.Pipeline.ValueKit
public import Idealize.ShloMosaic.Lib.WritesUnit

@[expose] public section

noncomputable section

namespace Cert.Rows

open Idealize.ShloMosaic

/-- The shape of `n` rows of `k`. -/
abbrev Mat (n k : ℕ) : Shape := ⟨2, ![n, k]⟩

variable {R W C : ℕ} {α : Type}

/-- The array with the `W` rows from row `o` replaced. -/
def putRows (o : ℕ) (p : (Mat W C).Idx → α) (w : (Mat R C).Idx → α) : (Mat R C).Idx → α := fun y =>
  if h : o ≤ (y 0).val ∧ (y 0).val < o + W then p (ix2 ⟨(y 0).val - o, by omega⟩ (y 1)) else w y

/-- Slab `n`'s rows are rows `W n` on of the full array. -/
def full (hR : R = W * 8) (slabs : Fin 8 → (Mat W C).Idx → α) : (Mat R C).Idx → α := fun y =>
  slabs ⟨(y 0).val / W, Nat.div_lt_of_lt_mul (by have h : (y 0).val < R := (y 0).isLt; omega)⟩
    (ix2 ⟨(y 0).val % W, Nat.mod_lt _ (by have h : (y 0).val < R := (y 0).isLt; by_contra hw; have : W = 0 := by omega
                                          subst this; omega)⟩ (y 1))

/-- One more slab. -/
theorem put_step (hR : R = W * 8) (slabs : Fin 8 → (Mat W C).Idx → α) (n : Fin 8) (w : (Mat R C).Idx → α)
    (hw : ∀ y : (Mat R C).Idx, (y 0).val < W * n.val → w y = full hR slabs y) (y : (Mat R C).Idx) (hy : (y 0).val < W * (n.val + 1)) :
    putRows (W * n.val) (slabs n) w y = full hR slabs y := by
  unfold putRows
  by_cases h : W * n.val ≤ (y 0).val ∧ (y 0).val < W * n.val + W
  · rw [dif_pos h]
    unfold full
    have e2 : n.val = (y 0).val / W := (Nat.div_eq_of_lt_le (by rw [Nat.mul_comm]; exact h.1) (by rw [Nat.mul_comm, Nat.mul_add, Nat.mul_one]; exact h.2)).symm
    have e1 : (y 0).val - W * n.val = (y 0).val % W := by rw [e2, Nat.mod_def]
    obtain ⟨n, hn⟩ := n
    dsimp only at e1 e2
    subst e2
    simp only [e1]
  · rw [dif_neg h]
    exact hw y (by rw [Nat.mul_add, Nat.mul_one] at hy; omega)

/-- A store of a slab. -/
theorem read_put {sig : RefSig} {κ : Kind} {sp : Space} {e : EltTy} {Val : EltTy → Type} (v : View sig κ sp (Mat R C) e) (f : v.ty.Contents Val)
    {off : Fin 2 → ℕ} {o : ℕ} (inb : ∀ a : Fin 2, off a + (![W, C] : Fin 2 → ℕ) a ≤ (![R, C] : Fin 2 → ℕ) a) (p : (Mat W C).Idx → Val e)
    (hoff : off = ![o, 0]) :
    v.read Val (v.writes Val f [(⟨Rect.unit (s := Mat R C) off ![W, C] inb, p⟩ : View.Piece Val (Mat R C) e)]) = putRows o p (v.read Val f) := by
  funext y
  refine (View.read_writes_cons_rows (size := ![W, C]) (o := o) (W := W) v f inb p [] y hoff rfl rfl).trans ?_
  unfold putRows
  by_cases h : o ≤ (y 0).val ∧ (y 0).val < o + W
  · rw [dif_pos h, dif_pos h]
    exact congrArg p (funext fun a => Fin.ext (by
      rw [Rect.unitLocal_val]
      match a with
      | ⟨0, _⟩ => rfl
      | ⟨1, _⟩ => exact Nat.sub_zero _))
  · rw [dif_neg h, dif_neg h]
    rfl

end Cert.Rows

end
-- ==== Proof.DenseBody.lean ====
/-
  The dense feed-forward's body: it fills its three weight buffers one slab a point for eight points, then multiplies.
-/
module

public import proofs.«01_k».proof.Proof.Gen.DenseFfnIdeal.Frame
public import proofs.«01_k».proof.Proof.Gen.DenseFfnIdeal.Skeleton
public import proofs.«01_k».proof.Proof.Rows
public import Idealize.ShloMosaic.Lib.Pipeline.ValueKit
public import Idealize.ShloMosaic.Lib.WritesUnit

@[expose] public section

set_option maxRecDepth 16384

noncomputable section

namespace Cert.DenseFfnIdeal.Body

open Cert.DenseFfnIdeal Cert.DenseFfnIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first eight points load a slab of the weights. -/
theorem cond1_iff : ∀ t : Fin cfg0.N, k0_cond1 (grid0.coords t) = 1#1 ↔ t.val < 8 := by decide +kernel
/-- The other points multiply. -/
theorem cond2_iff : ∀ t : Fin cfg0.N, k0_cond2 (grid0.coords t) = 1#1 ↔ 8 ≤ t.val := by decide +kernel
/-- A point's coordinate is its number. -/
theorem coord : ∀ t : Fin cfg0.N, ((grid0.coords t) 0).val = t.val := by decide +kernel
/-- A loading point writes no result back. -/
theorem flush6 : ∀ t : Fin cfg0.N, t.val < 8 → (cfg0.win 6).flush t = false := by decide +kernel

abbrev r1 : Rect S512x1024 := Rect.unit (s := S512x1024) ![0, 0] S512x1024.size inb_S512x1024_S512x1024_0_0
abbrev r2 : Rect S1x6x1024 := Rect.unit (s := S1x6x1024) ![0, 0, 0] S1x6x1024.size inb_S1x6x1024_S1x6x1024_0_0_0
abbrev r3 : Rect S1x1024 := Rect.unit (s := S1x1024) ![0, 0] S1x1024.size inb_S1x1024_S1x1024_0_0
abbrev r4 : Rect S128x2816 := Rect.unit (s := S128x2816) ![0, 0] S128x2816.size inb_S128x2816_S128x2816_0_0
abbrev r6 : Rect S352x1024 := Rect.unit (s := S352x1024) ![0, 0] S352x1024.size inb_S352x1024_S352x1024_0_0

/-- The slab a loading point stores in the first two buffers. -/
def slab (x : Vec F S128x2816 .f32) : Vec F S128x2816 .bf16 := k0_pay1 (View.ld x r4)
/-- The slab a loading point stores in the third buffer. -/
def slab3 (x : Vec F S352x1024 .f32) : Vec F S352x1024 .bf16 := k0_pay3 (View.ld x r6)

set_option maxHeartbeats 1000000 in
/-- A loading point's body. -/
theorem load_kernel (c : Dev nD) (E : Set ℕ) (i : grid0.Coords) (h1 : k0_cond1 i = 1#1) (h2 : ¬ k0_cond2 i = 1#1)
    (arg1 : Memref sig .tc .vmem S512x1024 .f32) (harg1 : arg1.IsWhole) (arg2 : Memref sig .tc .vmem S1x6x1024 .f32) (harg2 : arg2.IsWhole)
    (arg3 : Memref sig .tc .vmem S1x1024 .f32) (harg3 : arg3.IsWhole) (arg4 : Memref sig .tc .vmem S128x2816 .f32) (harg4 : arg4.IsWhole)
    (arg5 : Memref sig .tc .vmem S128x2816 .f32) (harg5 : arg5.IsWhole) (arg6 : Memref sig .tc .vmem S352x1024 .f32) (harg6 : arg6.IsWhole)
    (arg7 : Memref sig .tc .vmem S512x1024 .f32) (harg7 : arg7.IsWhole) (arg8 : Memref sig .tc .vmem S1024x2816 .bf16) (harg8 : arg8.IsWhole)
    (arg9 : Memref sig .tc .vmem S1024x2816 .bf16) (harg9 : arg9.IsWhole) (arg10 : Memref sig .tc .vmem S2816x1024 .bf16) (harg10 : arg10.IsWhole)
    (x3 x4 : Vec F S128x2816 .f32) (x5 : Vec F S352x1024 .f32) (w1 w3 : Vec F S1024x2816 .bf16) (w2 : Vec F S2816x1024 .bf16) (K : PUnit → sProp 𝕄) :
    iprop(owns (c : Thread nD τ) arg4 fullShare x3 ∗ owns (c : Thread nD τ) arg5 fullShare x4 ∗ owns (c : Thread nD τ) arg6 fullShare x5
        ∗ owns (c : Thread nD τ) arg8 fullShare w1 ∗ owns (c : Thread nD τ) arg9 fullShare w3 ∗ owns (c : Thread nD τ) arg10 fullShare w2
        ∗ (iprop(owns (c : Thread nD τ) arg4 fullShare x3 ∗ owns (c : Thread nD τ) arg5 fullShare x4 ∗ owns (c : Thread nD τ) arg6 fullShare x5
          ∗ owns (c : Thread nD τ) arg8 fullShare (putRows (128 * (i 0).val) (slab x3) w1)
          ∗ owns (c : Thread nD τ) arg9 fullShare (putRows (128 * (i 0).val) (slab x4) w3)
          ∗ owns (c : Thread nD τ) arg10 fullShare (putRows (352 * (i 0).val) (slab3 x5) w2)) -∗ K ⟨⟩))
      ⊢ wp frame (wpE (defs₀ (F := F)) Variants.none c none) E (cc0_dense_ffn i arg1 harg1 arg2 harg2 arg3 harg3 arg4 harg4 arg5 harg5 arg6 harg6 arg7 harg7 arg8 harg8 arg9 harg9 arg10 harg10) K := by
  simp only [cc0_dense_ffn_eq_skeleton]; unfold cc0_dense_ffn_skel
  simp only [dif_pos h1, dif_neg h2]
  unfold owns
  iintro ⟨⟨%f3, %hf3, H3⟩, ⟨%f4, %hf4, H4⟩, ⟨%f5, %hf5, H5⟩, ⟨%f8, %hf8, H8⟩, ⟨%f9, %hf9, H9⟩, ⟨%f10, %hf10, H10⟩, Hk⟩
  subst hf3 hf4 hf5 hf8 hf9 hf10
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    exact read_put (R := 1024) (W := 128) (C := 2816) arg8.view f8 (k0_off1_inb i h1) (slab (View.read (Elt F) arg4.view f3)) (k0_off1_eq i)
  isplitl [H9]
  · iexists _; isplitr
    swap; · iexact H9
    ipureintro
    exact read_put (R := 1024) (W := 128) (C := 2816) arg9.view f9 (k0_off1_inb i h1) (slab (View.read (Elt F) arg5.view f4)) (k0_off1_eq i)
  iexists _; isplitr
  swap; · iexact H10
  ipureintro
  exact read_put (R := 2816) (W := 352) (C := 1024) arg10.view f10 (k0_off2_inb i h1) (slab3 (View.read (Elt F) arg6.view f5)) (k0_off2_eq i)

/-- A chunk of 256 lanes of the first two weights. -/
abbrev colR (f : Fin 11) : Rect S1024x2816 := Rect.unit (s := S1024x2816) ![0, 256 * f.val] S1024x256.size (by
  intro a; match a with
  | ⟨0, _⟩ => exact le_refl 1024
  | ⟨1, _⟩ => show 256 * f.val + 256 ≤ 2816; omega)
/-- A chunk of 256 rows of the third. -/
abbrev rowR (f : Fin 11) : Rect S2816x1024 := Rect.unit (s := S2816x1024) ![256 * f.val, 0] S256x1024.size (by
  intro a; match a with
  | ⟨0, _⟩ => show 256 * f.val + 256 ≤ 2816; omega
  | ⟨1, _⟩ => exact le_refl 1024)

section
variable (h : FVec F S512x1024 .bf16) (w1 w3 : Vec F S1024x2816 .bf16) (w2 : Vec F S2816x1024 .bf16)
/-- A chunk's product with its rows of the third weight. -/
def part (f : Fin 11) : FVec F S512x1024 .f32 :=
  matmul dot_S512x256_S256x1024_S512x1024_1_0_0_1_n_n none (k0_pay9 h (View.ld w1 (colR f)) (View.ld w3 (colR f))) (View.ld w2 (rowR f)) (constant S512x1024 .f32 0x00000000#32)
/-- The chunks summed, up to chunk `n`. -/
def acc : (n : ℕ) → n < 11 → FVec F S512x1024 .f32
  | 0, hn => part h w1 w3 w2 ⟨0, hn⟩
  | n + 1, hn => addf (acc n (Nat.lt_of_succ_lt hn)) (part h w1 w3 w2 ⟨n + 1, hn⟩)
end

/-- The tile a multiplying point stores. -/
def tile (x0 : Vec F S512x1024 .f32) (x1 : Vec F S1x6x1024 .f32) (x2 : Vec F S1x1024 .f32) (w1 w3 : Vec F S1024x2816 .bf16) (w2 : Vec F S2816x1024 .bf16) : Vec F S512x1024 .f32 :=
  addf (View.ld x0 r1) (mulf (broadcastTo S512x1024 (k0_pay6 (View.ld x1 r2)) broadcasts_S1x1024_S512x1024)
    (acc (k0_pay5 (View.ld x0 r1) (View.ld x2 r3) (View.ld x1 r2)) w1 w3 w2 10 (by decide)))

/-- The result block of a multiplying point. -/
def out (x0 : Vec F S512x1024 .f32) (x1 : Vec F S1x6x1024 .f32) (x2 : Vec F S1x1024 .f32) (w1 w3 : Vec F S1024x2816 .bf16) (w2 : Vec F S2816x1024 .bf16) : Vec F S512x1024 .f32 :=
  View.canon (Val := Elt F) [(⟨r1, tile x0 x1 x2 w1 w3 w2⟩ : View.Piece (Elt F) S512x1024 .f32)]

set_option maxHeartbeats 2000000 in
/-- A multiplying point's body. -/
theorem mul_kernel (c : Dev nD) (E : Set ℕ) (i : grid0.Coords) (h1 : ¬ k0_cond1 i = 1#1) (h2 : k0_cond2 i = 1#1)
    (arg1 : Memref sig .tc .vmem S512x1024 .f32) (harg1 : arg1.IsWhole) (arg2 : Memref sig .tc .vmem S1x6x1024 .f32) (harg2 : arg2.IsWhole)
    (arg3 : Memref sig .tc .vmem S1x1024 .f32) (harg3 : arg3.IsWhole) (arg4 : Memref sig .tc .vmem S128x2816 .f32) (harg4 : arg4.IsWhole)
    (arg5 : Memref sig .tc .vmem S128x2816 .f32) (harg5 : arg5.IsWhole) (arg6 : Memref sig .tc .vmem S352x1024 .f32) (harg6 : arg6.IsWhole)
    (arg7 : Memref sig .tc .vmem S512x1024 .f32) (harg7 : arg7.IsWhole) (arg8 : Memref sig .tc .vmem S1024x2816 .bf16) (harg8 : arg8.IsWhole)
    (arg9 : Memref sig .tc .vmem S1024x2816 .bf16) (harg9 : arg9.IsWhole) (arg10 : Memref sig .tc .vmem S2816x1024 .bf16) (harg10 : arg10.IsWhole)
    (x0 : Vec F S512x1024 .f32) (x1 : Vec F S1x6x1024 .f32) (x2 : Vec F S1x1024 .f32) (w1 w3 : Vec F S1024x2816 .bf16) (w2 : Vec F S2816x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg7 fullShare d) ∗ owns (c : Thread nD τ) arg8 fullShare w1 ∗ owns (c : Thread nD τ) arg9 fullShare w3 ∗ owns (c : Thread nD τ) arg10 fullShare w2
        ∗ (iprop(owns (c : Thread nD τ) arg1 fullShare x0 ∗ owns (c : Thread nD τ) arg2 fullShare x1 ∗ owns (c : Thread nD τ) arg3 fullShare x2
          ∗ owns (c : Thread nD τ) arg7 fullShare (out x0 x1 x2 w1 w3 w2) ∗ owns (c : Thread nD τ) arg8 fullShare w1 ∗ owns (c : Thread nD τ) arg9 fullShare w3 ∗ owns (c : Thread nD τ) arg10 fullShare w2) -∗ K ⟨⟩))
      ⊢ wp frame (wpE (defs₀ (F := F)) Variants.none c none) E (cc0_dense_ffn i arg1 harg1 arg2 harg2 arg3 harg3 arg4 harg4 arg5 harg5 arg6 harg6 arg7 harg7 arg8 harg8 arg9 harg9 arg10 harg10) K := by
  simp only [cc0_dense_ffn_eq_skeleton]; unfold cc0_dense_ffn_skel
  simp only [dif_neg h1, dif_pos h2, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, ⟨%f8, %hf8, H8⟩, Hk⟩
  subst hf0 hf1 hf2 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact View.read_writes_eq_canon _ _ _ (View.cover_of_tiled (s := S512x1024) _ S512x1024.size (by rfl))
  isplitl [H6]
  · iexists f6; isplitr; · ipureintro; rfl
    iexact H6
  isplitl [H7]
  · iexists f7; isplitr; · ipureintro; rfl
    iexact H7
  iexists f8; isplitr; · ipureintro; rfl
  iexact H8

/-! ## The proof data -/

/-- Point `n` of the first eight. -/
abbrev pt (n : Fin 8) : Fin cfg0.N := ⟨n.val, by show n.val < 40; omega⟩

/-- The weight buffers once every slab is in. -/
def full1 (c : Dev nD) : Vec F S1024x2816 .bf16 := full (R := 1024) (W := 128) (C := 2816) rfl fun n => slab (iblk m c 3 (pt n))
def full3 (c : Dev nD) : Vec F S1024x2816 .bf16 := full (R := 1024) (W := 128) (C := 2816) rfl fun n => slab (iblk m c 4 (pt n))
def full2 (c : Dev nD) : Vec F S2816x1024 .bf16 := full (R := 2816) (W := 352) (C := 1024) rfl fun n => slab3 (iblk m c 5 (pt n))

/-- Before point `n` the weight buffers' first `n` slabs are in. -/
def Inv (c : Dev nD) (n : ℕ) : sProp 𝕄 :=
  iprop(((∃ w : Vec F S1024x2816 .bf16, owns (c : Thread nD τ) (Memref.whole cc0_scratch0) fullShare w
      ∗ ⌜∀ y : S1024x2816.Idx, (y 0).val < 128 * n → w y = full1 m c y⌝)
    ∗ (∃ w : Vec F S1024x2816 .bf16, owns (c : Thread nD τ) (Memref.whole cc0_scratch1) fullShare w
      ∗ ⌜∀ y : S1024x2816.Idx, (y 0).val < 128 * n → w y = full3 m c y⌝)
    ∗ (∃ w : Vec F S2816x1024 .bf16, owns (c : Thread nD τ) (Memref.whole cc0_scratch2) fullShare w
      ∗ ⌜∀ y : S2816x1024.Idx, (y 0).val < 352 * n → w y = full2 m c y⌝)) ∗ ∃ r, prngReg c r)

/-- The proof data: an input's buffer keeps its block, the result's holds the point's block, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out (iblk m c 0 t) (iblk m c 1 t) (iblk m c 2 t) (full1 m c) (full3 m c) (full2 m c)
  Φ t := Inv m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = out (iblk m c 0 t) (iblk m c 1 t) (iblk m c 2 t) (full1 m c) (full3 m c) (full2 m c) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem Φ_start (c : Dev nD) (t : Fin cfg0.N) : (dats m 0 c).Φ t.castSucc = Inv m c t.val := by
  dsimp only [dats]; exact Dat.Φ_castSucc (fun n _ => Inv m c n) t
theorem Φ_end (c : Dev nD) (t : Fin cfg0.N) : (dats m 0 c).Φ t.succ = Inv m c (t.val + 1) := by dsimp only [dats]; rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns, the result's buffer as `Q`. -/
def bodyPost (c : Dev nD) (t : Fin cfg0.N) (Q : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ Q)

/-- A loading point. -/
theorem load_body (c : Dev nD) (t : Fin cfg0.N) (ht : t.val < 8) :
    bodyPre m c t ⊢ wp frame (wpE (defs₀ (F := F)) Variants.none c none) Set.univ (bodyAt0 t)
      (fun _ => bodyPost m c t iprop(∃ d, owns (c : Thread nD τ) (st0_6 t) fullShare ((dats m 0 c).before 6 t d))) := by
  unfold bodyPre bodyPost bodyAt0
  simp only [before0, before1, before2, before3, before4, before5]
  rw [Φ_start, Φ_end, show (dats m 0 c).owesAt () t.succ = (dats m 0 c).owesAt () t.castSucc from rfl, after0, after1, after2, after3, after4, after5]
  unfold Inv
  iintro ⟨⟨⟨⟨%w1, W1, %hw1⟩, ⟨%w3, W3, %hw3⟩, ⟨%w2, W2, %hw2⟩⟩, Hr⟩, Ho, ⟨%d0, H0⟩, ⟨%d1, H1⟩, ⟨%d2, H2⟩, ⟨%d3, H3⟩, ⟨%d4, H4⟩, ⟨%d5, H5⟩, H6⟩
  iapply (load_kernel c Set.univ (grid0.coords t) ((cond1_iff t).2 ht) (fun h => absurd ((cond2_iff t).1 h) (by omega)) _ _ _ _ _ _ _ _ _ _ _ _ _ _ _ _ _ _ _ _
    (iblk m c 3 t) (iblk m c 4 t) (iblk m c 5 t) w1 w3 w2 _)
  isplitl [H3]; · iexact H3
  isplitl [H4]; · iexact H4
  isplitl [H5]; · iexact H5
  isplitl [W1]; · iexact W1
  isplitl [W3]; · iexact W3
  isplitl [W2]; · iexact W2
  iintro ⟨H3, H4, H5, W1, W3, W2⟩
  isplitl [W1 W3 W2 Hr]
  · isplitl [W1 W3 W2]
    · isplitl [W1]
      · iexists _
        isplitl [W1]; · iexact W1
        ipureintro
        rw [coord t]
        exact put_step rfl (fun n => slab (iblk m c 3 (pt n))) ⟨t.val, ht⟩ w1 hw1
      isplitl [W3]
      · iexists _
        isplitl [W3]; · iexact W3
        ipureintro
        rw [coord t]
        exact put_step rfl (fun n => slab (iblk m c 4 (pt n))) ⟨t.val, ht⟩ w3 hw3
      iexists _
      isplitl [W2]; · iexact W2
      ipureintro
      rw [coord t]
      exact put_step rfl (fun n => slab3 (iblk m c 5 (pt n))) ⟨t.val, ht⟩ w2 hw2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- A multiplying point. -/
theorem mul_body (c : Dev nD) (t : Fin cfg0.N) (ht : 8 ≤ t.val) :
    bodyPre m c t ⊢ wp frame (wpE (defs₀ (F := F)) Variants.none c none) Set.univ (bodyAt0 t)
      (fun _ => bodyPost m c t (owns (c : Thread nD τ) (st0_6 t) fullShare ((dats m 0 c).after 6 t))) := by
  unfold bodyPre bodyPost bodyAt0
  simp only [before0, before1, before2, before3, before4, before5]
  rw [Φ_start, Φ_end, show (dats m 0 c).owesAt () t.succ = (dats m 0 c).owesAt () t.castSucc from rfl, after0, after1, after2, after3, after4, after5, after6]
  unfold Inv
  iintro ⟨⟨⟨⟨%w1, W1, %hw1⟩, ⟨%w3, W3, %hw3⟩, ⟨%w2, W2, %hw2⟩⟩, Hr⟩, Ho, ⟨%d0, H0⟩, ⟨%d1, H1⟩, ⟨%d2, H2⟩, ⟨%d3, H3⟩, ⟨%d4, H4⟩, ⟨%d5, H5⟩, ⟨%d6, H6⟩⟩
  have e1 : w1 = full1 m c := funext fun y => hw1 y (by have h : (y 0).val < 1024 := (y 0).isLt; omega)
  have e3 : w3 = full3 m c := funext fun y => hw3 y (by have h : (y 0).val < 1024 := (y 0).isLt; omega)
  have e2 : w2 = full2 m c := funext fun y => hw2 y (by have h : (y 0).val < 2816 := (y 0).isLt; omega)
  subst e1 e3 e2
  iapply (mul_kernel c Set.univ (grid0.coords t) (fun h => absurd ((cond1_iff t).1 h) (by omega)) ((cond2_iff t).2 ht) _ _ _ _ _ _ _ _ _ _ _ _ _ _ _ _ _ _ _ _
    (iblk m c 0 t) (iblk m c 1 t) (iblk m c 2 t) (full1 m c) (full3 m c) (full2 m c) _)
  isplitl [H0]; · iexact H0
  isplitl [H1]; · iexact H1
  isplitl [H2]; · iexact H2
  isplitl [H6]; · iexists _; iexact H6
  isplitl [W1]; · iexact W1
  isplitl [W3]; · iexact W3
  isplitl [W2]; · iexact W2
  iintro ⟨H0, H1, H2, H6, W1, W3, W2⟩
  isplitl [W1 W3 W2 Hr]
  · isplitl [W1 W3 W2]
    · isplitl [W1]
      · iexists _
        isplitl [W1]; · iexact W1
        ipureintro
        exact fun _ _ => rfl
      isplitl [W3]
      · iexists _
        isplitl [W3]; · iexact W3
        ipureintro
        exact fun _ _ => rfl
      iexists _
      isplitl [W2]; · iexact W2
      ipureintro
      exact fun _ _ => rfl
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin cfg0.N) : defs₀ (F := F) .tc cfg0.body (cfg0.bodyArgs t (cfg0.slots t)) = bodyAt0 t := by
  unfold defs₀; rw [Defs.onTc_tc]

/-- The body obligation. -/
theorem obligation (c : Dev nD) : BodyObligationLoose (dats (F := F) m 0 c) (defs₀ (F := F)) Variants.none () Set.univ := fun t => by
  rw [bigSep_W0, bigSep_W0, row]
  by_cases ht : t.val < 8
  · have hi : cfg0.idle 6 (cfg0.grid.coords t) = true := by
      show (!(k0_cond2 (grid0.coords t) == 1#1)) = true
      have : ¬ k0_cond2 (grid0.coords t) = 1#1 := fun h => absurd ((cond2_iff t).1 h) (by omega)
      simp [this]
    rw [hi, flush6 t ht]
    exact triple_restated (load_body m c t ht) rfl .rfl fun _ => .rfl
  · have hi : cfg0.idle 6 (cfg0.grid.coords t) = false := by
      show (!(k0_cond2 (grid0.coords t) == 1#1)) = false
      have : k0_cond2 (grid0.coords t) = 1#1 := (cond2_iff t).2 (by omega)
      simp [this]
    rw [hi]
    exact triple_restated (mul_body m c t (by omega)) rfl .rfl fun _ => .rfl

/-- The invariant at the start asks nothing of the weight buffers. -/
theorem start (c : Dev nD) : Pipeline.ΦA spec0 c ⊢ (dats (F := F) m 0 c).Φ 0 := by
  rw [show (dats (F := F) m 0 c).Φ 0 = Inv m c 0 from rfl]
  unfold Pipeline.ΦA Inv
  rw [scopedRest0_eq]
  iintro ⟨⟨⟨%f1, W1⟩, ⟨%f3, W3⟩, ⟨%f2, W2⟩⟩, Hr⟩
  isplitl [W1 W3 W2]
  · isplitl [W1]
    · iexists f1
      rw [owns_whole]
      isplitl [W1]; · iexact W1
      ipureintro
      exact fun y hy => absurd hy (by omega)
    isplitl [W3]
    · iexists f3
      rw [owns_whole]
      isplitl [W3]; · iexact W3
      ipureintro
      exact fun y hy => absurd hy (by omega)
    iexists f2
    rw [owns_whole]
    isplitl [W2]; · iexact W2
    ipureintro
    exact fun y hy => absurd hy (by omega)
  iexact Hr

/-- After the last point the weight buffers are forgotten. -/
theorem finish (c : Dev nD) : (dats (F := F) m 0 c).Φ (Fin.last cfg0.N) ⊢ Pipeline.ΦA spec0 c := by
  rw [show (dats (F := F) m 0 c).Φ (Fin.last cfg0.N) = Inv m c (Fin.last cfg0.N).val from rfl]
  unfold Pipeline.ΦA Inv
  rw [scopedRest0_eq]
  iintro ⟨⟨⟨%w1, W1, -⟩, ⟨%w3, W3, -⟩, ⟨%w2, W2, -⟩⟩, Hr⟩
  isplitl [W1 W3 W2]
  · isplitl [W1]
    · iexists w1
      rw [owns_whole]
      exact .rfl
    isplitl [W3]
    · iexists w3
      rw [owns_whole]
      exact .rfl
    iexists w2
    rw [owns_whole]
    exact .rfl
  iexact Hr

set_option backward.isDefEq.respectTransparency.types false in
set_option maxHeartbeats 800000 in
/-- The run, with every counter at zero at the end. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := obligation m) (hshare := fun _ w => by fin_cases w <;> rfl) (howed := fun _ _ => rfl) (V := V m) (hmain := hmain m Variants.none) (hA := A_eq m)
    (hin := start m) (hout := finish m)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.DenseFfnIdeal.Body

end
-- ==== Proof.DenseBits.lean ====
/-
  The dense feed-forward in the machine's own arithmetic: its program is the idealized one's, so its frame is too.
-/
module

public import proofs.«01_k».proof.Proof.DenseBody
public import proofs.«01_k».proof.Proof.Gen.DenseFfn
public import proofs.«01_k».proof.Defs

@[expose] public section

set_option maxRecDepth 65536
set_option backward.isDefEq.respectTransparency.types false
set_option backward.isDefEq.respectTransparency false

noncomputable section

namespace Cert.DenseFfn.Body

open Idealize.ShloMosaic Idealize.SL.Sem

/-- The two programs' body tables. -/
theorem bodies_eq : Cert.DenseFfn.defs₀ (F := Bits) = Cert.DenseFfnIdeal.defs₀ (F := Bits) := by
  funext c n
  cases c with
  | tc =>
    obtain ⟨_ | n, h⟩ := n
    · funext x
      obtain ⟨t, s⟩ := x
      rfl
    · exact absurd h (by omega)
  | _ => rfl

/-- The two programs' tables. -/
theorem defs_eq : Cert.DenseFfn.defs (F := Bits) = Cert.DenseFfnIdeal.defs (F := Bits) :=
  congrArg (Pipeline.defs (Cert.DenseFfnIdeal.pcfgs (F := Bits))) bodies_eq

/-- The two programs. -/
theorem main_eq : Cert.DenseFfn.main (F := Bits) = Cert.DenseFfnIdeal.main (F := Bits) := rfl

/-- The frame. -/
theorem frame : Cert.quiescent_DenseFfn (hDenseFfn := Cert.DenseFfn.Gen.facts) := fun m g _ => by
  rw [defs_eq, main_eq]
  exact Cert.DenseFfnIdeal.Body.frame (F := Bits) m g

end Cert.DenseFfn.Body

end
-- ==== Proof.DenseValue.lean ====
/-
  The dense feed-forward: the result array of the kernel, from its argument arrays.
-/
module

public import proofs.«01_k».proof.Proof.InProjValue
public import proofs.«01_k».proof.Proof.DenseBody

@[expose] public section

set_option maxRecDepth 16384

noncomputable section

namespace Cert.DenseFfnIdeal.RefValue

open Cert.DenseFfnIdeal Cert.DenseFfnIdeal.Gen Cert.DenseFfnIdeal.Body Idealize.ShloMosaic Idealize.ShloMosaic.TcCoe Idealize.SL.Sem
open Cert.KernelIdeal.RefValue (Sh idx_of)
open Cert.InProjIdeal.RefValue (modE)

/-- The gated hidden lane of a row `h`: the two weights' columns are `a` and `b`. -/
def hidE (h a b : Fin 1024 → EReal) : EReal :=
  (∑ k : Fin 1024, h k * a k) * Ideal.logistic (∑ k : Fin 1024, h k * a k) * (∑ k : Fin 1024, h k * b k)

/-- The result's entry at row `R` and lane `C`. -/
def resE (x : (Sh 16384 1024).Idx → EReal) (md : S8x6x1024.Idx → EReal) (g : Fin 1024 → EReal) (w1 w3 : (Sh 1024 2816).Idx → EReal)
    (w2 : (Sh 2816 1024).Idx → EReal) (R : Fin 16384) (C : Fin 1024) : EReal :=
  x (ix2 R C) + md (ix3 ⟨R.val / 2048, by omega⟩ 5 C) * ∑ j : Fin 2816,
    hidE (fun k => modE (fun c => x (ix2 R c)) (g k) (md (ix3 ⟨R.val / 2048, by omega⟩ 4 k)) (md (ix3 ⟨R.val / 2048, by omega⟩ 3 k)) k)
      (fun k => w1 (ix2 k j)) (fun k => w3 (ix2 k j)) * w2 (ix2 j C)

/-- The modulated rows of a block. -/
theorem pay5_at (x : Vec Ideal S512x1024 .f32) (g : Vec Ideal S1x1024 .f32) (md : Vec Ideal S1x6x1024 .f32) (r : Fin 512) (k : Fin 1024) :
    k0_pay5 x g md (ix2 r k) = modE (fun c => x (ix2 r c)) (g (ix2 0 k)) (md (ix3 0 4 k)) (md (ix3 0 3 k)) k := by
  pointwise [k0_pay5, modE]

/-- The result's scale. -/
theorem pay6_at (md : Vec Ideal S1x6x1024 .f32) (k : Fin 1024) : k0_pay6 md (ix2 0 k) = md (ix3 0 5 k) := by
  pointwise [k0_pay6]

/-- A chunk of the hidden lanes. -/
theorem pay9_at (h : FVec Ideal S512x1024 .bf16) (a b : Vec Ideal S1024x256 .bf16) (r : Fin 512) (j : Fin 256) :
    k0_pay9 h a b (ix2 r j) = hidE (fun k => h (ix2 r k)) (fun k => a (ix2 k j)) (fun k => b (ix2 k j)) := by
  pointwise [k0_pay9, hidE]

/-- The slabs' entries. -/
theorem slab_at (x : Vec Ideal S128x2816 .f32) (r : Fin 128) (c : Fin 2816) : slab x (ix2 r c) = x (ix2 r c) := by
  unfold slab
  rw [show View.ld x r4 = x from View.ld_unit_lit _ _ (by decide)]
  pointwise [k0_pay1]
theorem slab3_at (x : Vec Ideal S352x1024 .f32) (r : Fin 352) (c : Fin 1024) : slab3 x (ix2 r c) = x (ix2 r c) := by
  unfold slab3
  rw [show View.ld x r6 = x from View.ld_unit_lit _ _ (by decide)]
  pointwise [k0_pay3]

section
variable (h : FVec Ideal S512x1024 .bf16) (w1 w3 : Vec Ideal S1024x2816 .bf16) (w2 : Vec Ideal S2816x1024 .bf16) (r : Fin 512) (c : Fin 1024)

/-- The product's term of a hidden lane. -/
def termE (j : Fin 2816) : EReal :=
  hidE (fun k => h (ix2 r k)) (fun k => w1 (ix2 k j)) (fun k => w3 (ix2 k j)) * w2 (ix2 j c)
/-- The term, of any number. -/
def extE (j : ℕ) : EReal := if hj : j < 2816 then termE h w1 w3 w2 r c ⟨j, hj⟩ else 0

/-- A chunk's matmul. -/
theorem dot_at (a : FVec Ideal S512x256 .bf16) (b : Vec Ideal S256x1024 .bf16) :
    matmul (φ₂ := .bf16) dot_S512x256_S256x1024_S512x1024_1_0_0_1_n_n none a b (constant S512x1024 .f32 0x00000000#32) (ix2 r c)
      = ∑ j : Fin 256, a (ix2 r j) * b (ix2 j c) := by
  pointwise

/-- A chunk's columns. -/
theorem col_at (f : Fin 11) (w : Vec Ideal S1024x2816 .bf16) (k : Fin 1024) (j : Fin 256) :
    View.ld w (colR f) (ix2 k j) = w (ix2 k (⟨256 * f.val + j.val, by omega⟩ : Fin 2816)) :=
  congrArg w (idx_of _ _ _ (by show 0 + 1 * k.val = k.val; omega) (by show 256 * f.val + 1 * j.val = 256 * f.val + j.val; omega))
/-- A chunk's rows. -/
theorem row_at (f : Fin 11) (w : Vec Ideal S2816x1024 .bf16) (j : Fin 256) :
    View.ld w (rowR f) (ix2 j c) = w (ix2 (⟨256 * f.val + j.val, by omega⟩ : Fin 2816) c) :=
  congrArg w (idx_of _ _ _ (by show 256 * f.val + 1 * j.val = 256 * f.val + j.val; omega) (by show 0 + 1 * c.val = c.val; omega))

/-- A chunk's product. -/
theorem part_at (f : Fin 11) : part h w1 w3 w2 f (ix2 r c) = ∑ j ∈ Finset.range 256, extE h w1 w3 w2 r c (256 * f.val + j) := by
  unfold part
  refine (dot_at r c _ _).trans ?_
  rw [Finset.sum_range]
  refine Finset.sum_congr rfl fun j _ => ?_
  have hj : 256 * f.val + j.val < 2816 := by omega
  rw [pay9_at, row_at, extE, dif_pos hj, termE]
  refine congrArg (fun s : EReal => s * _) ?_
  exact congrArg₂ (hidE _) (funext fun k => col_at f w1 k j) (funext fun k => col_at f w3 k j)

/-- The chunks summed. -/
theorem acc_at (n : ℕ) (hn : n < 11) : acc h w1 w3 w2 n hn (ix2 r c) = ∑ j ∈ Finset.range (256 * (n + 1)), extE h w1 w3 w2 r c j := by
  induction n with
  | zero =>
    refine (part_at h w1 w3 w2 r c ⟨0, hn⟩).trans ?_
    exact Finset.sum_congr rfl fun j _ => congrArg _ (by show 256 * 0 + j = j; omega)
  | succ n ih =>
    rw [show 256 * (n + 1 + 1) = 256 * (n + 1) + 256 by omega, Finset.sum_range_add]
    exact congrArg₂ (fun a b : EReal => a + b) (ih (Nat.lt_of_succ_lt hn)) (part_at h w1 w3 w2 r c ⟨n + 1, hn⟩)

/-- All chunks. -/
theorem acc_all : acc h w1 w3 w2 10 (by decide) (ix2 r c) = ∑ j : Fin 2816, termE h w1 w3 w2 r c j := by
  rw [acc_at, Finset.sum_range]
  exact Finset.sum_congr rfl fun j _ => dif_pos j.isLt
end

/-- The stored tile's last step. -/
theorem mix_at (x0 : FVec Ideal S512x1024 .f32) (s : FVec Ideal S1x1024 .f32) (a : FVec Ideal S512x1024 .f32) (r : Fin 512) (c : Fin 1024) :
    addf x0 (mulf (broadcastTo S512x1024 s broadcasts_S1x1024_S512x1024) a) (ix2 r c) = x0 (ix2 r c) + s (ix2 0 c) * a (ix2 r c) := by
  pointwise

/-- What the body leaves at a place of the block. -/
theorem out_at (x0 : Vec Ideal S512x1024 .f32) (x1 : Vec Ideal S1x6x1024 .f32) (x2 : Vec Ideal S1x1024 .f32) (w1 w3 : Vec Ideal S1024x2816 .bf16)
    (w2 : Vec Ideal S2816x1024 .bf16) (r : Fin 512) (c : Fin 1024) :
    out x0 x1 x2 w1 w3 w2 (ix2 r c) = x0 (ix2 r c) + x1 (ix3 0 5 c) * ∑ j : Fin 2816,
      hidE (fun k => modE (fun c => x0 (ix2 r c)) (x2 (ix2 0 k)) (x1 (ix3 0 4 k)) (x1 (ix3 0 3 k)) k) (fun k => w1 (ix2 k j)) (fun k => w3 (ix2 k j))
        * w2 (ix2 j c) := by
  unfold out
  rw [View.canon_cons_unit_lit _ _ _ (by decide)]
  unfold tile
  rw [show View.ld x0 r1 = x0 from View.ld_unit_lit _ _ (by decide), show View.ld x2 r3 = x2 from View.ld_unit_lit _ _ (by decide),
    show View.ld x1 r2 = x1 from View.ld_unit_lit _ _ (by decide)]
  refine (mix_at _ _ _ r c).trans ?_
  rw [pay6_at, acc_all]
  refine congrArg (fun s : EReal => _ + _ * s) (Finset.sum_congr rfl fun j _ => ?_)
  unfold termE
  exact congrArg (fun f => hidE f _ _ * _) (funext fun k => pay5_at x0 x2 x1 r k)

variable (m : (ℓ : Loc nD τ sig) → Buf (Elt Ideal) ℓ)

/-- The blocks' places at a multiplying point. -/
theorem idx : ∀ t : Fin cfg0.N, 8 ≤ t.val → win0_0.index t = ![t.val - 8, 0] ∧ win0_1.index t = ![(t.val - 8) / 4, 0, 0] ∧ win0_2.index t = ![0, 0]
    ∧ win0_6.index t = ![t.val - 8, 0] ∧ t.val < 40 :=
  (by decide +kernel : ∀ t : Fin grid0.N, _)
/-- The slabs' places at a loading point. -/
theorem idx3 : ∀ t : Fin cfg0.N, t.val < 8 → win0_3.index t = ![t.val, 0] ∧ win0_4.index t = ![t.val, 0] ∧ win0_5.index t = ![t.val, 0] :=
  (by decide +kernel : ∀ t : Fin grid0.N, _)

section
variable (c : Dev nD) (t : Fin cfg0.N)

/-- A block of rows. -/
theorem blk0 (ht : 8 ≤ t.val) (r : Fin 512) (l : Fin 1024) (R : Fin 16384) (hR : R.val = 512 * (t.val - 8) + r.val) :
    (iblk m c 0 t : Vec Ideal S512x1024 .f32) (ix2 r l) = (m ((c : Thread nD τ).loc main_arg0) : (Sh 16384 1024).Idx → EReal) (ix2 R l) := by
  blk_ext [iblk, V, idx t ht]
/-- A batch row's modulation. -/
theorem blk1 (ht : 8 ≤ t.val) (a : Fin 6) (l : Fin 1024) (b : Fin 8) (hb : b.val = (t.val - 8) / 4) :
    (iblk m c 1 t : Vec Ideal S1x6x1024 .f32) (ix3 0 a l) = (m ((c : Thread nD τ).loc main_arg1) : S8x6x1024.Idx → EReal) (ix3 b a l) := by
  blk_ext [iblk, V, idx t ht]
/-- The gains. -/
theorem blk2 (ht : 8 ≤ t.val) (l : Fin 1024) :
    (iblk m c 2 t : Vec Ideal S1x1024 .f32) (ix2 0 l) = (m ((c : Thread nD τ).loc main_arg2) : S1024.Idx → EReal) (ix1 l) := by
  blk_simp [iblk]
  entry_read
  pointwise
  blk_ext [idx t ht]
/-- The slabs of the weights. -/
theorem blk3 (ht : t.val < 8) (r : Fin 128) (l : Fin 2816) (k : Fin 1024) (hk : k.val = 128 * t.val + r.val) :
    (iblk m c 3 t : Vec Ideal S128x2816 .f32) (ix2 r l) = (m ((c : Thread nD τ).loc main_arg3) : (Sh 1024 2816).Idx → EReal) (ix2 k l) := by
  blk_ext [iblk, V, idx3 t ht]
theorem blk4 (ht : t.val < 8) (r : Fin 128) (l : Fin 2816) (k : Fin 1024) (hk : k.val = 128 * t.val + r.val) :
    (iblk m c 4 t : Vec Ideal S128x2816 .f32) (ix2 r l) = (m ((c : Thread nD τ).loc main_arg4) : (Sh 1024 2816).Idx → EReal) (ix2 k l) := by
  blk_ext [iblk, V, idx3 t ht]
theorem blk5 (ht : t.val < 8) (r : Fin 352) (l : Fin 1024) (k : Fin 2816) (hk : k.val = 352 * t.val + r.val) :
    (iblk m c 5 t : Vec Ideal S352x1024 .f32) (ix2 r l) = (m ((c : Thread nD τ).loc main_arg5) : (Sh 2816 1024).Idx → EReal) (ix2 k l) := by
  blk_ext [iblk, V, idx3 t ht]
/-- The weight buffers, full. -/
theorem full1_at (k : Fin 1024) (l : Fin 2816) :
    full1 m c (ix2 k l) = (m ((c : Thread nD τ).loc main_arg3) : (Sh 1024 2816).Idx → EReal) (ix2 k l) := by
  unfold full1
  have h : k.val / 128 < 8 := by omega
  refine (slab_at _ _ _).trans ?_
  exact blk3 m c (pt ⟨k.val / 128, h⟩) h ⟨k.val % 128, Nat.mod_lt _ (by decide)⟩ l k (by show k.val = 128 * (k.val / 128) + k.val % 128; omega)
theorem full3_at (k : Fin 1024) (l : Fin 2816) :
    full3 m c (ix2 k l) = (m ((c : Thread nD τ).loc main_arg4) : (Sh 1024 2816).Idx → EReal) (ix2 k l) := by
  unfold full3
  have h : k.val / 128 < 8 := by omega
  refine (slab_at _ _ _).trans ?_
  exact blk4 m c (pt ⟨k.val / 128, h⟩) h ⟨k.val % 128, Nat.mod_lt _ (by decide)⟩ l k (by show k.val = 128 * (k.val / 128) + k.val % 128; omega)
theorem full2_at (k : Fin 2816) (l : Fin 1024) :
    full2 m c (ix2 k l) = (m ((c : Thread nD τ).loc main_arg5) : (Sh 2816 1024).Idx → EReal) (ix2 k l) := by
  unfold full2
  have h : k.val / 352 < 8 := by omega
  refine (slab3_at _ _ _).trans ?_
  exact blk5 m c (pt ⟨k.val / 352, h⟩) h ⟨k.val % 352, Nat.mod_lt _ (by decide)⟩ l k (by show k.val = 352 * (k.val / 352) + k.val % 352; omega)
end

/-- The result array. -/
theorem final (c : Dev nD) : (dats m 0 c).arrAt 6 cfg0.N = fun y : (Sh 16384 1024).Idx =>
    resE (m ((c : Thread nD τ).loc main_arg0)) (m ((c : Thread nD τ).loc main_arg1))
      (fun l => (m ((c : Thread nD τ).loc main_arg2) : S1024.Idx → EReal) (ix1 l)) (m ((c : Thread nD τ).loc main_arg3))
      (m ((c : Thread nD τ).loc main_arg4)) (m ((c : Thread nD τ).loc main_arg5)) (y 0) (y 1) := by
  refine (dats m 0 c).arrAt_eq_of_covers 6 _ (by decide +kernel) fun t hf y => ?_
  have h8 : 8 ≤ t.val := by
    by_contra h
    rw [flush6 t (by omega)] at hf
    exact absurd hf (by decide)
  have ht := (idx t h8).2.2.2.2
  obtain ⟨r, q, hy⟩ : ∃ (r : Fin 512) (q : Fin 1024), y = ix2 r q := ⟨y 0, y 1, idx_of y _ _ rfl rfl⟩
  subst hy
  rw [after6]
  have e0 : (win0_6.blk t).view.emb (ix2 r q) 0 = (⟨512 * (t.val - 8) + r.val, by omega⟩ : Fin 16384) := Fin.ext (by
    blk_simp [idx t h8]
    show _ = 512 * (t.val - 8) + r.val
    omega)
  have e1 : (win0_6.blk t).view.emb (ix2 r q) 1 = q := Fin.ext (by
    blk_simp [idx t h8])
  blk_simp [idx t h8]
  rw [e0, e1]
  refine (out_at ..).trans ?_
  have hb : (512 * (t.val - 8) + r.val) / 2048 = (t.val - 8) / 4 := by omega
  unfold resE
  refine congrArg₂ (fun a b : EReal => a + b) (blk0 m c t h8 r q _ rfl) (congrArg₂ (fun a b : EReal => a * b) (blk1 m c t h8 5 q _ hb) ?_)
  refine Finset.sum_congr rfl fun j _ => ?_
  refine congrArg₂ (fun a b : EReal => a * b) ?_ (full2_at m c j q)
  refine (congrArg (fun f => hidE f _ _) (funext fun k => ?_)).trans
    (congrArg₂ (hidE _) (funext fun k => full1_at m c k j) (funext fun k => full3_at m c k j))
  exact (congrArg₂ (fun a b => modE a b _ _ k) (funext fun l => blk0 m c t h8 r l _ rfl) (blk2 m c t h8 k)).trans
    (congrArg₂ (fun a b => modE _ _ a b k) (blk1 m c t h8 4 k _ hb) (blk1 m c t h8 3 k _ hb))

/-- The run, with the result array named. -/
theorem run (g : Dev nD → PrngReg) : θ_run defs (onTc (τ := τ) (main (F := Ideal))) ⟨m, fun _ => 0, g⟩ (fun r => ∀ c : Dev nD,
    r.2.mem ((c.tc : Thread nD τ).loc main_v1) = (dats m 0 c).arrAt 6 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => ⟨(h.1 c).1 6, h.2.1 c⟩)
    (θ_run_and ((θ_run defs _ _).mono (fun _ h => h.1) (run_main m g)) (frame m g))

end Cert.DenseFfnIdeal.RefValue

end
-- ==== Proof.DenseRef.lean ====
/-
  The dense feed-forward: the reference's result array, from its argument arrays.
-/
module

public import proofs.«01_k».proof.Proof.DenseValue
public import proofs.«01_k».proof.Proof.Gen.DenseFfnRefIdeal.Run

@[expose] public section

set_option maxRecDepth 16384

noncomputable section

namespace Cert.DenseFfnRefIdeal.RefRead

open Cert.DenseFfnRefIdeal Cert.DenseFfnRefIdeal.Gen Idealize.ShloMosaic Idealize.ShloMosaic.TcCoe Idealize.SL.Sem
open Cert.KernelIdeal.RefValue (Sh Sv idx_of)
open Cert.InProjIdeal.RefValue (modE)
open Cert.DenseFfnIdeal.RefValue (hidE resE)

/-- The modulated rows. -/
def modRows (x : FVec Ideal S16384x1024 .f32) (md : FVec Ideal S8x6x1024 .f32) (g : FVec Ideal S1024 .f32) : FVec Ideal S8x2048x1024 .f32 :=
  addf (mulf (mulf (mulf (shapeCast S8x2048x1024 x shapeCasts_S16384x1024_S8x2048x1024)
        (broadcastInDim S8x2048x1024 ![0, 1, 2] bcast_S8x2048x1_S8x2048x1024_0_1_2 (Host.rsqrt (addf
          (Host.divf (broadcastInDim S8x2048x1 ![0, 1] bcast_S8x2048_S8x2048x1_0_1
              (Host.reduceAdd (mulf (shapeCast S8x2048x1024 x shapeCasts_S16384x1024_S8x2048x1024) (shapeCast S8x2048x1024 x shapeCasts_S16384x1024_S8x2048x1024))
                (constant S_ .f32 0x00000000#32) reducesTo_S8x2048x1024_S8x2048_d2 h_S_))
            (broadcastInDim S8x2048x1 ![] bcast_S_S8x2048x1 (constant S_ .f32 0x44800000#32)))
          (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S8x1x1024_S8x2048x1024_0_1_2 (addf (broadcastInDim S8x1x1024 ![] bcast_S_S8x1x1024 (constant S_ .f32 0x3F800000#32))
      (broadcastInDim S8x1x1024 ![0, 2] bcast_S8x1024_S8x1x1024_0_2 (shapeCast S8x1024 (extractStridedSlice S8x1x1024 ![0, 4, 0] md slices_S8x6x1024_S8x1x1024_0_4_0) shapeCasts_S8x1x1024_S8x1024)))))
    (broadcastInDim S8x2048x1024 ![0, 1, 2] bcast_S8x1x1024_S8x2048x1024_0_1_2 (broadcastInDim S8x1x1024 ![0, 2] bcast_S8x1024_S8x1x1024_0_2
      (shapeCast S8x1024 (extractStridedSlice S8x1x1024 ![0, 3, 0] md slices_S8x6x1024_S8x1x1024_0_3_0) shapeCasts_S8x1x1024_S8x1024)))

/-- The hidden lanes. -/
def hidRows (h : FVec Ideal S8x2048x1024 .f32) (w1 w3 : FVec Ideal S1024x2816 .f32) : FVec Ideal S8x2048x2816 .f32 :=
  mulf (mulf (Host.dotGeneral (φ₂ := .f32) dot_S8x2048x1024_S1024x2816_S8x2048x2816_2_0_01_1_n_n none h w1)
      (Host.divf (broadcastInDim S8x2048x2816 ![] bcast_S_S8x2048x2816 (constant S_ .f32 0x3F800000#32))
        (addf (broadcastInDim S8x2048x2816 ![] bcast_S_S8x2048x2816 (constant S_ .f32 0x3F800000#32))
          (Host.exp (Host.negf (Host.dotGeneral (φ₂ := .f32) dot_S8x2048x1024_S1024x2816_S8x2048x2816_2_0_01_1_n_n none h w1))))))
    (Host.dotGeneral (φ₂ := .f32) dot_S8x2048x1024_S1024x2816_S8x2048x2816_2_0_01_1_n_n none h w3)

/-- The result. -/
def outRows (x : FVec Ideal S16384x1024 .f32) (md : FVec Ideal S8x6x1024 .f32) (y : FVec Ideal S8x2048x2816 .f32) (w2 : FVec Ideal S2816x1024 .f32) :
    FVec Ideal S16384x1024 .f32 :=
  shapeCast S16384x1024 (addf (shapeCast S8x2048x1024 x shapeCasts_S16384x1024_S8x2048x1024)
    (mulf (broadcastInDim S8x2048x1024 ![0, 1, 2] bcast_S8x1x1024_S8x2048x1024_0_1_2 (broadcastInDim S8x1x1024 ![0, 2] bcast_S8x1024_S8x1x1024_0_2
        (shapeCast S8x1024 (extractStridedSlice S8x1x1024 ![0, 5, 0] md slices_S8x6x1024_S8x1x1024_0_5_0) shapeCasts_S8x1x1024_S8x1024)))
      (Host.dotGeneral (φ₂ := .f32) dot_S8x2048x2816_S2816x1024_S8x2048x1024_2_0_01_1_n_n none y w2))) shapeCasts_S8x2048x1024_S16384x1024

/-- A modulated row's entries. -/
theorem modRows_at (x : FVec Ideal S16384x1024 .f32) (md : FVec Ideal S8x6x1024 .f32) (g : FVec Ideal S1024 .f32) (b : Fin 8) (i : Fin 2048) (k : Fin 1024) :
    modRows x md g (ix3 b i k) = modE (fun c => x (ix2 (⟨b.val * 2048 + i.val, by omega⟩ : Fin 16384) c)) (g (ix1 k)) (md (ix3 b 4 k)) (md (ix3 b 3 k)) k := by
  pointwise [modRows, modE]

/-- The hidden lanes' entries. -/
theorem hidRows_at (h : FVec Ideal S8x2048x1024 .f32) (w1 w3 : FVec Ideal S1024x2816 .f32) (b : Fin 8) (i : Fin 2048) (j : Fin 2816) :
    hidRows h w1 w3 (ix3 b i j) = hidE (fun k => h (ix3 b i k)) (fun k => w1 (ix2 k j)) (fun k => w3 (ix2 k j)) := by
  pointwise [hidRows, hidE, Ideal.logistic]

/-- The result's entries. -/
theorem outRows_at (x : FVec Ideal S16384x1024 .f32) (md : FVec Ideal S8x6x1024 .f32) (y : FVec Ideal S8x2048x2816 .f32) (w2 : FVec Ideal S2816x1024 .f32)
    (R : Fin 16384) (C : Fin 1024) :
    outRows x md y w2 (ix2 R C) = x (ix2 R C) + md (ix3 (⟨R.val / 2048, by omega⟩ : Fin 8) 5 C)
      * ∑ j : Fin 2816, y (ix3 (⟨R.val / 2048, by omega⟩ : Fin 8) (⟨R.val % 2048, by omega⟩ : Fin 2048) j) * w2 (ix2 j C) := by
  pointwise [outRows]

/-- The reference's result array. -/
theorem ref_eq (x : FVec Ideal S16384x1024 .f32) (md : FVec Ideal S8x6x1024 .f32) (g : FVec Ideal S1024 .f32) (w1 w3 : FVec Ideal S1024x2816 .f32)
    (w2 : FVec Ideal S2816x1024 .f32) :
    outRows x md (hidRows (modRows x md g) w1 w3) w2 = fun y => resE x md (fun l => g (ix1 l)) w1 w3 w2 (y 0) (y 1) := by
  funext y
  obtain ⟨R, C, hy⟩ : ∃ (R : Fin 16384) (C : Fin 1024), y = ix2 R C := ⟨y 0, y 1, idx_of y _ _ rfl rfl⟩
  subst hy
  have e : (⟨R.val / 2048 * 2048 + R.val % 2048, by omega⟩ : Fin 16384) = R := Fin.ext (by show R.val / 2048 * 2048 + R.val % 2048 = R.val; omega)
  refine (outRows_at ..).trans ?_
  refine congrArg (fun s : EReal => (_ : EReal) + _ * s) (Finset.sum_congr rfl fun j _ => ?_)
  refine congrArg (fun s : EReal => s * _) ((hidRows_at ..).trans ?_)
  refine congrArg (fun f => hidE f _ _) (funext fun k => ?_)
  rw [modRows_at, e]
  rfl

end Cert.DenseFfnRefIdeal.RefRead

end
-- ==== Proof.ExpertsBody.lean ====
/-
  The experts' body: at a step it loads a slab of an expert's weights, multiplies a tile, does both, zeroes a tile, or nothing.
-/
module

public import proofs.«01_k».proof.Proof.Gen.ExpertsIdeal.Launch
public import proofs.«01_k».proof.Proof.Gen.ExpertsIdeal.Skeleton
public import Idealize.ShloMosaic.Lib.Pipeline.ValueKit
public import Idealize.ShloMosaic.Lib.WritesUnit
public import Idealize.ShloMosaic.Lib.VecWindow
public import Idealize.ShloMosaic.Lib.ValueLayout

@[expose] public section

set_option maxRecDepth 16384

noncomputable section

namespace Cert.ExpertsIdeal.Body

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The place of a step's word in a table. -/
theorem off_val (i : grid0.Coords) : (BitVec.ofNat 32 (i 0).val).toNat = (i 0).val := by
  rw [BitVec.toNat_ofNat]; exact Nat.mod_eq_of_lt (Nat.lt_trans (i 0).isLt (by decide))

/-- A step's word as the body reads it. -/
theorem word_read (arg : Memref sig .tc .smem S136 .i32) (i : grid0.Coords) {off : Fin 1 → Nat} (ho : off 0 = (i 0).val)
    (hinb : ∀ a, off a + S1.size a ≤ S136.size a) (f) (x : (Rect.unit (s := S136) off S1.size hinb).shape.Idx) :
    (arg.access (Rect.unit (s := S136) off S1.size hinb)).read (Elt F) f x = arg.view.read (Elt F) f (ix1 (i 0)) := by
  refine congrArg (arg.view.read (Elt F) f) (funext fun a => Fin.ext ?_)
  obtain rfl : a = 0 := Subsingleton.elim _ _
  have hx : (x 0).val < 1 := (x 0).isLt
  show off 0 + 1 * (x 0).val = (i 0).val
  omega

/-- Reading a step's word of a table: the program continues at that word. -/
theorem wp_word (c : Dev nD) (E : Set ℕ) (i : grid0.Coords) {q : PosShare TreeShare} {arg : Memref sig .tc .smem S136 .i32} (harg : arg.IsWhole)
    {off : Fin 1 → Nat} {hinb : ∀ a, off a + S1.size a ≤ S136.size a} {h1 : (Rect.unit (s := S136) off S1.size hinb).shape.numel = 1} {hp : EltTy.i32.packing = 1}
    (ho : off 0 = (i 0).val) {T : Vec F S136 .i32} {w : BitVec 32} (hw : T (ix1 (i 0)) = w) {α : Type}
    {k : Elt F .i32 → Prog (TpuEff nD τ sig (Elt F) Λ₀ .tc) α} {K : α → sProp 𝕄} :
    (owns (c : Thread nD τ) arg q T : sProp 𝕄) ⊢ iprop((owns (c : Thread nD τ) arg q T -∗ wp frame (wpE (defs₀ (F := F)) Variants.none c none) E (k w) K)
      -∗ wp frame (wpE (defs₀ (F := F)) Variants.none c none) E (smemLoad arg (Rect.unit (s := S136) off S1.size hinb) h1 hp >>= k) K) := by
  subst hw
  iintro H Hk
  unfold owns
  icases H with ⟨%f, %hf, H⟩
  subst hf
  iapply (wp_smemLoadElt_named Variants.none (c : Thread nD τ) none E (m := arg) (r := Rect.unit (s := S136) off S1.size hinb) (k := k) (hw := View.loads_smem_one hp h1) (x := Shape.Idx.first (h1.symm ▸ Nat.one_pos)) (View.set_slice_subset _ _)) $$ H
  iintro H %w %hw
  have e : w = arg.view.read (Elt F) f (ix1 (i 0)) := by
    rw [hw]; exact word_read arg i ho hinb f _
  rw [e]
  iapply Hk
  iexists f
  isplitr
  · ipureintro; rfl
  · iexact H

/-- One slot of a weight buffer. -/
def slot {R C : ℕ} {α : Type} (s : ℕ) (w : (⟨3, ![2, R, C]⟩ : Shape).Idx → α) : (⟨2, ![R, C]⟩ : Shape).Idx → α := fun y =>
  w (ix3 ⟨s % 2, Nat.mod_lt _ (by decide)⟩ (y 0) (y 1))

/-- A read of a slot's view is one of the slot. -/
theorem read_slot {R C : ℕ} {κ : Kind} {sp : Space} {e : EltTy} {Val : EltTy → Type} (m : Memref sig κ sp ⟨3, ![2, R, C]⟩ e) {off : Fin 3 → ℕ} {s : ℕ}
    (inb : ∀ a : Fin 3, off a + (![1, R, C] : Fin 3 → ℕ) a ≤ (![2, R, C] : Fin 3 → ℕ) a) (ho : off = ![s, 0, 0]) (hs : s < 2)
    (hu : ∀ a, (Rect.unit (s := ⟨3, ![2, R, C]⟩) off ![1, R, C] inb).stride a = 1)
    (hq : (Rect.unit (s := ⟨3, ![2, R, C]⟩) off ![1, R, C] inb).shape.Squeezes ⟨2, ![R, C]⟩) (f : m.view.ty.Contents Val) :
    ((m.slice (Rect.unit (s := ⟨3, ![2, R, C]⟩) off ![1, R, C] inb) hu).squeeze ⟨2, ![R, C]⟩ hq).view.read Val f = slot s (m.view.read Val f) := by
  subst ho
  funext y
  show m.view.read Val f ((Rect.unit (s := ⟨3, ![2, R, C]⟩) ![s, 0, 0] ![1, R, C] inb).emb (Shape.reshapeEquiv hq.numel_eq y)) = _
  have hy : Shape.reshapeEquiv (s' := ⟨2, ![R, C]⟩) (s := ⟨3, ![1, R, C]⟩) hq.numel_eq y = ix3 (0 : Fin 1) (y 0) (y 1) := by
    have hy : y = ValueIdx.ix2 (y 0) (y 1) := funext fun a => by match a with | ⟨0, _⟩ => rfl | ⟨1, _⟩ => rfl
    rw [hy]
    exact ValueIdx.reshapeEquiv_ix2_1ab (a := R) (b := C) hq.numel_eq (y 0) (y 1)
  unfold slot
  refine congrArg (m.view.read Val f) (funext fun a => Fin.ext ?_)
  show (![s, 0, 0] : Fin 3 → ℕ) a + 1 * (Shape.reshapeEquiv (s' := ⟨2, ![R, C]⟩) (s := ⟨3, ![1, R, C]⟩) hq.numel_eq y a).val = _
  rw [hy]
  match a with
  | ⟨0, _⟩ => show s + 1 * 0 = s % 2; omega
  | ⟨1, _⟩ => show 0 + 1 * (y 0).val = (y 0).val; omega
  | ⟨2, _⟩ => show 0 + 1 * (y 1).val = (y 1).val; omega

/-- A slot after a store into the buffer, as the slot's view reads it. -/
theorem slot_put {R C : ℕ} {κ : Kind} {sp : Space} {e : EltTy} {Val : EltTy → Type} (m : Memref sig κ sp ⟨3, ![2, R, C]⟩ e) {off : Fin 3 → ℕ} {s : ℕ}
    (inb : ∀ a : Fin 3, off a + (![1, R, C] : Fin 3 → ℕ) a ≤ (![2, R, C] : Fin 3 → ℕ) a) (ho : off = ![s, 0, 0]) (hs : s < 2)
    (hu : ∀ a, (Rect.unit (s := ⟨3, ![2, R, C]⟩) off ![1, R, C] inb).stride a = 1)
    (hq : (Rect.unit (s := ⟨3, ![2, R, C]⟩) off ![1, R, C] inb).shape.Squeezes ⟨2, ![R, C]⟩) (f : m.view.ty.Contents Val)
    {o o' size : Fin 3 → ℕ} (inb' : ∀ a : Fin 3, o a + size a ≤ (![2, R, C] : Fin 3 → ℕ) a)
    (w : (Rect.unit (s := ⟨3, ![2, R, C]⟩) o size inb').shape.Idx → Val e) (h : o = o') :
    ((m.slice (Rect.unit (s := ⟨3, ![2, R, C]⟩) off ![1, R, C] inb) hu).squeeze ⟨2, ![R, C]⟩ hq).view.read Val (m.view.writes Val f [⟨Rect.unit (s := ⟨3, ![2, R, C]⟩) o size inb', w⟩])
      = slot s (VecWindow.put (s := ⟨3, ![2, R, C]⟩) (m.view.read Val f) o' size w) :=
  (read_slot m inb ho hs hu hq _).trans (congrArg (slot s) (View.read_writes_cons_put m.view f inb' w [] h))

/-- A chunk of 256 lanes of the first two weights. -/
abbrev colR (f : Fin 11) : Rect S1024x2816 := Rect.unit (s := S1024x2816) ![0, 256 * f.val] S1024x256.size (by
  intro a; match a with
  | ⟨0, _⟩ => exact le_refl 1024
  | ⟨1, _⟩ => show 256 * f.val + 256 ≤ 2816; omega)
/-- A chunk of 256 rows of the third. -/
abbrev rowR (f : Fin 11) : Rect S2816x1024 := Rect.unit (s := S2816x1024) ![256 * f.val, 0] S256x1024.size (by
  intro a; match a with
  | ⟨0, _⟩ => show 256 * f.val + 256 ≤ 2816; omega
  | ⟨1, _⟩ => exact le_refl 1024)

section
variable (h : FVec F S512x1024 .bf16) (w1 w3 : Vec F S1024x2816 .bf16) (w2 : Vec F S2816x1024 .bf16)
/-- A product with a chunk of lanes. -/
def lin (w : Vec F S1024x2816 .bf16) (f : Fin 11) : FVec F S512x256 .f32 :=
  matmul dot_S512x1024_S1024x256_S512x256_1_0_0_1_n_n none h (View.ld w (colR f)) (constant S512x256 .f32 0x00000000#32)
/-- A chunk's product with its rows of the third weight. -/
def part (f : Fin 11) : FVec F S512x1024 .f32 :=
  matmul dot_S512x256_S256x1024_S512x1024_1_0_0_1_n_n none
    (truncf .bf16 (mulf (mulf (lin h w1 f) (logistic (lin h w1 f))) (lin h w3 f)) bitsLt_bf16_f32) (View.ld w2 (rowR f)) (constant S512x1024 .f32 0x00000000#32)
/-- The chunks summed, up to chunk `n`. -/
def acc : (n : ℕ) → n < 11 → FVec F S512x1024 .f32
  | 0, hn => part h w1 w3 w2 ⟨0, hn⟩
  | n + 1, hn => addf (acc n (Nat.lt_of_succ_lt hn)) (part h w1 w3 w2 ⟨n + 1, hn⟩)
end

/-- The tile a multiplying step stores. -/
def tile (x0 : Vec F S512x1024 .f32) (w1 w3 : Vec F S1024x2816 .bf16) (w2 : Vec F S2816x1024 .bf16) : Vec F S512x1024 .f32 :=
  acc (truncf .bf16 x0 bitsLt_bf16_f32) w1 w3 w2 10 (by decide)

/-- The result block of a multiplying step. -/
abbrev rO : Rect S512x1024 := Rect.unit (s := S512x1024) ![0, 0] S512x1024.size inb_S512x1024_S512x1024_0_0
def out (x0 : Vec F S512x1024 .f32) (w1 w3 : Vec F S1024x2816 .bf16) (w2 : Vec F S2816x1024 .bf16) : Vec F S512x1024 .f32 :=
  View.canon (Val := Elt F) [(⟨rO, tile (View.ld x0 rO) w1 w3 w2⟩ : View.Piece (Elt F) S512x1024 .f32)]
/-- A zeroing step's. -/
def zero : Vec F S512x1024 .f32 := View.canon (Val := Elt F) [(⟨rO, k0_pay4⟩ : View.Piece (Elt F) S512x1024 .f32)]

section Kernel
variable (c : Dev nD) (E : Set ℕ) (i : grid0.Coords) (q : PosShare TreeShare)
    (arg1 : Memref sig .tc .smem S136 .i32) (harg1 : arg1.IsWhole) (arg2 : Memref sig .tc .smem S136 .i32) (harg2 : arg2.IsWhole)
    (arg3 : Memref sig .tc .smem S136 .i32) (harg3 : arg3.IsWhole) (arg4 : Memref sig .tc .smem S136 .i32) (harg4 : arg4.IsWhole)
    (arg5 : Memref sig .tc .smem S136 .i32) (harg5 : arg5.IsWhole) (arg6 : Memref sig .tc .smem S136 .i32) (harg6 : arg6.IsWhole)
    (arg7 : Memref sig .tc .vmem S512x1024 .f32) (harg7 : arg7.IsWhole) (arg8 : Memref sig .tc .vmem S1x128x2816 .f32) (harg8 : arg8.IsWhole)
    (arg9 : Memref sig .tc .vmem S1x128x2816 .f32) (harg9 : arg9.IsWhole) (arg10 : Memref sig .tc .vmem S1x352x1024 .f32) (harg10 : arg10.IsWhole)
    (arg11 : Memref sig .tc .vmem S512x1024 .f32) (harg11 : arg11.IsWhole) (arg12 : Memref sig .tc .vmem S2x1024x2816 .bf16) (harg12 : arg12.IsWhole)
    (arg13 : Memref sig .tc .vmem S2x1024x2816 .bf16) (harg13 : arg13.IsWhole) (arg14 : Memref sig .tc .vmem S2x2816x1024 .bf16) (harg14 : arg14.IsWhole)
    (T1 T2 T3 : Vec F S136 .i32) (x0 : Vec F S512x1024 .f32) (x1 x3 : Vec F S1x128x2816 .f32) (x2 : Vec F S1x352x1024 .f32)

/-- What a step's body works on: the tables' words, the blocks, the result's buffer and the weights' slots. -/
def held (d : Vec F S512x1024 .f32) (w1 w3 : Vec F S2x1024x2816 .bf16) (w2 : Vec F S2x2816x1024 .bf16) : sProp 𝕄 :=
  iprop(owns (c : Thread nD τ) arg1 q T1 ∗ owns (c : Thread nD τ) arg2 q T2 ∗ owns (c : Thread nD τ) arg3 q T3
    ∗ owns (c : Thread nD τ) arg7 fullShare x0 ∗ owns (c : Thread nD τ) arg8 fullShare x1 ∗ owns (c : Thread nD τ) arg9 fullShare x3
    ∗ owns (c : Thread nD τ) arg10 fullShare x2 ∗ owns (c : Thread nD τ) arg11 fullShare d
    ∗ owns (c : Thread nD τ) arg12 fullShare w1 ∗ owns (c : Thread nD τ) arg13 fullShare w3 ∗ owns (c : Thread nD τ) arg14 fullShare w2)

/-- The whole slab of a weight's block. -/
abbrev rA : Rect S1x128x2816 := Rect.unit (s := S1x128x2816) ![0, 0, 0] S1x128x2816.size inb_S1x128x2816_S1x128x2816_0_0_0
abbrev rB : Rect S1x352x1024 := Rect.unit (s := S1x352x1024) ![0, 0, 0] S1x352x1024.size inb_S1x352x1024_S1x352x1024_0_0_0

set_option maxHeartbeats 400000 in
/-- A loading step's body. -/
theorem load_kernel (d : Vec F S512x1024 .f32) (w1 w3 : Vec F S2x1024x2816 .bf16) (w2 : Vec F S2x2816x1024 .bf16)
    (hk : T1 (ix1 (i 0)) = 0#32) (hs : T2 (ix1 (i 0)) = 0#32 ∨ T2 (ix1 (i 0)) = 1#32) (hc1 : k0_chk1 0#32 (T2 (ix1 (i 0))) (T3 (ix1 (i 0)))) (K : PUnit → sProp 𝕄) :
    iprop(held c q arg1 arg2 arg3 arg7 arg8 arg9 arg10 arg11 arg12 arg13 arg14 T1 T2 T3 x0 x1 x3 x2 d w1 w3 w2
        ∗ (held c q arg1 arg2 arg3 arg7 arg8 arg9 arg10 arg11 arg12 arg13 arg14 T1 T2 T3 x0 x1 x3 x2 d
            (VecWindow.put w1 (k0_off5 (T2 (ix1 (i 0))) (T3 (ix1 (i 0)))) S1x128x2816.size (k0_pay5 (View.ld x1 rA)))
            (VecWindow.put w3 (k0_off5 (T2 (ix1 (i 0))) (T3 (ix1 (i 0)))) S1x128x2816.size (k0_pay6 (View.ld x3 rA)))
            (VecWindow.put w2 (k0_off8 (T2 (ix1 (i 0))) (T3 (ix1 (i 0)))) S1x352x1024.size (k0_pay1 (k0_pay7 (View.ld x2 rB)))) -∗ K ⟨⟩))
      ⊢ wp frame (wpE (defs₀ (F := F)) Variants.none c none) E
        (cc0_moe_experts (F := F) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_moe_experts_eq_skeleton]; unfold cc0_moe_experts_skel
  unfold held
  iintro ⟨⟨H1, H2, H3, H7, H8, H9, H10, H11, H12, H13, H14⟩, Hk⟩
  iapply (wp_word c E i harg1 (off_val i) hk) $$ H1; iintro H1
  iapply (wp_word c E i harg2 (off_val i) rfl) $$ H2; iintro H2
  unfold owns
  icases H3 with ⟨%f3, %hf3, H3⟩
  icases H8 with ⟨%f8, %hf8, H8⟩
  icases H9 with ⟨%f9, %hf9, H9⟩
  icases H10 with ⟨%f10, %hf10, H10⟩
  icases H12 with ⟨%f12, %hf12, H12⟩
  icases H13 with ⟨%f13, %hf13, H13⟩
  icases H14 with ⟨%f14, %hf14, H14⟩
  subst hf3 hf8 hf9 hf10 hf12 hf13 hf14
  have hw := word_read arg3 i (off_val i) (k0_off2_inb i) f3 (Shape.Idx.first (numel1_S1.symm ▸ Nat.one_pos))
  generalize T2 (ix1 (i 0)) = v3 at hs hc1
  have hc2 : k0_chk2 0#32 v3 := by rcases hs with rfl | rfl <;> decide
  have n3 : ¬ k0_cond3 0#32 v3 = 1#1 := by rcases hs with rfl | rfl <;> decide
  have n4 : ¬ k0_cond4 0#32 v3 = 1#1 := by rcases hs with rfl | rfl <;> decide
  have hc1' := hw.symm ▸ hc1
  sl_exec (disch := exact hc1')
  sl_step
  iapply Hk
  isplitl [H1]; · iexact H1
  isplitl [H2]; · iexact H2
  isplitl [H3]
  · iexists f3; isplitr; · ipureintro; rfl
    iexact H3
  isplitl [H7]; · iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]; · iexact H11
  isplitl [H12]
  · iexists _; isplitr
    swap; · iexact H12
    ipureintro
    exact View.read_writes_cons_put arg12.view f12 (k0_off5_inb 0#32 v3 _ hc1' (by decide)) (k0_pay5 (View.ld (View.read (Elt F) arg8.view f8) rA)) [] (congrArg (k0_off5 v3) hw)
  isplitl [H13]
  · iexists _; isplitr
    swap; · iexact H13
    ipureintro
    exact View.read_writes_cons_put arg13.view f13 (k0_off5_inb 0#32 v3 _ hc1' (by decide)) (k0_pay6 (View.ld (View.read (Elt F) arg9.view f9) rA)) [] (congrArg (k0_off5 v3) hw)
  iexists _; isplitr
  swap; · iexact H14
  ipureintro
  exact View.read_writes_cons_put arg14.view f14 (k0_off8_inb 0#32 v3 _ hc1' (by decide)) (k0_pay1 (k0_pay7 (View.ld (View.read (Elt F) arg10.view f10) rB))) [] (congrArg (k0_off8 v3) hw)

set_option maxHeartbeats 400000 in
/-- A padding step's body does nothing. -/
theorem idle_kernel (d : Vec F S512x1024 .f32) (w1 w3 : Vec F S2x1024x2816 .bf16) (w2 : Vec F S2x2816x1024 .bf16)
    (hk : T1 (ix1 (i 0)) = 4#32) (hs : T2 (ix1 (i 0)) = 0#32 ∨ T2 (ix1 (i 0)) = 1#32) (K : PUnit → sProp 𝕄) :
    iprop(held c q arg1 arg2 arg3 arg7 arg8 arg9 arg10 arg11 arg12 arg13 arg14 T1 T2 T3 x0 x1 x3 x2 d w1 w3 w2
        ∗ (held c q arg1 arg2 arg3 arg7 arg8 arg9 arg10 arg11 arg12 arg13 arg14 T1 T2 T3 x0 x1 x3 x2
            d w1 w3 w2 -∗ K ⟨⟩))
      ⊢ wp frame (wpE (defs₀ (F := F)) Variants.none c none) E
        (cc0_moe_experts (F := F) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_moe_experts_eq_skeleton]; unfold cc0_moe_experts_skel
  unfold held
  iintro ⟨⟨H1, H2, H⟩, Hk⟩
  iapply (wp_word c E i harg1 (off_val i) hk) $$ H1; iintro H1
  iapply (wp_word c E i harg2 (off_val i) rfl) $$ H2; iintro H2
  generalize T2 (ix1 (i 0)) = v3 at hs
  have hc2 : k0_chk2 4#32 v3 := by rcases hs with rfl | rfl <;> decide
  have n3 : ¬ k0_cond3 4#32 v3 = 1#1 := by rcases hs with rfl | rfl <;> decide
  have n4 : ¬ k0_cond4 4#32 v3 = 1#1 := by rcases hs with rfl | rfl <;> decide
  sl_exec
  sl_step
  iapply Hk
  isplitl [H1]; · iexact H1
  isplitl [H2]; · iexact H2
  iexact H

set_option maxHeartbeats 400000 in
/-- A zeroing step's body. -/
theorem zero_kernel (d : Vec F S512x1024 .f32) (w1 w3 : Vec F S2x1024x2816 .bf16) (w2 : Vec F S2x2816x1024 .bf16)
    (hk : T1 (ix1 (i 0)) = 3#32) (hs : T2 (ix1 (i 0)) = 0#32 ∨ T2 (ix1 (i 0)) = 1#32) (K : PUnit → sProp 𝕄) :
    iprop(held c q arg1 arg2 arg3 arg7 arg8 arg9 arg10 arg11 arg12 arg13 arg14 T1 T2 T3 x0 x1 x3 x2 d w1 w3 w2
        ∗ (held c q arg1 arg2 arg3 arg7 arg8 arg9 arg10 arg11 arg12 arg13 arg14 T1 T2 T3 x0 x1 x3 x2
            zero w1 w3 w2 -∗ K ⟨⟩))
      ⊢ wp frame (wpE (defs₀ (F := F)) Variants.none c none) E
        (cc0_moe_experts (F := F) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_moe_experts_eq_skeleton]; unfold cc0_moe_experts_skel
  unfold held
  iintro ⟨⟨H1, H2, H3, H7, H8, H9, H10, H11, H12, H13, H14⟩, Hk⟩
  iapply (wp_word c E i harg1 (off_val i) hk) $$ H1; iintro H1
  iapply (wp_word c E i harg2 (off_val i) rfl) $$ H2; iintro H2
  unfold owns
  icases H11 with ⟨%f11, -, H11⟩
  generalize T2 (ix1 (i 0)) = v3 at hs
  have hc2 : k0_chk2 3#32 v3 := by rcases hs with rfl | rfl <;> decide
  have n3 : ¬ k0_cond3 3#32 v3 = 1#1 := by rcases hs with rfl | rfl <;> decide
  have n4 : ¬ k0_cond4 3#32 v3 = 1#1 := by rcases hs with rfl | rfl <;> decide
  sl_exec
  sl_step
  iapply Hk
  isplitl [H1]; · iexact H1
  isplitl [H2]; · iexact H2
  isplitl [H3]; · iexact H3
  isplitl [H7]; · iexact H7
  isplitl [H8]; · iexact H8
  isplitl [H9]; · iexact H9
  isplitl [H10]; · iexact H10
  isplitl [H11]
  · iexists _; isplitr
    swap; · iexact H11
    ipureintro
    exact View.read_writes_eq_canon _ _ _ (View.cover_of_tiled (s := S512x1024) _ S512x1024.size (by rfl))
  isplitl [H12]; · iexact H12
  isplitl [H13]; · iexact H13
  iexact H14

set_option maxHeartbeats 400000 in
/-- A multiplying step's body. -/
theorem tile_kernel (d : Vec F S512x1024 .f32) (w1 w3 : Vec F S2x1024x2816 .bf16) (w2 : Vec F S2x2816x1024 .bf16)
    (hk : T1 (ix1 (i 0)) = 1#32) (hs : T2 (ix1 (i 0)) = 0#32 ∨ T2 (ix1 (i 0)) = 1#32) (K : PUnit → sProp 𝕄) :
    iprop(held c q arg1 arg2 arg3 arg7 arg8 arg9 arg10 arg11 arg12 arg13 arg14 T1 T2 T3 x0 x1 x3 x2 d w1 w3 w2
        ∗ (held c q arg1 arg2 arg3 arg7 arg8 arg9 arg10 arg11 arg12 arg13 arg14 T1 T2 T3 x0 x1 x3 x2
            (out x0 (slot (T2 (ix1 (i 0))).toNat w1) (slot (T2 (ix1 (i 0))).toNat w3) (slot (T2 (ix1 (i 0))).toNat w2)) w1 w3 w2 -∗ K ⟨⟩))
      ⊢ wp frame (wpE (defs₀ (F := F)) Variants.none c none) E
        (cc0_moe_experts (F := F) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_moe_experts_eq_skeleton]; unfold cc0_moe_experts_skel
  unfold held
  iintro ⟨⟨H1, H2, H3, H7, H8, H9, H10, H11, H12, H13, H14⟩, Hk⟩
  iapply (wp_word c E i harg1 (off_val i) hk) $$ H1; iintro H1
  iapply (wp_word c E i harg2 (off_val i) rfl) $$ H2; iintro H2
  unfold owns
  icases H7 with ⟨%f7, %hf7, H7⟩
  icases H11 with ⟨%f11, -, H11⟩
  icases H12 with ⟨%f12, %hf12, H12⟩
  icases H13 with ⟨%f13, %hf13, H13⟩
  icases H14 with ⟨%f14, %hf14, H14⟩
  subst hf7 hf12 hf13 hf14
  generalize T2 (ix1 (i 0)) = v3 at hs
  have hc2 : k0_chk2 1#32 v3 := by rcases hs with rfl | rfl <;> decide
  have n3 : ¬ k0_cond3 1#32 v3 = 1#1 := by rcases hs with rfl | rfl <;> decide
  have n4 : ¬ k0_cond4 1#32 v3 = 1#1 := by rcases hs with rfl | rfl <;> decide
  have hl : v3.toNat < 2 := by rcases hs with rfl | rfl <;> decide
  sl_exec
  sl_step
  iapply Hk
  isplitl [H1]; · iexact H1
  isplitl [H2]; · iexact H2
  isplitl [H3]; · iexact H3
  isplitl [H7]
  · iexists f7; isplitr; · ipureintro; rfl
    iexact H7
  isplitl [H8]; · iexact H8
  isplitl [H9]; · iexact H9
  isplitl [H10]; · iexact H10
  isplitl [H11]
  · iexists _; isplitr
    swap; · iexact H11
    ipureintro
    have e1 := read_slot (R := 1024) (C := 2816) arg12 (k0_off9_inb 1#32 v3 hc2 (by decide)) rfl hl (fun _ => rfl) squeezes_S1x1024x2816_S1024x2816 f12
    have e3 := read_slot (R := 1024) (C := 2816) arg13 (k0_off9_inb 1#32 v3 hc2 (by decide)) rfl hl (fun _ => rfl) squeezes_S1x1024x2816_S1024x2816 f13
    have e2 := read_slot (R := 2816) (C := 1024) arg14 (k0_off10_inb 1#32 v3 hc2 (by decide)) rfl hl (fun _ => rfl) squeezes_S1x2816x1024_S2816x1024 f14
    rw [← e1, ← e3, ← e2]
    exact View.read_writes_eq_canon _ _ _ (View.cover_of_tiled (s := S512x1024) _ S512x1024.size (by rfl))
  isplitl [H12]
  · iexists f12; isplitr; · ipureintro; rfl
    iexact H12
  isplitl [H13]
  · iexists f13; isplitr; · ipureintro; rfl
    iexact H13
  iexists f14; isplitr; · ipureintro; rfl
  iexact H14

set_option maxHeartbeats 400000 in
/-- A step that multiplies a tile by slot 0's weights while it fills slot 1. -/
theorem both0_kernel (d : Vec F S512x1024 .f32) (w1 w3 : Vec F S2x1024x2816 .bf16) (w2 : Vec F S2x2816x1024 .bf16)
    (hk : T1 (ix1 (i 0)) = 2#32) (hs : T2 (ix1 (i 0)) = 0#32) (hc1 : k0_chk3 2#32 0#32 (T3 (ix1 (i 0)))) (K : PUnit → sProp 𝕄) :
    iprop(held c q arg1 arg2 arg3 arg7 arg8 arg9 arg10 arg11 arg12 arg13 arg14 T1 T2 T3 x0 x1 x3 x2 d w1 w3 w2
        ∗ (held c q arg1 arg2 arg3 arg7 arg8 arg9 arg10 arg11 arg12 arg13 arg14 T1 T2 T3 x0 x1 x3 x2
            (out x0 (slot 0 (VecWindow.put w1 (k0_off5 1#32 (T3 (ix1 (i 0)))) S1x128x2816.size (k0_pay5 (View.ld x1 rA))))
              (slot 0 (VecWindow.put w3 (k0_off5 1#32 (T3 (ix1 (i 0)))) S1x128x2816.size (k0_pay6 (View.ld x3 rA))))
              (slot 0 (VecWindow.put w2 (k0_off8 1#32 (T3 (ix1 (i 0)))) S1x352x1024.size (k0_pay1 (k0_pay7 (View.ld x2 rB))))))
            (VecWindow.put w1 (k0_off5 1#32 (T3 (ix1 (i 0)))) S1x128x2816.size (k0_pay5 (View.ld x1 rA)))
            (VecWindow.put w3 (k0_off5 1#32 (T3 (ix1 (i 0)))) S1x128x2816.size (k0_pay6 (View.ld x3 rA)))
            (VecWindow.put w2 (k0_off8 1#32 (T3 (ix1 (i 0)))) S1x352x1024.size (k0_pay1 (k0_pay7 (View.ld x2 rB)))) -∗ K ⟨⟩))
      ⊢ wp frame (wpE (defs₀ (F := F)) Variants.none c none) E
        (cc0_moe_experts (F := F) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_moe_experts_eq_skeleton]; unfold cc0_moe_experts_skel
  unfold held
  iintro ⟨⟨H1, H2, H3, H7, H8, H9, H10, H11, H12, H13, H14⟩, Hk⟩
  iapply (wp_word c E i harg1 (off_val i) hk) $$ H1; iintro H1
  iapply (wp_word c E i harg2 (off_val i) hs) $$ H2; iintro H2
  unfold owns
  icases H3 with ⟨%f3, %hf3, H3⟩
  icases H7 with ⟨%f7, %hf7, H7⟩
  icases H8 with ⟨%f8, %hf8, H8⟩
  icases H9 with ⟨%f9, %hf9, H9⟩
  icases H10 with ⟨%f10, %hf10, H10⟩
  icases H11 with ⟨%f11, -, H11⟩
  icases H12 with ⟨%f12, %hf12, H12⟩
  icases H13 with ⟨%f13, %hf13, H13⟩
  icases H14 with ⟨%f14, %hf14, H14⟩
  subst hf3 hf7 hf8 hf9 hf10 hf12 hf13 hf14
  have hw := word_read arg3 i (off_val i) (k0_off11_inb i) f3 (Shape.Idx.first (numel1_S1.symm ▸ Nat.one_pos))
  have hc2 : k0_chk2 2#32 0#32 := by decide
  have hc1' := hw.symm ▸ hc1
  sl_exec (disch := exact hc1')
  sl_step
  iapply Hk
  isplitl [H1]; · iexact H1
  isplitl [H2]; · iexact H2
  isplitl [H3]
  · iexists f3; isplitr; · ipureintro; rfl
    iexact H3
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    have e1 := slot_put (R := 1024) (C := 2816) (s := 0) arg12 inb_S2x1024x2816_S1x1024x2816_0_0_0 rfl (by decide) (fun _ => rfl) squeezes_S1x1024x2816_S1024x2816 f12
      (k0_off13_inb 2#32 0#32 _ hc1' (by decide)) (k0_pay5 (View.ld (View.read (Elt F) arg8.view f8) rA)) (congrArg (k0_off5 1#32) hw)
    have e3 := slot_put (R := 1024) (C := 2816) (s := 0) arg13 inb_S2x1024x2816_S1x1024x2816_0_0_0 rfl (by decide) (fun _ => rfl) squeezes_S1x1024x2816_S1024x2816 f13
      (k0_off13_inb 2#32 0#32 _ hc1' (by decide)) (k0_pay6 (View.ld (View.read (Elt F) arg9.view f9) rA)) (congrArg (k0_off5 1#32) hw)
    have e2 := slot_put (R := 2816) (C := 1024) (s := 0) arg14 inb_S2x2816x1024_S1x2816x1024_0_0_0 rfl (by decide) (fun _ => rfl) squeezes_S1x2816x1024_S2816x1024 f14
      (k0_off15_inb 2#32 0#32 _ hc1' (by decide)) (k0_pay1 (k0_pay7 (View.ld (View.read (Elt F) arg10.view f10) rB))) (congrArg (k0_off8 1#32) hw)
    refine Eq.trans ?_ (congr (congr (congrArg (out (View.read (Elt F) arg7.view f7)) e1) e3) e2)
    exact View.read_writes_eq_canon _ _ _ (View.cover_of_tiled (s := S512x1024) _ S512x1024.size (by rfl))
  isplitl [H12]
  · iexists _; isplitr
    swap; · iexact H12
    ipureintro
    exact View.read_writes_cons_put arg12.view f12 (k0_off13_inb 2#32 0#32 _ hc1' (by decide)) (k0_pay5 (View.ld (View.read (Elt F) arg8.view f8) rA)) [] (congrArg (k0_off5 1#32) hw)
  isplitl [H13]
  · iexists _; isplitr
    swap; · iexact H13
    ipureintro
    exact View.read_writes_cons_put arg13.view f13 (k0_off13_inb 2#32 0#32 _ hc1' (by decide)) (k0_pay6 (View.ld (View.read (Elt F) arg9.view f9) rA)) [] (congrArg (k0_off5 1#32) hw)
  iexists _; isplitr
  swap; · iexact H14
  ipureintro
  exact View.read_writes_cons_put arg14.view f14 (k0_off15_inb 2#32 0#32 _ hc1' (by decide)) (k0_pay1 (k0_pay7 (View.ld (View.read (Elt F) arg10.view f10) rB))) [] (congrArg (k0_off8 1#32) hw)

set_option maxHeartbeats 400000 in
/-- A step that multiplies a tile by slot 1's weights while it fills slot 0. -/
theorem both1_kernel (d : Vec F S512x1024 .f32) (w1 w3 : Vec F S2x1024x2816 .bf16) (w2 : Vec F S2x2816x1024 .bf16)
    (hk : T1 (ix1 (i 0)) = 2#32) (hs : T2 (ix1 (i 0)) = 1#32) (hc1 : k0_chk4 2#32 1#32 (T3 (ix1 (i 0)))) (K : PUnit → sProp 𝕄) :
    iprop(held c q arg1 arg2 arg3 arg7 arg8 arg9 arg10 arg11 arg12 arg13 arg14 T1 T2 T3 x0 x1 x3 x2 d w1 w3 w2
        ∗ (held c q arg1 arg2 arg3 arg7 arg8 arg9 arg10 arg11 arg12 arg13 arg14 T1 T2 T3 x0 x1 x3 x2
            (out x0 (slot 1 (VecWindow.put w1 (k0_off5 0#32 (T3 (ix1 (i 0)))) S1x128x2816.size (k0_pay5 (View.ld x1 rA))))
              (slot 1 (VecWindow.put w3 (k0_off5 0#32 (T3 (ix1 (i 0)))) S1x128x2816.size (k0_pay6 (View.ld x3 rA))))
              (slot 1 (VecWindow.put w2 (k0_off8 0#32 (T3 (ix1 (i 0)))) S1x352x1024.size (k0_pay1 (k0_pay7 (View.ld x2 rB))))))
            (VecWindow.put w1 (k0_off5 0#32 (T3 (ix1 (i 0)))) S1x128x2816.size (k0_pay5 (View.ld x1 rA)))
            (VecWindow.put w3 (k0_off5 0#32 (T3 (ix1 (i 0)))) S1x128x2816.size (k0_pay6 (View.ld x3 rA)))
            (VecWindow.put w2 (k0_off8 0#32 (T3 (ix1 (i 0)))) S1x352x1024.size (k0_pay1 (k0_pay7 (View.ld x2 rB)))) -∗ K ⟨⟩))
      ⊢ wp frame (wpE (defs₀ (F := F)) Variants.none c none) E
        (cc0_moe_experts (F := F) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_moe_experts_eq_skeleton]; unfold cc0_moe_experts_skel
  unfold held
  iintro ⟨⟨H1, H2, H3, H7, H8, H9, H10, H11, H12, H13, H14⟩, Hk⟩
  iapply (wp_word c E i harg1 (off_val i) hk) $$ H1; iintro H1
  iapply (wp_word c E i harg2 (off_val i) hs) $$ H2; iintro H2
  unfold owns
  icases H3 with ⟨%f3, %hf3, H3⟩
  icases H7 with ⟨%f7, %hf7, H7⟩
  icases H8 with ⟨%f8, %hf8, H8⟩
  icases H9 with ⟨%f9, %hf9, H9⟩
  icases H10 with ⟨%f10, %hf10, H10⟩
  icases H11 with ⟨%f11, -, H11⟩
  icases H12 with ⟨%f12, %hf12, H12⟩
  icases H13 with ⟨%f13, %hf13, H13⟩
  icases H14 with ⟨%f14, %hf14, H14⟩
  subst hf3 hf7 hf8 hf9 hf10 hf12 hf13 hf14
  have hw := word_read arg3 i (off_val i) (k0_off16_inb i) f3 (Shape.Idx.first (numel1_S1.symm ▸ Nat.one_pos))
  have hc2 : k0_chk2 2#32 1#32 := by decide
  have hc1' := hw.symm ▸ hc1
  sl_exec (disch := exact hc1')
  sl_step
  iapply Hk
  isplitl [H1]; · iexact H1
  isplitl [H2]; · iexact H2
  isplitl [H3]
  · iexists f3; isplitr; · ipureintro; rfl
    iexact H3
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    have e1 := slot_put (R := 1024) (C := 2816) (s := 1) arg12 inb_S2x1024x2816_S1x1024x2816_1_0_0 rfl (by decide) (fun _ => rfl) squeezes_S1x1024x2816_S1024x2816 f12
      (k0_off18_inb 2#32 1#32 _ hc1' (by decide)) (k0_pay5 (View.ld (View.read (Elt F) arg8.view f8) rA)) (congrArg (k0_off5 0#32) hw)
    have e3 := slot_put (R := 1024) (C := 2816) (s := 1) arg13 inb_S2x1024x2816_S1x1024x2816_1_0_0 rfl (by decide) (fun _ => rfl) squeezes_S1x1024x2816_S1024x2816 f13
      (k0_off18_inb 2#32 1#32 _ hc1' (by decide)) (k0_pay6 (View.ld (View.read (Elt F) arg9.view f9) rA)) (congrArg (k0_off5 0#32) hw)
    have e2 := slot_put (R := 2816) (C := 1024) (s := 1) arg14 inb_S2x2816x1024_S1x2816x1024_1_0_0 rfl (by decide) (fun _ => rfl) squeezes_S1x2816x1024_S2816x1024 f14
      (k0_off20_inb 2#32 1#32 _ hc1' (by decide)) (k0_pay1 (k0_pay7 (View.ld (View.read (Elt F) arg10.view f10) rB))) (congrArg (k0_off8 0#32) hw)
    refine Eq.trans ?_ (congr (congr (congrArg (out (View.read (Elt F) arg7.view f7)) e1) e3) e2)
    exact View.read_writes_eq_canon _ _ _ (View.cover_of_tiled (s := S512x1024) _ S512x1024.size (by rfl))
  isplitl [H12]
  · iexists _; isplitr
    swap; · iexact H12
    ipureintro
    exact View.read_writes_cons_put arg12.view f12 (k0_off18_inb 2#32 1#32 _ hc1' (by decide)) (k0_pay5 (View.ld (View.read (Elt F) arg8.view f8) rA)) [] (congrArg (k0_off5 0#32) hw)
  isplitl [H13]
  · iexists _; isplitr
    swap; · iexact H13
    ipureintro
    exact View.read_writes_cons_put arg13.view f13 (k0_off18_inb 2#32 1#32 _ hc1' (by decide)) (k0_pay6 (View.ld (View.read (Elt F) arg9.view f9) rA)) [] (congrArg (k0_off5 0#32) hw)
  iexists _; isplitr
  swap; · iexact H14
  ipureintro
  exact View.read_writes_cons_put arg14.view f14 (k0_off20_inb 2#32 1#32 _ hc1' (by decide)) (k0_pay1 (k0_pay7 (View.ld (View.read (Elt F) arg10.view f10) rB))) [] (congrArg (k0_off8 0#32) hw)

end Kernel

end Cert.ExpertsIdeal.Body

end
-- ==== Proof.ExpertsSched.lean ====
/-
  The experts' schedule: what the tables say, and what two weight slots hold while the grid follows them.
-/
module

public import Idealize.ShloMosaic.Lib.Pipeline.ValueKit

@[expose] public section

namespace Cert.Sched

/-- The six tables and each tile's expert (8 at a tile of padding), as functions of the step and of the tile. -/
structure Table where
  kind : ℕ → ℕ
  slot : ℕ → ℕ
  slab : ℕ → ℕ
  we : ℕ → ℕ
  wk : ℕ → ℕ
  tile : ℕ → ℕ
  owner : ℕ → ℕ

namespace Table
variable (T : Table)

/-- The step reads a slab into a slot: kinds 0 and 2. -/
def load (s : ℕ) : Prop := T.kind s = 0 ∨ T.kind s = 2
/-- The step multiplies a tile: kinds 1 and 2. -/
def mul (s : ℕ) : Prop := T.kind s = 1 ∨ T.kind s = 2
def live (s : ℕ) : Prop := T.load s ∨ T.mul s
/-- The slot being filled at the step. -/
def fill (s : ℕ) : ℕ := if T.kind s = 0 then T.slot s else 1 - T.slot s

end Table

/-- What a schedule that follows the routing keeps. -/
structure Follows (T : Table) : Prop where
  kind_le : ∀ s < 136, T.kind s ≤ 4
  slot_le : ∀ s < 136, T.slot s ≤ 1
  slab_le : ∀ s < 136, T.slab s ≤ 7
  we_le : ∀ s < 136, T.we s ≤ 7
  wk_le : ∀ s < 136, T.wk s ≤ 7
  tile_le : ∀ s < 136, T.tile s ≤ 71
  first : (T.kind 0 = 0 ∧ T.slab 0 = 0) ∨ T.kind 0 = 3
  tile_first : T.tile 0 = 0
  tile_last : T.tile 135 = 71
  kind_last : T.kind 135 ≠ 0
  wk_slab : ∀ s < 136, T.load s → T.wk s = T.slab s
  tile_step : ∀ s < 135, T.tile (s + 1) = T.tile s ∨ T.tile (s + 1) = T.tile s + 1
  load_stays : ∀ s < 135, T.kind s = 0 → T.tile (s + 1) = T.tile s
  noop : ∀ s < 135, T.kind (s + 1) = 4 → T.kind s ≠ 0 ∧ T.tile (s + 1) = T.tile s
  block : ∀ s < 135, T.live (s + 1) → T.fill (s + 1) = T.fill s → T.live s ∧ (T.mul (s + 1) → T.mul s) ∧ T.we (s + 1) = T.we s
    ∧ (T.load (s + 1) → T.load s ∧ T.slab (s + 1) = T.slab s + 1) ∧ (¬ T.load (s + 1) → T.wk (s + 1) = T.wk s)
  turn : ∀ s < 135, T.live (s + 1) → T.fill (s + 1) ≠ T.fill s → T.live s ∧ T.mul (s + 1) ∧ T.wk s = 7
    ∧ (T.load (s + 1) → T.slab (s + 1) = 0) ∧ (¬ T.load (s + 1) → T.we (s + 1) = T.we s)
  zeros : ∀ s < 136, T.kind s = 3 → T.owner (T.tile s) = 8
  takes : ∀ s < 135, T.live (s + 1) → T.fill (s + 1) ≠ T.fill s → T.owner (T.tile (s + 1)) = T.we s
    ∧ (T.kind s = 1 → T.owner (T.tile s) ≠ T.we s)
  keeps : ∀ s < 135, T.mul (s + 1) → T.fill (s + 1) = T.fill s → T.owner (T.tile (s + 1)) = T.owner (T.tile s)

/-- After a step: the slot being filled holds the slabs read of its expert (unless it was given up, the step's tile being
    that expert's), and, when the step multiplies, the other slot holds all the slabs of the tile's expert. -/
def After (T : Table) (W : ℕ → ℕ → ℕ → Prop) (s : ℕ) : Prop :=
  T.live s → ((∀ j ≤ T.wk s, W (T.fill s) j (T.we s)) ∨ (T.kind s = 1 ∧ T.owner (T.tile s) = T.we s))
    ∧ (T.mul s → T.owner (T.tile s) ≤ 7 ∧ ∀ j < 8, W (1 - T.fill s) j (T.owner (T.tile s)))

variable {T : Table} (h : Follows T)
include h

theorem fill_le (s : ℕ) (hs : s < 136) : T.fill s ≤ 1 := by
  have := h.slot_le s hs
  unfold Table.fill
  split <;> omega

theorem slot_eq (s : ℕ) (hs : s < 136) (hm : T.mul s) : 1 - T.fill s = T.slot s := by
  have := h.slot_le s hs
  unfold Table.fill
  rw [if_neg (by rcases hm with h | h <;> omega)]
  omega

/-- The first step. -/
theorem after_first {W : ℕ → ℕ → ℕ → Prop} (hnew : T.load 0 → W (T.fill 0) (T.slab 0) (T.we 0)) : After T W 0 := by
  intro hl
  rcases h.first with ⟨hk, h0⟩ | hk
  · have hw := h.wk_slab 0 (by omega) (.inl hk)
    refine ⟨.inl fun j hj => ?_, fun hm => absurd hm (by unfold Table.mul; omega)⟩
    have e : j = T.slab 0 := by omega
    rw [e]
    exact hnew (.inl hk)
  · unfold Table.live Table.load Table.mul at hl
    omega

/-- A step after another. -/
theorem after_step {W W' : ℕ → ℕ → ℕ → Prop} {s : ℕ} (hs : s < 135) (ha : After T W s)
    (hold : ∀ σ j e, σ ≤ 1 → j < 8 → W σ j e → ¬ (T.load (s + 1) ∧ σ = T.fill (s + 1) ∧ j = T.slab (s + 1)) → W' σ j e)
    (hnew : T.load (s + 1) → W' (T.fill (s + 1)) (T.slab (s + 1)) (T.we (s + 1))) : After T W' (s + 1) := by
  intro hl
  have f0 := fill_le h s (by omega)
  have f1 := fill_le h (s + 1) (by omega)
  have k0 := h.wk_le s (by omega)
  by_cases hf : T.fill (s + 1) = T.fill s
  · obtain ⟨hl0, hm, he, hb, hn⟩ := h.block s hs hl hf
    obtain ⟨hA, hB⟩ := ha hl0
    refine ⟨?_, fun hm1 => ?_⟩
    · by_cases hld : T.load (s + 1)
      · obtain ⟨hld0, hsl⟩ := hb hld
        have w0 := h.wk_slab s (by omega) hld0
        have w1 := h.wk_slab (s + 1) (by omega) hld
        left
        intro j hj
        by_cases hj' : j = T.slab (s + 1)
        · rw [hj']; exact hnew hld
        · rcases hA with hA | ⟨hk, -⟩
          · rw [hf, he]
            exact hold _ _ _ f0 (by omega) (hA j (by omega)) (fun hc => hj' hc.2.2)
          · unfold Table.load at hld0; omega
      · have hw := hn hld
        have hm1 : T.mul (s + 1) := hl.resolve_left hld
        rcases hA with hA | ⟨hk, ho⟩
        · left
          intro j hj
          rw [hf, he]
          exact hold _ _ _ f0 (by omega) (hA j (by omega)) (fun hc => hld hc.1)
        · right
          refine ⟨?_, by rw [h.keeps s hs hm1 hf, he, ho]⟩
          unfold Table.load at hld; unfold Table.mul at hm1; omega
    · obtain ⟨h7, hB⟩ := hB (hm hm1)
      rw [h.keeps s hs hm1 hf, hf]
      exact ⟨h7, fun j hj => hold _ _ _ (by omega) hj (hB j hj) (fun hc => by omega)⟩
  · obtain ⟨hl0, hm1, hw, hb, hn⟩ := h.turn s hs hl hf
    obtain ⟨ho, hne⟩ := h.takes s hs hl hf
    obtain ⟨hA, -⟩ := ha hl0
    have hA : ∀ j ≤ T.wk s, W (T.fill s) j (T.we s) := hA.resolve_right fun hc => hne hc.1 hc.2
    refine ⟨?_, fun _ => ?_⟩
    · by_cases hld : T.load (s + 1)
      · have w1 := h.wk_slab (s + 1) (by omega) hld
        have := hb hld
        left
        intro j hj
        have e : j = T.slab (s + 1) := by omega
        rw [e]
        exact hnew hld
      · right
        refine ⟨?_, by rw [ho, hn hld]⟩
        unfold Table.load at hld; unfold Table.mul at hm1; omega
    · rw [ho]
      refine ⟨h.we_le s (by omega), fun j hj => ?_⟩
      rw [show 1 - T.fill (s + 1) = T.fill s by omega]
      exact hold _ _ _ f0 hj (hA j (by omega)) (fun hc => by omega)

/-- A step that touches neither slot keeps what they hold. -/
theorem after_dead {W : ℕ → ℕ → ℕ → Prop} {s : ℕ} (hd : ¬ T.live s) : After T W s := fun hl => absurd hl hd

/-- Every tile is some step's, and the last of its steps writes it back. -/
theorem tile_hit (y : ℕ) (hy : y ≤ 71) : ∃ s < 136, T.tile s = y ∧ (s = 135 ∨ T.tile (s + 1) ≠ y) := by
  by_contra hc
  have hc : ∀ s < 136, T.tile s = y → s ≠ 135 ∧ T.tile (s + 1) = y := fun s hs he =>
    ⟨fun h1 => hc ⟨s, hs, he, .inl h1⟩, Classical.not_not.1 fun h1 => hc ⟨s, hs, he, .inr h1⟩⟩
  have key : ∀ s, s < 136 → T.tile s < y ∨ T.tile s = y := by
    intro s
    induction s with
    | zero => intro _; have := h.tile_first; omega
    | succ s ih =>
      intro hs
      rcases ih (by omega) with h1 | h1
      · rcases h.tile_step s (by omega) with h2 | h2 <;> omega
      · right; exact (hc s (by omega) h1).2
  rcases key 135 (by omega) with h1 | h1
  · have := h.tile_last; omega
  · exact (hc 135 (by omega) h1).1 rfl

end Cert.Sched

end
-- ==== Proof.ExpertsTables.lean ====
/-
  The experts' tables as the pipeline reads them, each step's blocks, and what a slab read into a slot leaves there.
-/
module

public import proofs.«01_k».proof.Proof.ExpertsBody
public import proofs.«01_k».proof.Proof.ExpertsSched
public import Idealize.ShloMosaic.Lib.Pipeline.FrameBody
public import Idealize.ShloMosaic.Lib.Pipeline.TableIdle

@[expose] public section

set_option maxRecDepth 16384

noncomputable section

namespace Cert.ExpertsIdeal.Body

open Cert.ExpertsIdeal Cert.ExpertsIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The core's buffers as launched. -/
abbrev V (c : Dev nD) (b : Ref sig .tc) : Buf (Elt F) ((c : Thread nD τ).loc b) := m ((c : Thread nD τ).loc b)

/-- A step's word in a table. -/
def wd (v : Vec F S136 .i32) (s : ℕ) : BitVec 32 := v (ix1 ⟨s % 136, Nat.mod_lt _ (by decide)⟩)

theorem wd_coord (v : Vec F S136 .i32) (i : grid0.Coords) : wd v (i 0).val = v (ix1 (i 0)) :=
  congrArg (fun a => v (ix1 a)) (Fin.ext (Nat.mod_eq_of_lt (i 0).isLt))

/-- The tables a memory holds, by step. -/
def tb : Sched.Table where
  kind s := (wd (V m 0 main_arg1) s).toNat
  slot s := (wd (V m 0 main_arg2) s).toNat
  slab s := (wd (V m 0 main_arg3) s).toNat
  we s := (wd (V m 0 main_arg4) s).toNat
  wk s := (wd (V m 0 main_arg5) s).toNat
  tile s := (wd (V m 0 main_arg6) s).toNat
  owner y := (show Vec F S72 .i32 from V m 0 main_arg0) (ix1 ⟨y % 72, Nat.mod_lt _ (by decide)⟩) |>.toNat

/-- The tables as the pipeline is handed them. -/
def tab : pre0.Contents (Elt F) := fun k => V m 0 (pre0.ref k)

/-- The place of a step's word, as an index map names it. -/
theorem at_word (v : Vec F S136 .i32) (i : grid0.Coords) (hi : ∀ a, (k0_off1 i) a + S1.size a ≤ S136.size a)
    (h1 : 0 < (Rect.unit (s := S136) (k0_off1 i) S1.size hi).shape.numel) :
    v ((Rect.unit (s := S136) (k0_off1 i) S1.size hi).emb (Shape.Idx.first h1)) = wd v (i 0).val := by
  rw [wd_coord]
  refine congrArg v (funext fun a => Fin.ext ?_)
  obtain rfl : a = 0 := Subsingleton.elim _ _
  have hx : ((Shape.Idx.first h1) 0).val < 1 := ((Shape.Idx.first h1) 0).isLt
  show (BitVec.ofNat 32 (i 0).val).toNat + 1 * ((Shape.Idx.first h1) 0).val = (i 0).val
  rw [off_val]
  omega

theorem tr0 (i : grid0.Coords) : cc0_transform_0 (F := F) k0_off1_inb numel1_S1 (tab m) i = ![(tb m).tile (i 0).val, 0] := by
  show ![BitVec.toNat (tab m 5 _), 0] = _
  exact congrArg (fun w : BitVec 32 => ![w.toNat, 0]) (at_word (V m 0 main_arg6) i _ _)
theorem tr4 (i : grid0.Coords) : cc0_transform_4 (F := F) k0_off1_inb numel1_S1 (tab m) i = ![(tb m).tile (i 0).val, 0] := tr0 m i
theorem tr1 (i : grid0.Coords) : cc0_transform_1 (F := F) k0_off1_inb numel1_S1 (tab m) i = ![(tb m).we (i 0).val, (tb m).wk (i 0).val, 0] := by
  show ![BitVec.toNat (tab m 3 _), BitVec.toNat (tab m 4 _), 0] = _
  exact congrArg₂ (fun w w' : BitVec 32 => ![w.toNat, w'.toNat, 0]) (at_word (V m 0 main_arg4) i _ _) (at_word (V m 0 main_arg5) i _ _)
theorem tr2 (i : grid0.Coords) : cc0_transform_2 (F := F) k0_off1_inb numel1_S1 (tab m) i = ![(tb m).we (i 0).val, (tb m).wk (i 0).val, 0] := tr1 m i
theorem tr3 (i : grid0.Coords) : cc0_transform_3 (F := F) k0_off1_inb numel1_S1 (tab m) i = ![(tb m).we (i 0).val, (tb m).wk (i 0).val, 0] := tr1 m i

theorem coord : ∀ t : Fin grid0.N, ((grid0.coords t) 0).val = t.val := by decide +kernel

/-- The loading steps' side conditions, from the words' ranges. -/
theorem chk1 : ∀ s : Fin 2, ∀ k : Fin 8, k0_chk1 0#32 (BitVec.ofNat 32 s.val) (BitVec.ofNat 32 k.val) := by decide +kernel
theorem chk3 : ∀ k : Fin 8, k0_chk3 2#32 0#32 (BitVec.ofNat 32 k.val) := by decide +kernel
theorem chk4 : ∀ k : Fin 8, k0_chk4 2#32 1#32 (BitVec.ofNat 32 k.val) := by decide +kernel

/-- The rows of a tile. -/
def xt (c : Dev nD) (y : ℕ) : Vec F S512x1024 .f32 := fun j =>
  (show Vec F S36864x1024 .f32 from V m c main_arg7) (ix2 ⟨(y * 512 + (j 0).val) % 36864, Nat.mod_lt _ (by decide)⟩ (j 1))
/-- An expert's weights, rounded. -/
def G1 (c : Dev nD) (e : ℕ) : Vec F S1024x2816 .bf16 := fun y =>
  FloatOps.truncf .bf16 bitsLt_bf16_f32 ((show Vec F S8x1024x2816 .f32 from V m c main_arg8) (ix3 ⟨e % 8, Nat.mod_lt _ (by decide)⟩ (y 0) (y 1)))
def G3 (c : Dev nD) (e : ℕ) : Vec F S1024x2816 .bf16 := fun y =>
  FloatOps.truncf .bf16 bitsLt_bf16_f32 ((show Vec F S8x1024x2816 .f32 from V m c main_arg9) (ix3 ⟨e % 8, Nat.mod_lt _ (by decide)⟩ (y 0) (y 1)))
def G2 (c : Dev nD) (e : ℕ) : Vec F S2816x1024 .bf16 := fun y =>
  FloatOps.truncf .bf16 bitsLt_bf16_f32 ((show Vec F S8x2816x1024 .f32 from V m c main_arg10) (ix3 ⟨e % 8, Nat.mod_lt _ (by decide)⟩ (y 0) (y 1)))

variable {m} (h : Follows (tb m))
include h

/-- A schedule that follows the routing keeps every block inside its array. -/
theorem ok : ok0 (tab m) := by
  have b (i : grid0.Coords) : (i 0).val < 136 := (i 0).isLt
  refine ⟨fun i => ⟨?_, .inl rfl⟩, fun i => ⟨?_, .inl rfl⟩, fun i => ⟨?_, .inl rfl⟩, fun i => ⟨?_, .inl rfl⟩, fun i => ⟨?_, .inl rfl⟩⟩
  · rw [tr0]; intro a
    have := h.tile_le _ (b i)
    match a with
    | ⟨0, _⟩ => show ((tb m).tile (i 0).val + 1) * 512 ≤ 36864; omega
    | ⟨1, _⟩ => exact le_refl 1024
  · rw [tr1]; intro a
    have := h.we_le _ (b i)
    have := h.wk_le _ (b i)
    match a with
    | ⟨0, _⟩ => show ((tb m).we (i 0).val + 1) * 1 ≤ 8; omega
    | ⟨1, _⟩ => show ((tb m).wk (i 0).val + 1) * 128 ≤ 1024; omega
    | ⟨2, _⟩ => exact le_refl 2816
  · rw [tr2]; intro a
    have := h.we_le _ (b i)
    have := h.wk_le _ (b i)
    match a with
    | ⟨0, _⟩ => show ((tb m).we (i 0).val + 1) * 1 ≤ 8; omega
    | ⟨1, _⟩ => show ((tb m).wk (i 0).val + 1) * 128 ≤ 1024; omega
    | ⟨2, _⟩ => exact le_refl 2816
  · rw [tr3]; intro a
    have := h.we_le _ (b i)
    have := h.wk_le _ (b i)
    match a with
    | ⟨0, _⟩ => show ((tb m).we (i 0).val + 1) * 1 ≤ 8; omega
    | ⟨1, _⟩ => show ((tb m).wk (i 0).val + 1) * 352 ≤ 2816; omega
    | ⟨2, _⟩ => exact le_refl 1024
  · rw [tr4]; intro a
    have := h.tile_le _ (b i)
    match a with
    | ⟨0, _⟩ => show ((tb m).tile (i 0).val + 1) * 512 ≤ 36864; omega
    | ⟨1, _⟩ => exact le_refl 1024

/-- The admissible tables. -/
def ad : (p : Fin 1) → (pcfgs (F := F) p).Adm := fun _ => ⟨tab m, ok h⟩

/-- The pipeline at the memory's tables. -/
abbrev cf : Cfg sig Λ₀ := cfg0 (F := F) (ad h 0)
/-- A step's block. -/
def iblk (c : Dev nD) (w : Fin (cf h).W) (t : Fin (cf h).N) : (((cf h).win w).xblock (grid0.coords t)).Idx → Elt F ((cf h).win w).elt :=
  (((cf h).win w).blk t).view.read (Elt F) (V m c (Pipeline.arrRef spec0 w))

/-- A step's block of rows is its tile's. -/
theorem iblk0 (c : Dev nD) (t : Fin grid0.N) : iblk h c 0 t = xt m c ((tb m).tile t.val) := by
  have hl := h.tile_le t.val t.isLt
  have e : cc0_transform_0 (F := F) k0_off1_inb numel1_S1 (tab m) (grid0.coords t) = ![(tb m).tile t.val, 0] := by rw [tr0, coord]
  refine funext fun (y : S512x1024.Idx) => ?_
  refine congrArg (V m c main_arg7) (funext fun a => Fin.ext ?_)
  have hy : (y 0).val < 512 := (y 0).isLt
  match a with
  | ⟨0, _⟩ =>
    show cc0_transform_0 (F := F) k0_off1_inb numel1_S1 (tab m) (grid0.coords t) 0 * 512 + 1 * (y 0).val = ((tb m).tile t.val * 512 + (y 0).val) % 36864
    rw [e]
    show (tb m).tile t.val * 512 + 1 * (y 0).val = _
    omega
  | ⟨1, _⟩ =>
    show cc0_transform_0 (F := F) k0_off1_inb numel1_S1 (tab m) (grid0.coords t) 1 * 1024 + 1 * (y 1).val = (y 1).val
    rw [e]
    show 0 * 1024 + 1 * (y 1).val = _
    omega

/-- A loading step's blocks are a slab of its expert's weights. -/
theorem iblk1 (c : Dev nD) (t : Fin (cf h).N) (r : Fin 128) (k : Fin 2816) :
    (show Vec F S1x128x2816 .f32 from iblk h c 1 t) (ix3 0 r k)
      = (show Vec F S8x1024x2816 .f32 from V m c main_arg8) (ix3 ⟨(tb m).we t.val % 8, Nat.mod_lt _ (by decide)⟩ ⟨((tb m).wk t.val * 128 + r.val) % 1024, Nat.mod_lt _ (by decide)⟩ k) := by
  have h1 := h.we_le t.val t.isLt
  have h2 := h.wk_le t.val t.isLt
  have e : cc0_transform_1 (F := F) k0_off1_inb numel1_S1 (tab m) (grid0.coords t) = ![(tb m).we t.val, (tb m).wk t.val, 0] := by rw [tr1, coord]
  refine congrArg (V m c main_arg8) (funext fun a => Fin.ext ?_)
  match a with
  | ⟨0, _⟩ =>
    show cc0_transform_1 (F := F) k0_off1_inb numel1_S1 (tab m) (grid0.coords t) 0 * 1 + 1 * 0 = (tb m).we t.val % 8
    rw [e]
    show (tb m).we t.val * 1 + 1 * 0 = _
    omega
  | ⟨1, _⟩ =>
    show cc0_transform_1 (F := F) k0_off1_inb numel1_S1 (tab m) (grid0.coords t) 1 * 128 + 1 * r.val = ((tb m).wk t.val * 128 + r.val) % 1024
    rw [e]
    show (tb m).wk t.val * 128 + 1 * r.val = _
    omega
  | ⟨2, _⟩ =>
    show cc0_transform_1 (F := F) k0_off1_inb numel1_S1 (tab m) (grid0.coords t) 2 * 2816 + 1 * k.val = k.val
    rw [e]
    show 0 * 2816 + 1 * k.val = _
    omega
theorem iblk2 (c : Dev nD) (t : Fin (cf h).N) (r : Fin 128) (k : Fin 2816) :
    (show Vec F S1x128x2816 .f32 from iblk h c 2 t) (ix3 0 r k)
      = (show Vec F S8x1024x2816 .f32 from V m c main_arg9) (ix3 ⟨(tb m).we t.val % 8, Nat.mod_lt _ (by decide)⟩ ⟨((tb m).wk t.val * 128 + r.val) % 1024, Nat.mod_lt _ (by decide)⟩ k) := by
  have h1 := h.we_le t.val t.isLt
  have h2 := h.wk_le t.val t.isLt
  have e : cc0_transform_2 (F := F) k0_off1_inb numel1_S1 (tab m) (grid0.coords t) = ![(tb m).we t.val, (tb m).wk t.val, 0] := by rw [tr2, coord]
  refine congrArg (V m c main_arg9) (funext fun a => Fin.ext ?_)
  match a with
  | ⟨0, _⟩ =>
    show cc0_transform_2 (F := F) k0_off1_inb numel1_S1 (tab m) (grid0.coords t) 0 * 1 + 1 * 0 = (tb m).we t.val % 8
    rw [e]
    show (tb m).we t.val * 1 + 1 * 0 = _
    omega
  | ⟨1, _⟩ =>
    show cc0_transform_2 (F := F) k0_off1_inb numel1_S1 (tab m) (grid0.coords t) 1 * 128 + 1 * r.val = ((tb m).wk t.val * 128 + r.val) % 1024
    rw [e]
    show (tb m).wk t.val * 128 + 1 * r.val = _
    omega
  | ⟨2, _⟩ =>
    show cc0_transform_2 (F := F) k0_off1_inb numel1_S1 (tab m) (grid0.coords t) 2 * 2816 + 1 * k.val = k.val
    rw [e]
    show 0 * 2816 + 1 * k.val = _
    omega
theorem iblk3 (c : Dev nD) (t : Fin (cf h).N) (r : Fin 352) (k : Fin 1024) :
    (show Vec F S1x352x1024 .f32 from iblk h c 3 t) (ix3 0 r k)
      = (show Vec F S8x2816x1024 .f32 from V m c main_arg10) (ix3 ⟨(tb m).we t.val % 8, Nat.mod_lt _ (by decide)⟩ ⟨((tb m).wk t.val * 352 + r.val) % 2816, Nat.mod_lt _ (by decide)⟩ k) := by
  have h1 := h.we_le t.val t.isLt
  have h2 := h.wk_le t.val t.isLt
  have e : cc0_transform_3 (F := F) k0_off1_inb numel1_S1 (tab m) (grid0.coords t) = ![(tb m).we t.val, (tb m).wk t.val, 0] := by rw [tr3, coord]
  refine congrArg (V m c main_arg10) (funext fun a => Fin.ext ?_)
  match a with
  | ⟨0, _⟩ =>
    show cc0_transform_3 (F := F) k0_off1_inb numel1_S1 (tab m) (grid0.coords t) 0 * 1 + 1 * 0 = (tb m).we t.val % 8
    rw [e]
    show (tb m).we t.val * 1 + 1 * 0 = _
    omega
  | ⟨1, _⟩ =>
    show cc0_transform_3 (F := F) k0_off1_inb numel1_S1 (tab m) (grid0.coords t) 1 * 352 + 1 * r.val = ((tb m).wk t.val * 352 + r.val) % 2816
    rw [e]
    show (tb m).wk t.val * 352 + 1 * r.val = _
    omega
  | ⟨2, _⟩ =>
    show cc0_transform_3 (F := F) k0_off1_inb numel1_S1 (tab m) (grid0.coords t) 2 * 1024 + 1 * k.val = k.val
    rw [e]
    show 0 * 1024 + 1 * k.val = _
    omega
omit h

/-- What a store into a slot leaves in the slab it fills. -/
theorem put_new {A N C R : ℕ} {α : Type} (w : (⟨3, ![A, N, C]⟩ : Shape).Idx → α) (off : Fin 3 → ℕ) {σ j : ℕ} (ho : off = ![σ, j * R, 0])
    (x : (⟨3, ![1, R, C]⟩ : Shape).Idx → α) (y : (⟨3, ![A, N, C]⟩ : Shape).Idx) (hR : 0 < R) (h0 : (y 0).val = σ) (h1 : (y 1).val / R = j) :
    VecWindow.put (s := ⟨3, ![A, N, C]⟩) w off ![1, R, C] x y = x (ix3 0 ⟨(y 1).val % R, Nat.mod_lt _ hR⟩ (y 2)) := by
  subst ho
  have hm := Nat.div_add_mod (y 1).val R
  have hl := Nat.mod_lt (y 1).val hR
  rw [h1, Nat.mul_comm] at hm
  unfold VecWindow.put
  rw [dif_pos (fun a => by
    match a with
    | ⟨0, _⟩ => show σ ≤ (y 0).val ∧ (y 0).val < σ + 1; omega
    | ⟨1, _⟩ => show j * R ≤ (y 1).val ∧ (y 1).val < j * R + R; omega
    | ⟨2, _⟩ => show 0 ≤ (y 2).val ∧ (y 2).val < 0 + C; exact ⟨Nat.zero_le _, by rw [Nat.zero_add]; exact (y 2).isLt⟩)]
  refine congrArg x (funext fun a => Fin.ext ?_)
  rw [Rect.unitLocal_val]
  match a with
  | ⟨0, _⟩ => show (y 0).val - σ = 0; omega
  | ⟨1, _⟩ => show (y 1).val - j * R = (y 1).val % R; omega
  | ⟨2, _⟩ => exact Nat.sub_zero _

/-- It leaves the rest as it was. -/
theorem put_old {A N C R : ℕ} {α : Type} (w : (⟨3, ![A, N, C]⟩ : Shape).Idx → α) (off : Fin 3 → ℕ) {σ j : ℕ} (ho : off = ![σ, j * R, 0])
    (x : (⟨3, ![1, R, C]⟩ : Shape).Idx → α) (y : (⟨3, ![A, N, C]⟩ : Shape).Idx) (hn : ¬ ((y 0).val = σ ∧ (y 1).val / R = j)) :
    VecWindow.put (s := ⟨3, ![A, N, C]⟩) w off ![1, R, C] x y = w y := by
  subst ho
  unfold VecWindow.put
  refine dif_neg fun hc => hn ?_
  have c0 : σ ≤ (y 0).val ∧ (y 0).val < σ + 1 := hc 0
  have c1 : j * R ≤ (y 1).val ∧ (y 1).val < j * R + R := hc 1
  exact ⟨by omega, Nat.div_eq_of_lt_le c1.1 (by rw [Nat.succ_mul]; exact c1.2)⟩

theorem pay5 (x : Vec F S1x128x2816 .f32) (r : Fin 128) (k : Fin 2816) :
    k0_pay5 (View.ld x rA) (ix3 0 r k) = FloatOps.truncf .bf16 bitsLt_bf16_f32 (x (ix3 0 r k)) := by
  rw [show View.ld x rA = x from View.ld_unit_lit _ _ (by decide)]
  pointwise [k0_pay5]
theorem pay6 (x : Vec F S1x128x2816 .f32) (r : Fin 128) (k : Fin 2816) :
    k0_pay6 (View.ld x rA) (ix3 0 r k) = FloatOps.truncf .bf16 bitsLt_bf16_f32 (x (ix3 0 r k)) := by
  rw [show View.ld x rA = x from View.ld_unit_lit _ _ (by decide)]
  pointwise [k0_pay6]
theorem pay7 (x : Vec F S1x352x1024 .f32) (r : Fin 352) (k : Fin 1024) :
    k0_pay1 (k0_pay7 (View.ld x rB)) (ix3 0 r k) = FloatOps.truncf .bf16 bitsLt_bf16_f32 (x (ix3 0 r k)) := by
  rw [show View.ld x rB = x from View.ld_unit_lit _ _ (by decide)]
  pointwise [k0_pay1, k0_pay7]

/-- A slot's slab holds an expert's, in the three buffers. -/
def Wt (m : (ℓ : Loc nD τ sig) → Buf (Elt F) ℓ) (c : Dev nD) (w1 w3 : Vec F S2x1024x2816 .bf16) (w2 : Vec F S2x2816x1024 .bf16) (σ j e : ℕ) : Prop :=
  (∀ y : S2x1024x2816.Idx, (y 0).val = σ → (y 1).val / 128 = j → w1 y = G1 m c e (ix2 (y 1) (y 2)))
  ∧ (∀ y : S2x1024x2816.Idx, (y 0).val = σ → (y 1).val / 128 = j → w3 y = G3 m c e (ix2 (y 1) (y 2)))
  ∧ (∀ y : S2x2816x1024.Idx, (y 0).val = σ → (y 1).val / 352 = j → w2 y = G2 m c e (ix2 (y 1) (y 2)))

/-- A slot whose slabs are all an expert's is its weights. -/
theorem slot_full {c : Dev nD} {w1 w3 : Vec F S2x1024x2816 .bf16} {w2 : Vec F S2x2816x1024 .bf16} {σ e : ℕ} (hσ : σ ≤ 1)
    (hw : ∀ j < 8, Wt m c w1 w3 w2 σ j e) : slot σ w1 = G1 m c e ∧ slot σ w3 = G3 m c e ∧ slot σ w2 = G2 m c e := by
  have e2 : σ % 2 = σ := by omega
  refine ⟨funext fun y => ?_, funext fun y => ?_, funext fun y => ?_⟩
  · have hy : (y 0).val < 1024 := (y 0).isLt
    exact ((hw ((y 0).val / 128) (by omega)).1 (ix3 ⟨σ % 2, _⟩ (y 0) (y 1)) e2 rfl).trans
      (congrArg (G1 m c e) (funext fun a => by match a with | ⟨0, _⟩ => rfl | ⟨1, _⟩ => rfl))
  · have hy : (y 0).val < 1024 := (y 0).isLt
    exact ((hw ((y 0).val / 128) (by omega)).2.1 (ix3 ⟨σ % 2, _⟩ (y 0) (y 1)) e2 rfl).trans
      (congrArg (G3 m c e) (funext fun a => by match a with | ⟨0, _⟩ => rfl | ⟨1, _⟩ => rfl))
  · have hy : (y 0).val < 2816 := (y 0).isLt
    exact ((hw ((y 0).val / 352) (by omega)).2.2 (ix3 ⟨σ % 2, _⟩ (y 0) (y 1)) e2 rfl).trans
      (congrArg (G2 m c e) (funext fun a => by match a with | ⟨0, _⟩ => rfl | ⟨1, _⟩ => rfl))

section Store
variable (h : Follows (tb m)) (c : Dev nD) (t : Fin (cf h).N) (w1 w3 : Vec F S2x1024x2816 .bf16) (w2 : Vec F S2x2816x1024 .bf16) (o5 o8 : Fin 3 → ℕ)

/-- The buffers after a loading step's stores. -/
def st1 : Vec F S2x1024x2816 .bf16 := VecWindow.put w1 o5 S1x128x2816.size (k0_pay5 (View.ld (show Vec F S1x128x2816 .f32 from iblk h c 1 t) rA))
def st3 : Vec F S2x1024x2816 .bf16 := VecWindow.put w3 o5 S1x128x2816.size (k0_pay6 (View.ld (show Vec F S1x128x2816 .f32 from iblk h c 2 t) rA))
def st2 : Vec F S2x2816x1024 .bf16 := VecWindow.put w2 o8 S1x352x1024.size (k0_pay1 (k0_pay7 (View.ld (show Vec F S1x352x1024 .f32 from iblk h c 3 t) rB)))

variable {o5 o8} {σ j : ℕ} (h5 : o5 = ![σ, j * 128, 0]) (h8 : o8 = ![σ, j * 352, 0])
include h5 h8

/-- The slab filled holds the step's expert's. -/
theorem store_new (hj : j = (tb m).wk t.val) : Wt m c (st1 h c t w1 o5) (st3 h c t w3 o5) (st2 h c t w2 o8) σ j ((tb m).we t.val) := by
  have key (a b d : ℕ) (ha : 0 < a) (hd : b / a = (tb m).wk t.val) (hb : b < d) : ((tb m).wk t.val * a + b % a) % d = b := by
    rw [← hd, Nat.mul_comm, Nat.div_add_mod, Nat.mod_eq_of_lt hb]
  refine ⟨fun y h0 h1 => ?_, fun y h0 h1 => ?_, fun y h0 h1 => ?_⟩
  · refine (put_new w1 o5 h5 _ y (by decide) h0 h1).trans ((pay5 _ _ _).trans (congrArg _ ((iblk1 h c t _ _).trans ?_)))
    exact congrArg (V m c main_arg8) (congrArg (fun b => ix3 _ b (y 2)) (Fin.ext (key 128 (y 1).val 1024 (by decide) (h1.trans hj) (y 1).isLt)))
  · refine (put_new w3 o5 h5 _ y (by decide) h0 h1).trans ((pay6 _ _ _).trans (congrArg _ ((iblk2 h c t _ _).trans ?_)))
    exact congrArg (V m c main_arg9) (congrArg (fun b => ix3 _ b (y 2)) (Fin.ext (key 128 (y 1).val 1024 (by decide) (h1.trans hj) (y 1).isLt)))
  · refine (put_new w2 o8 h8 _ y (by decide) h0 h1).trans ((pay7 _ _ _).trans (congrArg _ ((iblk3 h c t _ _).trans ?_)))
    exact congrArg (V m c main_arg10) (congrArg (fun b => ix3 _ b (y 2)) (Fin.ext (key 352 (y 1).val 2816 (by decide) (h1.trans hj) (y 1).isLt)))

/-- The others hold what they held. -/
theorem store_old {σ' j' e : ℕ} (hw : Wt m c w1 w3 w2 σ' j' e) (hn : ¬ (σ' = σ ∧ j' = j)) :
    Wt m c (st1 h c t w1 o5) (st3 h c t w3 o5) (st2 h c t w2 o8) σ' j' e :=
  ⟨fun y h0 h1 => (put_old w1 o5 h5 _ y (by rw [h0, h1]; exact hn)).trans (hw.1 y h0 h1),
   fun y h0 h1 => (put_old w3 o5 h5 _ y (by rw [h0, h1]; exact hn)).trans (hw.2.1 y h0 h1),
   fun y h0 h1 => (put_old w2 o8 h8 _ y (by rw [h0, h1]; exact hn)).trans (hw.2.2 y h0 h1)⟩

end Store

end Cert.ExpertsIdeal.Body

end
-- ==== Proof.ExpertsFrame.lean ====
/-
  The experts' steps put together: the invariant of the two slots along the grid, each step's obligation, the run and its frame.
-/
module

public import proofs.«01_k».proof.Proof.ExpertsTables

@[expose] public section

set_option maxRecDepth 16384

noncomputable section

namespace Cert.ExpertsIdeal.Body

open Cert.ExpertsIdeal Cert.ExpertsIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable {m : (ℓ : Loc nD τ sig) → Buf (Elt F) ℓ} (h : Follows (tb m)) (ρ : Dev nD → PrngReg)

/-- A tile's result: zeros where the tile is padding, else its expert's feed-forward. -/
def right (m : (ℓ : Loc nD τ sig) → Buf (Elt F) ℓ) (c : Dev nD) (y : ℕ) : Vec F S512x1024 .f32 :=
  if (tb m).owner y = 8 then zero else out (xt m c y) (G1 m c ((tb m).owner y)) (G3 m c ((tb m).owner y)) (G2 m c ((tb m).owner y))

/-- What the slots hold before step `n`. -/
def Slots (c : Dev nD) (w1 w3 : Vec F S2x1024x2816 .bf16) (w2 : Vec F S2x2816x1024 .bf16) (n : ℕ) : Prop :=
  n = 0 ∨ After (tb m) (Wt m c w1 w3 w2) (n - 1)

/-- The words a step reads. -/
theorem word_atD (k : Fin 6) (v : Vec F S136 .i32) (i : grid0.Coords) (hb : ∀ a, (k0_off1 i) a + 1 ≤ S136.size a) :
    v (fun a => ⟨k0_off1 i a, hb a⟩) = wd v (i 0).val := by
  rw [wd_coord]
  refine congrArg v (funext fun a => Fin.ext ?_)
  obtain rfl : a = 0 := Subsingleton.elim _ _
  exact off_val i
theorem atD0 (i : grid0.Coords) : (tab m).atD 0 (k0_off1 i) = wd (V m 0 main_arg1) (i 0).val := by
  have hb : ∀ a, (k0_off1 i) a + 1 ≤ S136.size a := fun a => match a with | ⟨0, _⟩ => k0_off1_inb i 0
  show (if hb : ∀ a, (k0_off1 i) a + 1 ≤ S136.size a then _ else _) = _
  rw [dif_pos hb]
  exact word_atD 0 (V m 0 main_arg1) i hb
theorem atD1 (i : grid0.Coords) : (tab m).atD 1 (k0_off1 i) = wd (V m 0 main_arg2) (i 0).val := by
  have hb : ∀ a, (k0_off1 i) a + 1 ≤ S136.size a := fun a => match a with | ⟨0, _⟩ => k0_off1_inb i 0
  show (if hb : ∀ a, (k0_off1 i) a + 1 ≤ S136.size a then _ else _) = _
  rw [dif_pos hb]
  exact word_atD 1 (V m 0 main_arg2) i hb

/-- A word whose value is a literal's is it. -/
theorem word_eq {w : BitVec 32} {n : ℕ} (hn : n < 2 ^ 32) (e : w.toNat = n) : w = BitVec.ofNat 32 n :=
  BitVec.eq_of_toNat_eq (by rw [e, BitVec.toNat_ofNat, Nat.mod_eq_of_lt hn])

/-- The steps that store nothing in the result's buffer, of a step's two words. -/
abbrev idles (w w' : BitVec 32) : Bool :=
  !(k0_cond2 w == 1#1) && !(k0_cond3 w w' == 1#1) && !(k0_cond4 w w' == 1#1) && !(k0_cond5 w == 1#1)
theorem idles_iff : ∀ (k : Fin 5) (s : Fin 2), idles (BitVec.ofNat 32 k.val) (BitVec.ofNat 32 s.val) = decide (k.val = 0 ∨ k.val = 4) := by decide +kernel

include h

theorem idle4 (t : Fin (cf h).N) : (cf h).idle 4 ((cf h).grid.coords t) = decide ((tb m).kind t.val = 0 ∨ (tb m).kind t.val = 4) := by
  show idles ((tab m).atD 0 (k0_off1 (grid0.coords t))) ((tab m).atD 1 (k0_off1 (grid0.coords t))) = _
  have hk := h.kind_le t.val t.isLt
  have hs := h.slot_le t.val t.isLt
  rw [atD0, atD1, coord, word_eq (n := (tb m).kind t.val) (by omega) rfl, word_eq (w := wd (V m 0 main_arg2) t.val) (n := (tb m).slot t.val) (by omega) rfl]
  exact idles_iff ⟨(tb m).kind t.val, by omega⟩ ⟨(tb m).slot t.val, by omega⟩

/-- A tile's result is written back at its last step. -/
theorem flush4 (t : Fin (cf h).N) : ((cf h).win 4).flush t = true ↔ t.val = 135 ∨ (tb m).tile (t.val + 1) ≠ (tb m).tile t.val := by
  have e (t : Fin grid0.N) : ((cf h).win 4).index t = ![(tb m).tile t.val, 0] :=
    (tr4 m (grid0.coords t)).trans (by rw [coord])
  unfold Window.flush
  rw [show ((cf h).win 4).isOut = true from rfl, Bool.true_and, Bool.or_eq_true, decide_eq_true_iff, decide_eq_true_iff]
  have hN : (cf h).grid.N = 136 := N_0
  have ht : t.val < 136 := t.isLt
  constructor
  · rintro (h1 | ⟨h1, h2⟩)
    · left; omega
    · right
      intro h3
      refine h2 ?_
      rw [e, e]
      exact congrArg (fun a => ![a, 0]) h3
  · rintro (h1 | h1)
    · left; omega
    · by_cases h3 : t.val + 1 = 136
      · left; omega
      · right
        refine ⟨by omega, fun h2 => h1 ?_⟩
        rw [e, e] at h2
        exact congrFun h2 0

/-- The proof data. -/
def dats (_ : Fin 1) (c : Dev nD) : Dat τ (Elt F) Unit ℕ (UR sig nD τ) ℕ (cf h) c where
  A w := V m c (Pipeline.arrRef spec0 w)
  after w t := match w with
    | ⟨0, _⟩ => iblk h c 0 t
    | ⟨1, _⟩ => iblk h c 1 t
    | ⟨2, _⟩ => iblk h c 2 t
    | ⟨3, _⟩ => iblk h c 3 t
    | ⟨4, _⟩ => right m c ((tb m).tile t.val)
  Φ t := iprop((∃ (w1 w3 : Vec F S2x1024x2816 .bf16) (w2 : Vec F S2x2816x1024 .bf16),
      owns (c : Thread nD τ) (Memref.whole cc0_scratch0) fullShare w1 ∗ owns (c : Thread nD τ) (Memref.whole cc0_scratch1) fullShare w3
        ∗ owns (c : Thread nD τ) (Memref.whole cc0_scratch2) fullShare w2 ∗ ⌜Slots (m := m) c w1 w3 w2 t.val⌝)
    ∗ (∃ r, prngReg c r) ∗ Pipeline.ΦT pre0 (tab m) c)
  q _ := fullShare
  owed _ := 0

theorem A_eq (c : Dev nD) (w : Fin (cf h).W) : (dats h 0 c).A w = V m c (Pipeline.arrRef spec0 w) := by dsimp only [dats]
theorem after0 (c : Dev nD) (t : Fin (cf h).N) : (dats h 0 c).after 0 t = iblk h c 0 t := by dsimp only [dats]; rfl
theorem after1 (c : Dev nD) (t : Fin (cf h).N) : (dats h 0 c).after 1 t = iblk h c 1 t := by dsimp only [dats]; rfl
theorem after2 (c : Dev nD) (t : Fin (cf h).N) : (dats h 0 c).after 2 t = iblk h c 2 t := by dsimp only [dats]; rfl
theorem after3 (c : Dev nD) (t : Fin (cf h).N) : (dats h 0 c).after 3 t = iblk h c 3 t := by dsimp only [dats]; rfl
theorem after4 (c : Dev nD) (t : Fin (cf h).N) : (dats h 0 c).after 4 t = right m c ((tb m).tile t.val) := by dsimp only [dats]; rfl

theorem before0 (c : Dev nD) (t : Fin (cf h).N) (d) : (dats h 0 c).before 0 t d = iblk h c 0 t :=
  ((dats h 0 c).before_in_eq_fetched 0 rfl (fun _ => rfl) (fun _ _ _ => rfl) (fun t => by rw [after0]; rfl) t d).trans rfl
theorem before1 (c : Dev nD) (t : Fin (cf h).N) (d) : (dats h 0 c).before 1 t d = iblk h c 1 t :=
  ((dats h 0 c).before_in_eq_fetched 1 rfl (fun _ => rfl) (fun _ _ _ => rfl) (fun t => by rw [after1]; rfl) t d).trans rfl
theorem before2 (c : Dev nD) (t : Fin (cf h).N) (d) : (dats h 0 c).before 2 t d = iblk h c 2 t :=
  ((dats h 0 c).before_in_eq_fetched 2 rfl (fun _ => rfl) (fun _ _ _ => rfl) (fun t => by rw [after2]; rfl) t d).trans rfl
theorem before3 (c : Dev nD) (t : Fin (cf h).N) (d) : (dats h 0 c).before 3 t d = iblk h c 3 t :=
  ((dats h 0 c).before_in_eq_fetched 3 rfl (fun _ => rfl) (fun _ _ _ => rfl) (fun t => by rw [after3]; rfl) t d).trans rfl

/-- A step that does nothing finds its tile's result stored already. -/
theorem fresh_noop : ∀ n < 136, (tb m).kind n = 4 → (cf h).fresh 4 n = false := by
  intro n
  induction n with
  | zero => intro _ hk; rcases h.first with ⟨h1, -⟩ | h1 <;> omega
  | succ n ih =>
    intro hn hk
    obtain ⟨h0, ht⟩ := h.noop n (by omega) hk
    rw [(cf h).fresh_succ 4 n (show n < grid0.N by rw [N_0]; omega)]
    have hf : ((cf h).win 4).flush ⟨n, show n < grid0.N by rw [N_0]; omega⟩ = false := by
      rw [← Bool.not_eq_true, flush4]
      rintro (h1 | h1)
      · dsimp only at h1; omega
      · exact h1 ht
    rw [hf, Bool.false_or]
    by_cases h4 : (tb m).kind n = 4
    · rw [ih (by omega) h4, Bool.and_false]
    · rw [idle4 h, decide_eq_false (by dsimp only; omega), Bool.false_and]

theorem before4 (c : Dev nD) (t : Fin (cf h).N) (hk : (tb m).kind t.val = 4) (d) : (dats h 0 c).before 4 t d = right m c ((tb m).tile t.val) := by
  have carry (t : Fin (cf h).N) (h0 : t.val ≠ 0) (hf : (cf h).fresh 4 t.val = false) : (tb m).tile (t.val - 1) = (tb m).tile t.val := by
    obtain ⟨n, hn⟩ := t
    cases n with
    | zero => exact absurd rfl h0
    | succ n =>
      have ht : n + 1 < 136 := hn
      rw [(cf h).fresh_succ 4 n (show n < grid0.N by rw [N_0]; omega), Bool.or_eq_false_iff, ← Bool.not_eq_true, flush4] at hf
      by_contra hc
      exact hf.1 (.inr fun e => hc e.symm)
  have hf := fresh_noop h t.val t.isLt hk
  have h0 : t.val ≠ 0 := fun h0 => by rcases h.first with ⟨h1, -⟩ | h1 <;> rw [h0] at hk <;> omega
  rw [(dats h 0 c).before_out_traj 4 rfl (fun _ _ => rfl) (fun t h0 _ hf => by rw [after4, after4, carry t h0 hf]) t.val t rfl d, if_neg (by rw [hf]; decide), after4]
  rw [show (⟨t.val - 1, _⟩ : Fin (cf h).N).val = t.val - 1 from rfl, carry t h0 hf]

omit h
/-- The tables the body reads: the kinds, the slots, the slabs. -/
abbrev tA (m : (ℓ : Loc nD τ sig) → Buf (Elt F) ℓ) : Vec F S136 .i32 := V m 0 main_arg1
abbrev tB (m : (ℓ : Loc nD τ sig) → Buf (Elt F) ℓ) : Vec F S136 .i32 := V m 0 main_arg2
abbrev tC (m : (ℓ : Loc nD τ sig) → Buf (Elt F) ℓ) : Vec F S136 .i32 := V m 0 main_arg3
/-- The tables as the body finds them: the three it reads, and the rest. -/
def others (c : Dev nD) : sProp 𝕄 :=
  iprop(((c : Thread nD τ).loc main_arg4 ↦{fullShare.right} tab m 3) ∗ ((c : Thread nD τ).loc main_arg5 ↦{fullShare.right} tab m 4)
    ∗ ((c : Thread nD τ).loc main_arg6 ↦{fullShare.right} tab m 5))
theorem tables (c : Dev nD) : (Pipeline.ΦT pre0 (tab m) c : sProp 𝕄)
    = iprop(owns (c : Thread nD τ) (Memref.whole main_arg1) fullShare.right (tA m) ∗ owns (c : Thread nD τ) (Memref.whole main_arg2) fullShare.right (tB m)
      ∗ owns (c : Thread nD τ) (Memref.whole main_arg3) fullShare.right (tC m) ∗ others (m := m) c) := by
  rw [owns_whole, owns_whole, owns_whole]
  exact bigSep_univ_eq_bigSepL [(0 : Fin 6), (1 : Fin 6), (2 : Fin 6), (3 : Fin 6), (4 : Fin 6), (5 : Fin 6)] (by decide) (by decide) _
include h

/-- A window's buffer at a step. -/
abbrev st (w : Fin (cf h).W) (t : Fin (cf h).N) := ((cf h).win w).stage ((cf h).slots t w)
/-- A step's body. -/
abbrev bodyAt (t : Fin (cf h).N) : Prog (TpuEff nD τ sig (Elt F) Λ₀ .tc) PUnit :=
  defs₀ (F := F) .tc (cf h).body ((cf h).bodyArgs t ((cf h).slots t))

/-- What a step's body works on. -/
abbrev heldAt (c : Dev nD) (t : Fin (cf h).N) (d : Vec F S512x1024 .f32) (w1 w3 : Vec F S2x1024x2816 .bf16) (w2 : Vec F S2x2816x1024 .bf16) : sProp 𝕄 :=
  held c fullShare.right (Memref.whole main_arg1) (Memref.whole main_arg2) (Memref.whole main_arg3) (st h 0 t) (st h 1 t) (st h 2 t) (st h 3 t) (st h 4 t)
    (Memref.whole cc0_scratch0) (Memref.whole cc0_scratch1) (Memref.whole cc0_scratch2) (tA m) (tB m) (tC m)
    (iblk h c 0 t) (iblk h c 1 t) (iblk h c 2 t) (iblk h c 3 t) d w1 w3 w2

/-- A step that keeps the slots' invariant and leaves the result's buffer as `R` says. -/
def Step (c : Dev nD) (t : Fin (cf h).N) (R : Vec F S512x1024 .f32 → Vec F S512x1024 .f32 → Prop) : Prop :=
  ∀ d w1 w3 w2, Slots (m := m) c w1 w3 w2 t.val → ∃ d' w1' w3' w2', Slots (m := m) c w1' w3' w2' (t.val + 1) ∧ R d d' ∧
    ∀ K : PUnit → sProp 𝕄, iprop(heldAt h c t d w1 w3 w2 ∗ (heldAt h c t d' w1' w3' w2' -∗ K ⟨⟩))
      ⊢ wp frame (wpE (defs₀ (F := F)) Variants.none c none) Set.univ (bodyAt h t) K

/-- What the body is called with at a point. -/
def bodyPre (c : Dev nD) (t : Fin (cf h).N) : sProp 𝕄 :=
  iprop((dats h 0 c).Φ t.castSucc ∗ (dats h 0 c).owesAt () t.castSucc
    ∗ (∃ d, owns (c : Thread nD τ) (st h 0 t) fullShare ((dats h 0 c).before 0 t d))
    ∗ (∃ d, owns (c : Thread nD τ) (st h 1 t) fullShare ((dats h 0 c).before 1 t d))
    ∗ (∃ d, owns (c : Thread nD τ) (st h 2 t) fullShare ((dats h 0 c).before 2 t d))
    ∗ (∃ d, owns (c : Thread nD τ) (st h 3 t) fullShare ((dats h 0 c).before 3 t d))
    ∗ (∃ d, owns (c : Thread nD τ) (st h 4 t) fullShare ((dats h 0 c).before 4 t d)))

/-- What it returns, the result's buffer as `Q`. -/
def bodyPost (c : Dev nD) (t : Fin (cf h).N) (Q : sProp 𝕄) : sProp 𝕄 :=
  iprop((dats h 0 c).Φ t.succ ∗ (dats h 0 c).owesAt () t.succ
    ∗ owns (c : Thread nD τ) (st h 0 t) fullShare ((dats h 0 c).after 0 t)
    ∗ owns (c : Thread nD τ) (st h 1 t) fullShare ((dats h 0 c).after 1 t)
    ∗ owns (c : Thread nD τ) (st h 2 t) fullShare ((dats h 0 c).after 2 t)
    ∗ owns (c : Thread nD τ) (st h 3 t) fullShare ((dats h 0 c).after 3 t)
    ∗ Q)

/-- The invariant. -/
def Inv (m : (ℓ : Loc nD τ sig) → Buf (Elt F) ℓ) (c : Dev nD) (n : ℕ) : sProp 𝕄 :=
  iprop((∃ (w1 w3 : Vec F S2x1024x2816 .bf16) (w2 : Vec F S2x2816x1024 .bf16),
      owns (c : Thread nD τ) (Memref.whole cc0_scratch0) fullShare w1 ∗ owns (c : Thread nD τ) (Memref.whole cc0_scratch1) fullShare w3
        ∗ owns (c : Thread nD τ) (Memref.whole cc0_scratch2) fullShare w2 ∗ ⌜Slots (m := m) c w1 w3 w2 n⌝)
    ∗ (∃ r, prngReg c r) ∗ Pipeline.ΦT pre0 (tab m) c)

/-- A step's body from its invariant. -/
theorem step_body (c : Dev nD) (t : Fin (cf h).N) {R : Vec F S512x1024 .f32 → Vec F S512x1024 .f32 → Prop} (hs : Step h c t R) (Q : sProp 𝕄)
    (hQ : ∀ d d', R ((dats h 0 c).before 4 t d) d' → (owns (c : Thread nD τ) (st h 4 t) fullShare d' ⊢ Q)) :
    bodyPre h c t ⊢ wp frame (wpE (defs₀ (F := F)) Variants.none c none) Set.univ (bodyAt h t) (fun _ => bodyPost h c t Q) := by
  unfold bodyPre bodyPost
  simp only [before0, before1, before2, before3]
  rw [show (dats h 0 c).Φ t.castSucc = Inv m c t.val from rfl, show (dats h 0 c).Φ t.succ = Inv m c (t.val + 1) from rfl,
    show (dats h 0 c).owesAt () t.succ = (dats h 0 c).owesAt () t.castSucc from rfl, after0, after1, after2, after3]
  unfold Inv
  rw [tables]
  iintro ⟨⟨⟨%w1, %w3, %w2, W1, W3, W2, %hw⟩, Hp, T1, T2, T3, To⟩, Ho, ⟨%d0, H0⟩, ⟨%d1, H1⟩, ⟨%d2, H2⟩, ⟨%d3, H3⟩, ⟨%d4, H4⟩⟩
  obtain ⟨d', w1', w3', w2', hw', hR, hk⟩ := hs ((dats h 0 c).before 4 t d4) w1 w3 w2 hw
  have hQ := hQ d4 d' hR
  iapply hk
  isplitl [W1 W3 W2 T1 T2 T3 H0 H1 H2 H3 H4]
  · unfold heldAt held
    isplitl [T1]; · iexact T1
    isplitl [T2]; · iexact T2
    isplitl [T3]; · iexact T3
    isplitl [H0]; · iexact H0
    isplitl [H1]; · iexact H1
    isplitl [H2]; · iexact H2
    isplitl [H3]; · iexact H3
    isplitl [H4]; · iexact H4
    isplitl [W1]; · iexact W1
    isplitl [W3]; · iexact W3
    iexact W2
  unfold heldAt held
  iintro ⟨T1, T2, T3, H0, H1, H2, H3, H4, W1, W3, W2⟩
  isplitl [W1 W3 W2 T1 T2 T3 To Hp]
  · isplitl [W1 W3 W2]
    · iexists w1'
      iexists w3'
      iexists w2'
      isplitl [W1]; · iexact W1
      isplitl [W3]; · iexact W3
      isplitl [W2]; · iexact W2
      ipureintro
      exact hw'
    isplitl [Hp]; · iexact Hp
    isplitl [T1]; · iexact T1
    isplitl [T2]; · iexact T2
    isplitl [T3]; · iexact T3
    iexact To
  isplitl [Ho]; · iexact Ho
  isplitl [H0]; · iexact H0
  isplitl [H1]; · iexact H1
  isplitl [H2]; · iexact H2
  isplitl [H3]; · iexact H3
  iapply hQ
  iexact H4

end Cert.ExpertsIdeal.Body

end
-- ==== Proof.ExpertsRun.lean ====
/-
  The experts' steps by kind, the obligation they meet, the run and its frame.
-/
module

public import proofs.«01_k».proof.Proof.ExpertsFrame

@[expose] public section

set_option maxRecDepth 16384

noncomputable section

namespace Cert.ExpertsIdeal.Body

open Cert.ExpertsIdeal Cert.ExpertsIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable {m : (ℓ : Loc nD τ sig) → Buf (Elt F) ℓ} (h : Follows (tb m)) (ρ : Dev nD → PrngReg)

theorem off5 : ∀ (s : Fin 2) (k : Fin 8), k0_off5 (BitVec.ofNat 32 s.val) (BitVec.ofNat 32 k.val) = ![s.val, k.val * 128, 0] := by decide +kernel
theorem off8 : ∀ (s : Fin 2) (k : Fin 8), k0_off8 (BitVec.ofNat 32 s.val) (BitVec.ofNat 32 k.val) = ![s.val, k.val * 352, 0] := by decide +kernel

theorem tA_word (t : Fin grid0.N) {k : ℕ} (hk : (tb m).kind t.val = k) (hl : k < 2 ^ 32) : tA m (ix1 ((grid0.coords t) 0)) = BitVec.ofNat 32 k :=
  (wd_coord (tA m) (grid0.coords t)).symm.trans ((congrArg (wd (tA m)) (coord t)).trans (word_eq hl hk))
theorem tB_word (t : Fin grid0.N) {k : ℕ} (hk : (tb m).slot t.val = k) (hl : k < 2 ^ 32) : tB m (ix1 ((grid0.coords t) 0)) = BitVec.ofNat 32 k :=
  (wd_coord (tB m) (grid0.coords t)).symm.trans ((congrArg (wd (tB m)) (coord t)).trans (word_eq hl hk))
theorem tC_word (t : Fin grid0.N) {k : ℕ} (hk : (tb m).slab t.val = k) (hl : k < 2 ^ 32) : tC m (ix1 ((grid0.coords t) 0)) = BitVec.ofNat 32 k :=
  (wd_coord (tC m) (grid0.coords t)).symm.trans ((congrArg (wd (tC m)) (coord t)).trans (word_eq hl hk))

include h

/-- A step's slot is 0 or 1. -/
theorem tB_two (t : Fin (cf h).N) : tB m (ix1 ((grid0.coords t) 0)) = 0#32 ∨ tB m (ix1 ((grid0.coords t) 0)) = 1#32 := by
  have := h.slot_le t.val t.isLt
  rcases (by omega : (tb m).slot t.val = 0 ∨ (tb m).slot t.val = 1) with e | e
  · exact .inl (tB_word t e (by decide))
  · exact .inr (tB_word t e (by decide))

section Slots
variable (c : Dev nD) (t : Fin (cf h).N) {w1 w3 : Vec F S2x1024x2816 .bf16} {w2 : Vec F S2x2816x1024 .bf16} (hw : Slots (m := m) c w1 w3 w2 t.val)
include hw

/-- The invariant over a step. -/
theorem slots_step {w1' w3' : Vec F S2x1024x2816 .bf16} {w2' : Vec F S2x2816x1024 .bf16}
    (hold : ∀ σ j e, Wt m c w1 w3 w2 σ j e → ¬ ((tb m).load t.val ∧ σ = (tb m).fill t.val ∧ j = (tb m).slab t.val) → Wt m c w1' w3' w2' σ j e)
    (hnew : (tb m).load t.val → Wt m c w1' w3' w2' ((tb m).fill t.val) ((tb m).slab t.val) ((tb m).we t.val)) :
    After (tb m) (Wt m c w1' w3' w2') t.val := by
  obtain ⟨n, hn⟩ := t
  have hn : n < 136 := hn
  cases n with
  | zero => exact after_first h hnew
  | succ n =>
    rcases hw with hw | hw
    · exact absurd hw (Nat.succ_ne_zero n)
    · exact after_step h (by omega) hw (fun σ j e _ _ => hold σ j e) hnew

theorem slots_same (hl : ¬ (tb m).load t.val) : After (tb m) (Wt m c w1 w3 w2) t.val :=
  slots_step h c t hw (fun _ _ _ hw _ => hw) fun hl' => absurd hl' hl

theorem slots_store (hl : (tb m).load t.val) {o5 o8 : Fin 3 → ℕ} (h5 : o5 = ![(tb m).fill t.val, (tb m).slab t.val * 128, 0])
    (h8 : o8 = ![(tb m).fill t.val, (tb m).slab t.val * 352, 0]) :
    After (tb m) (Wt m c (st1 h c t w1 o5) (st3 h c t w3 o5) (st2 h c t w2 o8)) t.val :=
  slots_step h c t hw (fun σ j e hw hn => store_old h c t w1 w3 w2 h5 h8 hw fun hc => hn ⟨hl, hc⟩)
    fun _ => store_new h c t w1 w3 w2 h5 h8 (h.wk_slab t.val t.isLt hl).symm

end Slots

/-- A multiplying step leaves its tile's result. -/
theorem out_right (c : Dev nD) (t : Fin (cf h).N) {w1 w3 : Vec F S2x1024x2816 .bf16} {w2 : Vec F S2x2816x1024 .bf16} (hm : (tb m).mul t.val)
    (ha : After (tb m) (Wt m c w1 w3 w2) t.val) {s : ℕ} (hs : s = (tb m).slot t.val) :
    out (iblk h c 0 t) (slot s w1) (slot s w3) (slot s w2) = right m c ((tb m).tile t.val) := by
  obtain ⟨h7, hB⟩ := (ha (.inr hm)).2 hm
  rw [slot_eq h t.val t.isLt hm, ← hs] at hB
  obtain ⟨e1, e3, e2⟩ := slot_full (by have := h.slot_le t.val t.isLt; omega) hB
  rw [e1, e3, e2, iblk0]
  unfold right
  rw [if_neg (by omega)]

theorem load_step (c : Dev nD) (t : Fin (cf h).N) (hk : (tb m).kind t.val = 0) : Step h c t (fun d d' => d' = d) := by
  intro d w1 w3 w2 hw
  have hs := h.slot_le t.val t.isLt
  have hj := h.slab_le t.val t.isLt
  have eB := tB_word (m := m) t rfl (by omega)
  have eC := tC_word (m := m) t rfl (by omega)
  have hf : (tb m).fill t.val = (tb m).slot t.val := if_pos hk
  refine ⟨d, st1 h c t w1 (k0_off5 (tB m (ix1 ((grid0.coords t) 0))) (tC m (ix1 ((grid0.coords t) 0)))), st3 h c t w3 (k0_off5 (tB m (ix1 ((grid0.coords t) 0))) (tC m (ix1 ((grid0.coords t) 0)))), st2 h c t w2 (k0_off8 (tB m (ix1 ((grid0.coords t) 0))) (tC m (ix1 ((grid0.coords t) 0)))),
    .inr (slots_store h c t hw (.inl hk) ?_ ?_), rfl, fun K => ?_⟩
  · rw [eB, eC, hf]; exact off5 ⟨(tb m).slot t.val, by omega⟩ ⟨(tb m).slab t.val, by omega⟩
  · rw [eB, eC, hf]; exact off8 ⟨(tb m).slot t.val, by omega⟩ ⟨(tb m).slab t.val, by omega⟩
  · unfold bodyAt defs₀; rw [Defs.onTc_tc]
    exact load_kernel c Set.univ (grid0.coords t) fullShare.right _ _ _ _ _ _ _ _ _ _ _ _ _ _ _ _ _ _ _ _ _ _ _ _ _ _ _ _ (tA m) (tB m) (tC m) _ _ _ _ d w1 w3 w2 (tA_word t hk (by decide)) (tB_two h t)
      (by rw [eB, eC]; exact chk1 ⟨(tb m).slot t.val, by omega⟩ ⟨(tb m).slab t.val, by omega⟩) K

theorem idle_step (c : Dev nD) (t : Fin (cf h).N) (hk : (tb m).kind t.val = 4) : Step h c t (fun d d' => d' = d) := by
  intro d w1 w3 w2 hw
  refine ⟨d, w1, w3, w2, .inr (slots_same h c t hw (by unfold Table.load; omega)), rfl, fun K => ?_⟩
  unfold bodyAt defs₀; rw [Defs.onTc_tc]
  exact idle_kernel c Set.univ (grid0.coords t) fullShare.right _ _ _ _ _ _ _ _ _ _ _ _ _ _ _ _ _ _ _ _ _ _ _ _ _ _ _ _ (tA m) (tB m) (tC m) _ _ _ _ d w1 w3 w2 (tA_word t hk (by decide)) (tB_two h t) K

theorem zero_step (c : Dev nD) (t : Fin (cf h).N) (hk : (tb m).kind t.val = 3) : Step h c t (fun _ d' => d' = right m c ((tb m).tile t.val)) := by
  intro d w1 w3 w2 hw
  refine ⟨zero, w1, w3, w2, .inr (slots_same h c t hw (by unfold Table.load; omega)), (if_pos (h.zeros t.val t.isLt hk)).symm, fun K => ?_⟩
  unfold bodyAt defs₀; rw [Defs.onTc_tc]
  exact zero_kernel c Set.univ (grid0.coords t) fullShare.right _ _ _ _ _ _ _ _ _ _ _ _ _ _ _ _ _ _ _ _ _ _ _ _ _ _ _ _ (tA m) (tB m) (tC m) _ _ _ _ d w1 w3 w2 (tA_word t hk (by decide)) (tB_two h t) K

theorem tile_step (c : Dev nD) (t : Fin (cf h).N) (hk : (tb m).kind t.val = 1) : Step h c t (fun _ d' => d' = right m c ((tb m).tile t.val)) := by
  intro d w1 w3 w2 hw
  have ha := slots_same h c t hw (by unfold Table.load; omega)
  have eB : (tB m (ix1 ((grid0.coords t) 0))).toNat = (tb m).slot t.val :=
    congrArg BitVec.toNat ((wd_coord (tB m) (grid0.coords t)).symm.trans (congrArg (wd (tB m)) (coord t)))
  refine ⟨_, w1, w3, w2, .inr ha, out_right h c t (.inl hk) ha eB, fun K => ?_⟩
  unfold bodyAt defs₀; rw [Defs.onTc_tc]
  exact tile_kernel c Set.univ (grid0.coords t) fullShare.right _ _ _ _ _ _ _ _ _ _ _ _ _ _ _ _ _ _ _ _ _ _ _ _ _ _ _ _ (tA m) (tB m) (tC m) _ _ _ _ d w1 w3 w2 (tA_word t hk (by decide)) (tB_two h t) K

theorem both_step (c : Dev nD) (t : Fin (cf h).N) (hk : (tb m).kind t.val = 2) : Step h c t (fun _ d' => d' = right m c ((tb m).tile t.val)) := by
  intro d w1 w3 w2 hw
  have hs := h.slot_le t.val t.isLt
  have hj := h.slab_le t.val t.isLt
  have eC := tC_word (m := m) t rfl (by omega)
  have hf : (tb m).fill t.val = 1 - (tb m).slot t.val := if_neg (by omega)
  rcases (by omega : (tb m).slot t.val = 0 ∨ (tb m).slot t.val = 1) with e | e
  · have ha := slots_store h c t hw (.inr hk) (o5 := k0_off5 1#32 (tC m (ix1 ((grid0.coords t) 0)))) (o8 := k0_off8 1#32 (tC m (ix1 ((grid0.coords t) 0))))
      (by rw [eC, hf, e]; exact off5 1 ⟨(tb m).slab t.val, by omega⟩) (by rw [eC, hf, e]; exact off8 1 ⟨(tb m).slab t.val, by omega⟩)
    refine ⟨_, _, _, _, .inr ha, out_right h c t (.inr hk) ha e.symm, fun K => ?_⟩
    unfold bodyAt defs₀; rw [Defs.onTc_tc]
    exact both0_kernel c Set.univ (grid0.coords t) fullShare.right _ _ _ _ _ _ _ _ _ _ _ _ _ _ _ _ _ _ _ _ _ _ _ _ _ _ _ _ (tA m) (tB m) (tC m) _ _ _ _ d w1 w3 w2 (tA_word t hk (by decide)) (tB_word t e (by decide))
      (by rw [eC]; exact chk3 ⟨(tb m).slab t.val, by omega⟩) K
  · have ha := slots_store h c t hw (.inr hk) (o5 := k0_off5 0#32 (tC m (ix1 ((grid0.coords t) 0)))) (o8 := k0_off8 0#32 (tC m (ix1 ((grid0.coords t) 0))))
      (by rw [eC, hf, e]; exact off5 0 ⟨(tb m).slab t.val, by omega⟩) (by rw [eC, hf, e]; exact off8 0 ⟨(tb m).slab t.val, by omega⟩)
    refine ⟨_, _, _, _, .inr ha, out_right h c t (.inr hk) ha e.symm, fun K => ?_⟩
    unfold bodyAt defs₀; rw [Defs.onTc_tc]
    exact both1_kernel c Set.univ (grid0.coords t) fullShare.right _ _ _ _ _ _ _ _ _ _ _ _ _ _ _ _ _ _ _ _ _ _ _ _ _ _ _ _ (tA m) (tB m) (tC m) _ _ _ _ d w1 w3 w2 (tA_word t hk (by decide)) (tB_word t e (by decide))
      (by rw [eC]; exact chk4 ⟨(tb m).slab t.val, by omega⟩) K

/-- The body obligation. -/
theorem obligation (c : Dev nD) : BodyObligationLoose (dats h 0 c) (defs₀ (F := F)) Variants.none () Set.univ := fun t => by
  rw [bigSep_W0, bigSep_W0]
  have hkl := h.kind_le t.val t.isLt
  have stores (hk : ¬ ((tb m).kind t.val = 0 ∨ (tb m).kind t.val = 4)) (hs : Step h c t (fun _ d' => d' = right m c ((tb m).tile t.val))) :
      bodyPre h c t ⊢ wp frame (wpE (defs₀ (F := F)) Variants.none c none) Set.univ (bodyAt h t)
        (fun _ => bodyPost h c t (owns (c : Thread nD τ) (st h 4 t) fullShare ((dats h 0 c).after 4 t))) :=
    step_body h c t hs _ fun d d' e => by rw [e, after4]
  by_cases hi : (tb m).kind t.val = 0 ∨ (tb m).kind t.val = 4
  · rw [show (cf h).idle (4 : Fin 5) ((cf h).grid.coords t) = true from (idle4 h t).trans (decide_eq_true hi)]
    by_cases hf : ((cf h).win 4).flush t = true
    · have h4 : (tb m).kind t.val = 4 := hi.resolve_left fun h0 => by
        have ht : t.val < 136 := t.isLt
        rcases (flush4 h t).1 hf with h1 | h1
        · exact h.kind_last (by rw [← h1]; exact h0)
        · by_cases h2 : t.val = 135
          · exact h.kind_last (by rw [← h2]; exact h0)
          · exact h1 (h.load_stays t.val (by omega) h0)
      rw [show ((cf h).win (4 : Fin 5)).flush t = true from hf]
      exact triple_restated (step_body h c t (idle_step h c t h4) (owns (c : Thread nD τ) (st h 4 t) fullShare ((dats h 0 c).after 4 t))
        fun d d' e => by rw [e, before4 h c t h4, after4]) rfl .rfl fun _ => .rfl
    · rw [Bool.not_eq_true] at hf
      rw [show ((cf h).win (4 : Fin 5)).flush t = false from hf]
      have hs : Step h c t (fun d d' => d' = d) := by
        rcases hi with h0 | h4
        · exact load_step h c t h0
        · exact idle_step h c t h4
      exact triple_restated (step_body h c t hs iprop(∃ d, owns (c : Thread nD τ) (st h 4 t) fullShare ((dats h 0 c).before 4 t d))
        fun d d' e => by rw [e]; iintro H; iexists d; iexact H) rfl .rfl fun _ => .rfl
  · rw [show (cf h).idle (4 : Fin 5) ((cf h).grid.coords t) = false from (idle4 h t).trans (decide_eq_false hi)]
    have hs : Step h c t (fun _ d' => d' = right m c ((tb m).tile t.val)) := by
      rcases (by omega : (tb m).kind t.val = 1 ∨ (tb m).kind t.val = 2 ∨ (tb m).kind t.val = 3) with h1 | h1 | h1
      · exact tile_step h c t h1
      · exact both_step h c t h1
      · exact zero_step h c t h1
    exact triple_restated (stores hi hs) rfl .rfl fun _ => .rfl

/-- The invariant at the start asks nothing of the weight buffers. -/
theorem start (c : Dev nD) : iprop(Pipeline.ΦA (cf h).spec c ∗ Pipeline.ΦT pre0 (tab m) c) ⊢ (dats h 0 c).Φ 0 := by
  rw [show (dats h 0 c).Φ 0 = Inv m c 0 from rfl, show (cf h).spec = spec0 from rfl]
  unfold Pipeline.ΦA Inv
  rw [scopedRest0_eq]
  iintro ⟨⟨⟨⟨%w1, W1⟩, ⟨%w3, W3⟩, ⟨%w2, W2⟩⟩, Hr⟩, HT⟩
  isplitl [W1 W3 W2]
  · iexists w1, w3, w2
    rw [owns_whole, owns_whole, owns_whole]
    isplitl [W1]; · iexact W1
    isplitl [W3]; · iexact W3
    isplitl [W2]; · iexact W2
    ipureintro
    exact .inl rfl
  isplitl [Hr]; · iexact Hr
  iexact HT

/-- After the last step the weight buffers are forgotten. -/
theorem finish (c : Dev nD) : (dats h 0 c).Φ (Fin.last (cf h).N) ⊢ Pipeline.ΦA (cf h).spec c := by
  rw [show (dats h 0 c).Φ (Fin.last (cf h).N) = Inv m c (Fin.last (cf h).N).val from rfl, show (cf h).spec = spec0 from rfl]
  unfold Pipeline.ΦA Inv
  rw [scopedRest0_eq]
  iintro ⟨⟨%w1, %w3, %w2, W1, W3, W2, -⟩, Hr, -⟩
  isplitl [W1 W3 W2]
  · isplitl [W1]
    · iexists w1; rw [owns_whole]; exact .rfl
    isplitl [W3]
    · iexists w3; rw [owns_whole]; exact .rfl
    iexists w2; rw [owns_whole]; exact .rfl
  iexact Hr

set_option backward.isDefEq.respectTransparency.types false in
/-- The tables at the region's entry. -/
theorem held_tables (c : Dev nD) (k : Fin 6) : V m c (pre0.ref k) = tab m k := by
  rw [Subsingleton.elim c 0]
  fin_cases k <;> rfl

set_option backward.isDefEq.respectTransparency.types false in
set_option maxHeartbeats 800000 in
/-- The run, with every counter at zero at the end. -/
theorem run_main : θ_run defs (onTc (τ := τ) (main (F := F))) (s₀ m ρ)
    (fun r => Pipeline.FramePost (Pipeline.pin pcfgs (ad h)) (dats h) 0 (fun c b => V m c b) r ∧ r.2.sem = fun _ => 0) :=
  Pipeline.θ_run_frameP_track (Q' := _) pcfgs (ad h) (dats h) (0 : Fin 1) launch0 defs₀ Variants.none m ρ main
    (hbody := obligation h) (hshare := fun _ w => by fin_cases w <;> rfl) (howed := fun _ _ => rfl) (V := fun c b => V m c b)
    (hmain := Pipeline.hmainP_region pcfgs 0 defs₀ Variants.none m main (fun c => rfl)) (hA := A_eq h)
    (hpf := held_tables h) (hin := start h) (hout := finish h)

/-- An array no window stages ends as it began. -/
theorem unstaged {r : PUnit × MemSt nD τ sig (Elt F)} (hr : Pipeline.FramePost (Pipeline.pin pcfgs (ad h)) (dats h) 0 (fun c b => V m c b) r) (c : Dev nD) (b : Ref sig .tc)
    (hs : b.isScoped = false) (hw : ∀ w : Fin 5, Pipeline.arrRef spec0 w ≠ b) :
    r.2.mem ((c.tc : Thread nD τ).loc b) = m ((c.tc : Thread nD τ).loc b) :=
  (hr c).2 b (Pipeline.mem_restRefs_of b hs hw)

/-- An array an input window stages ends as it began. -/
theorem staged {r : PUnit × MemSt nD τ sig (Elt F)} (hr : Pipeline.FramePost (Pipeline.pin pcfgs (ad h)) (dats h) 0 (fun c b => V m c b) r) (c : Dev nD) (w : Fin (cf h).W)
    (hw : ((cf h).win w).isOut = false) :
    r.2.mem ((c.tc : Thread nD τ).loc (Pipeline.arrRef spec0 w)) = m ((c.tc : Thread nD τ).loc (Pipeline.arrRef spec0 w)) :=
  ((hr c).1 w).trans (((dats h 0 c).arrAt_in w hw _).trans (A_eq h c w))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r hr => ⟨fun c => ⟨unstaged h hr.1 c main_arg0 (by decide) (by decide), unstaged h hr.1 c main_arg1 (by decide) (by decide),
    unstaged h hr.1 c main_arg2 (by decide) (by decide), unstaged h hr.1 c main_arg3 (by decide) (by decide), unstaged h hr.1 c main_arg4 (by decide) (by decide),
    unstaged h hr.1 c main_arg5 (by decide) (by decide), unstaged h hr.1 c main_arg6 (by decide) (by decide),
    staged h hr.1 c 0 rfl, staged h hr.1 c 1 rfl, staged h hr.1 c 2 rfl, staged h hr.1 c 3 rfl⟩, hr.2⟩) (run_main h ρ)

end Cert.ExpertsIdeal.Body

end
-- ==== Proof.ExpertsPre.lean ====
/-
  What the schedule's precondition says of the tables.
-/
module

public import proofs.«01_k».proof.Proof.Gen.Pre_schedule_follows_routing
public import proofs.«01_k».proof.Proof.ExpertsTables
public import Idealize.ShloMosaic.Lib.ReduceAll

@[expose] public section

set_option maxRecDepth 16384

noncomputable section

namespace Cert.Pre_schedule_follows_routing.Meaning

open Cert.Pre_schedule_follows_routing Cert.Pre_schedule_follows_routing.Gen Idealize.ShloMosaic

instance : Subsingleton S_.Idx := ⟨fun a b => funext fun j => j.elim0⟩

/-- A bit's negation or another: an implication. -/
theorem imp_one {c d : BitVec 1} (h : IntOp.ori (~~~c) d = 1#1) (hc : c = 1#1) : d = 1#1 :=
  (IntOp.ori_eq_one.1 h).resolve_left fun n => IntOp.not_eq_one.1 n hc
theorem imp_two {c c' d : BitVec 1} (h : IntOp.ori (IntOp.ori (~~~c) c') d = 1#1) (hc : c = 1#1) (hc' : ¬ c' = 1#1) : d = 1#1 :=
  (IntOp.ori_eq_one.1 h).resolve_left fun n => hc' (imp_one n hc)
theorem not_not_one {c : BitVec 1} (h : c = 1#1) : ¬ ~~~c = 1#1 := fun n => IntOp.not_eq_one.1 n h
theorem eq_one {x y : BitVec 32} : IntOp.cmpi .eq x y = 1#1 ↔ x.toNat = y.toNat :=
  IntOp.cmpi_eq.trans ⟨congrArg _, BitVec.eq_of_toNat_eq⟩
theorem ne_one {x y : BitVec 32} : IntOp.cmpi .ne x y = 1#1 ↔ x.toNat ≠ y.toNat :=
  IntOp.cmpi_ne.trans (not_congr ⟨congrArg _, BitVec.eq_of_toNat_eq⟩)
theorem select_one {c a b : BitVec 1} : Scalar.select c a b = 1#1 ↔ (c = 1#1 → a = 1#1) ∧ (¬ c = 1#1 → b = 1#1) := by
  revert c a b; decide
/-- A word between zero and a small bound. -/
theorem within {x : BitVec 32} {n : ℕ} (hn : n < 2 ^ 31) (h : IntOp.andi (IntOp.cmpi .sge x 0#32) (IntOp.cmpi .sle x (BitVec.ofNat 32 n)) = 1#1) : x.toNat ≤ n := by
  obtain ⟨h0, h1⟩ := IntOp.andi_eq_one.1 h
  have h0 : (0#32 : BitVec 32).toInt ≤ x.toInt := IntOp.cmpi_sle.1 h0
  have h1 : x.toInt ≤ (BitVec.ofNat 32 n).toInt := IntOp.cmpi_sle.1 h1
  rw [BitVec.toInt_eq_toNat_cond, BitVec.toInt_eq_toNat_cond] at h0 h1
  rw [BitVec.toNat_ofNat] at h0 h1
  have := x.isLt
  have e : n % 2 ^ 32 = n := Nat.mod_eq_of_lt (by omega)
  rw [e] at h1
  split at h1 <;> split at h1 <;> split at h0 <;> omega

section Words
variable (k sl sb we wk tl ow : ℕ → BitVec 32)

/-- A step's marks, as bits. -/
abbrev ld (s : ℕ) : BitVec 1 := IntOp.ori (IntOp.cmpi .eq (k s) 0#32) (IntOp.cmpi .eq (k s) 2#32)
abbrev ml (s : ℕ) : BitVec 1 := IntOp.ori (IntOp.cmpi .eq (k s) 1#32) (IntOp.cmpi .eq (k s) 2#32)
abbrev lv (s : ℕ) : BitVec 1 := IntOp.ori (ld k s) (ml k s)
abbrev fl (s : ℕ) : BitVec 32 := Scalar.select (IntOp.cmpi .eq (k s) 0#32) (sl s) (IntOp.subi 1#32 (sl s))
abbrev same (s : ℕ) : BitVec 1 := IntOp.cmpi .eq (fl k sl (1 + s)) (fl k sl (0 + s))
/-- A step is at a tile. -/
abbrev at_ (s y : ℕ) : BitVec 1 := IntOp.cmpi .eq (tl s) (BitVec.ofNat 32 y)

/-- The conditions, as bits of the words. -/
structure Words : Prop where
  ranges : ∀ s : Fin 136, (k s).toNat ≤ 4 ∧ (sl s).toNat ≤ 1 ∧ (sb s).toNat ≤ 7 ∧ (we s).toNat ≤ 7 ∧ (wk s).toNat ≤ 7 ∧ (tl s).toNat ≤ 71
  ends : IntOp.andi (IntOp.andi (IntOp.andi (IntOp.ori (IntOp.andi (IntOp.cmpi .eq (k 0) 0#32) (IntOp.cmpi .eq (sb 0) 0#32)) (IntOp.cmpi .eq (k 0) 3#32)) (IntOp.cmpi .eq (tl 0) 0#32))
    (IntOp.cmpi .eq (tl 135) 71#32)) (IntOp.cmpi .ne (k 135) 0#32) = 1#1
  slabs : ∀ s : Fin 136, IntOp.ori (~~~ ld k s) (IntOp.cmpi .eq (wk s) (sb s)) = 1#1
  order : ∀ s : Fin 135, IntOp.andi (IntOp.andi (IntOp.ori (IntOp.cmpi .eq (tl (1 + s)) (tl (0 + s))) (IntOp.cmpi .eq (tl (1 + s)) (IntOp.addi (tl (0 + s)) 1#32)))
      (IntOp.ori (IntOp.cmpi .ne (k (0 + s)) 0#32) (IntOp.cmpi .eq (tl (1 + s)) (tl (0 + s)))))
    (IntOp.ori (IntOp.cmpi .ne (k (1 + s)) 4#32) (IntOp.andi (IntOp.cmpi .ne (k (0 + s)) 0#32) (IntOp.cmpi .eq (tl (1 + s)) (tl (0 + s))))) = 1#1
  block : ∀ s : Fin 135, IntOp.ori (IntOp.ori (~~~ lv k (1 + s)) (~~~ same k sl s))
    (IntOp.andi (IntOp.andi (IntOp.andi (lv k (0 + s)) (IntOp.ori (~~~ ml k (1 + s)) (ml k (0 + s)))) (IntOp.cmpi .eq (we (1 + s)) (we (0 + s))))
      (Scalar.select (ld k (1 + s)) (IntOp.andi (ld k (0 + s)) (IntOp.cmpi .eq (sb (1 + s)) (IntOp.addi (sb (0 + s)) 1#32))) (IntOp.cmpi .eq (wk (1 + s)) (wk (0 + s))))) = 1#1
  turn : ∀ s : Fin 135, IntOp.ori (IntOp.ori (~~~ lv k (1 + s)) (same k sl s))
    (IntOp.andi (IntOp.andi (IntOp.andi (lv k (0 + s)) (ml k (1 + s))) (IntOp.cmpi .eq (wk (0 + s)) 7#32))
      (Scalar.select (ld k (1 + s)) (IntOp.cmpi .eq (sb (1 + s)) 0#32) (IntOp.cmpi .eq (we (1 + s)) (we (0 + s))))) = 1#1
  zeros : ∀ (s : Fin 136) (y : Fin 72), IntOp.ori (IntOp.ori (~~~ at_ tl s y) (IntOp.cmpi .ne (k s) 3#32)) (IntOp.cmpi .eq (ow y) 8#32) = 1#1
  takes : ∀ (s : Fin 135) (y : Fin 72), IntOp.ori (~~~ IntOp.andi (lv k (1 + s)) (~~~ same k sl s))
    (IntOp.andi (IntOp.ori (~~~ at_ tl (1 + s) (0 + y)) (IntOp.cmpi .eq (ow y) (we (0 + s))))
      (IntOp.ori (IntOp.ori (~~~ at_ tl (0 + s) (0 + y)) (IntOp.cmpi .ne (k (0 + s)) 1#32)) (IntOp.cmpi .ne (ow y) (we (0 + s))))) = 1#1
  keeps : ∀ (s : Fin 135) (y z : Fin 72), IntOp.ori (IntOp.ori (IntOp.ori (~~~ IntOp.andi (ml k (1 + s)) (same k sl s)) (~~~ at_ tl (0 + s) (0 + y))) (~~~ at_ tl (1 + s) (0 + z)))
    (IntOp.cmpi .eq (ow y) (ow z)) = 1#1

set_option maxHeartbeats 1000000 in
theorem words {F : FTy → Type} [FloatOps F] (xs : FVec F S36864x1024 .f32) (w1 w3 : FVec F S8x1024x2816 .f32) (w2 : FVec F S8x2816x1024 .f32)
    (h : fn (F := F) (fun i => ow (i 0).val) (fun i => k (i 0).val) (fun i => sl (i 0).val) (fun i => sb (i 0).val) (fun i => we (i 0).val) (fun i => wk (i 0).val)
      (fun i => tl (i 0).val) xs w1 w3 w2 = fun _ => 1#1) : Words k sl sb we wk tl ow := by
  have e := congrFun h ix0
  dsimp only [fn, fn_part1, fn_part2, fn_part3, fn_part4, fn_part5, fn_part6, fn_part7, fn_part8, fn_part9, fn_part10, fn_part11, fn_part12] at e
  obtain ⟨e, e239⟩ := IntOp.andi_eq_one.1 e
  obtain ⟨e, e215⟩ := IntOp.andi_eq_one.1 e
  obtain ⟨e, e184⟩ := IntOp.andi_eq_one.1 e
  obtain ⟨e, e166⟩ := IntOp.andi_eq_one.1 e
  obtain ⟨e, e145⟩ := IntOp.andi_eq_one.1 e
  obtain ⟨e, e113⟩ := IntOp.andi_eq_one.1 e
  obtain ⟨e, e83⟩ := IntOp.andi_eq_one.1 e
  obtain ⟨e, e79⟩ := IntOp.andi_eq_one.1 e
  obtain ⟨e, r6⟩ := IntOp.andi_eq_one.1 e
  obtain ⟨e, r5⟩ := IntOp.andi_eq_one.1 e
  obtain ⟨e, r4⟩ := IntOp.andi_eq_one.1 e
  obtain ⟨e, r3⟩ := IntOp.andi_eq_one.1 e
  obtain ⟨r1, r2⟩ := IntOp.andi_eq_one.1 e
  refine ⟨fun s => ⟨within (by decide) (Host.reduce_andi_all _ _ _ _ _ r1 (ix1 s)), within (by decide) (Host.reduce_andi_all _ _ _ _ _ r2 (ix1 s)),
      within (by decide) (Host.reduce_andi_all _ _ _ _ _ r3 (ix1 s)), within (by decide) (Host.reduce_andi_all _ _ _ _ _ r4 (ix1 s)),
      within (by decide) (Host.reduce_andi_all _ _ _ _ _ r5 (ix1 s)), within (by decide) (Host.reduce_andi_all _ _ _ _ _ r6 (ix1 s))⟩, e79,
    fun s => Host.reduce_andi_all _ _ _ _ _ e83 (ix1 s), fun s => Host.reduce_andi_all _ _ _ _ _ e113 (ix1 s), fun s => Host.reduce_andi_all _ _ _ _ _ e145 (ix1 s),
    fun s => Host.reduce_andi_all _ _ _ _ _ e166 (ix1 s), fun s y => Host.reduce_andi_all _ _ _ _ _ e184 (ix2 s y), fun s y => Host.reduce_andi_all _ _ _ _ _ e215 (ix2 s y),
    fun s y z => Host.reduce_andi_all _ _ _ _ _ e239 (ix3 s y z)⟩

end Words

open Cert.ExpertsIdeal Cert.ExpertsIdeal.Gen Cert.ExpertsIdeal.Body Cert.Sched Idealize.SL.Sem

section Table
variable {k sl sb we wk tl ow : ℕ → BitVec 32}

/-- The table of words. -/
abbrev table (k sl sb we wk tl ow : ℕ → BitVec 32) : Sched.Table where
  kind s := (k s).toNat
  slot s := (sl s).toNat
  slab s := (sb s).toNat
  we s := (we s).toNat
  wk s := (wk s).toNat
  tile s := (tl s).toNat
  owner y := (ow y).toNat

theorem ld_one {s : ℕ} : ld k s = 1#1 ↔ (table k sl sb we wk tl ow).load s := IntOp.ori_eq_one.trans (or_congr eq_one eq_one)
theorem ml_one {s : ℕ} : ml k s = 1#1 ↔ (table k sl sb we wk tl ow).mul s := IntOp.ori_eq_one.trans (or_congr eq_one eq_one)
theorem lv_one {s : ℕ} : lv k s = 1#1 ↔ (table k sl sb we wk tl ow).live s := IntOp.ori_eq_one.trans (or_congr ld_one ml_one)

theorem fl_nat {s : ℕ} (hs : (sl s).toNat ≤ 1) : (fl k sl s).toNat = (table k sl sb we wk tl ow).fill s := by
  have e1 : (IntOp.subi 1#32 (sl s)).toNat = 1 - (sl s).toNat := by unfold IntOp.subi; bv_omega
  by_cases h : (k s).toNat = 0
  · rw [show (table k sl sb we wk tl ow).fill s = (sl s).toNat from if_pos h, show fl k sl s = sl s from if_pos (eq_one.2 h)]
  · rw [show (table k sl sb we wk tl ow).fill s = 1 - (sl s).toNat from if_neg h, show fl k sl s = IntOp.subi 1#32 (sl s) from if_neg fun c => h (eq_one.1 c), e1]

theorem next {x y : BitVec 32} (hy : y.toNat ≤ 71) : IntOp.cmpi .eq x (IntOp.addi y 1#32) = 1#1 ↔ x.toNat = y.toNat + 1 := by
  rw [eq_one, show (IntOp.addi y 1#32).toNat = y.toNat + 1 by unfold IntOp.addi; bv_omega]

/-- The conditions of the words are those of the table. -/
theorem table_follows (h : Words k sl sb we wk tl ow) : Follows (table k sl sb we wk tl ow) := by
  have r (s : ℕ) (hs : s < 136) := h.ranges ⟨s, hs⟩
  have sm (s : ℕ) (hs : s < 135) : same k sl s = 1#1 ↔ (table k sl sb we wk tl ow).fill (s + 1) = (table k sl sb we wk tl ow).fill s := by
    rw [show same k sl s = IntOp.cmpi .eq (fl k sl (1 + s)) (fl k sl (0 + s)) from rfl, eq_one, Nat.zero_add, Nat.add_comm 1 s,
      fl_nat (r _ (by omega)).2.1, fl_nat (r _ (by omega)).2.1]
  obtain ⟨e, e5⟩ := IntOp.andi_eq_one.1 h.ends
  obtain ⟨e, e4⟩ := IntOp.andi_eq_one.1 e
  obtain ⟨e1, e3⟩ := IntOp.andi_eq_one.1 e
  have at1 (s y : ℕ) (hy : y < 72) : at_ tl s y = 1#1 ↔ (tl s).toNat = y := by
    rw [eq_one, BitVec.toNat_ofNat, Nat.mod_eq_of_lt (by omega)]
  refine ⟨fun s hs => (r s hs).1, fun s hs => (r s hs).2.1, fun s hs => (r s hs).2.2.1, fun s hs => (r s hs).2.2.2.1, fun s hs => (r s hs).2.2.2.2.1,
    fun s hs => (r s hs).2.2.2.2.2, ?_, eq_one.1 e3, eq_one.1 e4, ne_one.1 e5, ?_, ?_, ?_, ?_, ?_, ?_, ?_, ?_, ?_⟩
  · exact (IntOp.ori_eq_one.1 e1).imp (fun c => ⟨eq_one.1 (IntOp.andi_eq_one.1 c).1, eq_one.1 (IntOp.andi_eq_one.1 c).2⟩) eq_one.1
  · intro s hs hl
    exact eq_one.1 (imp_one (h.slabs ⟨s, hs⟩) (ld_one.2 hl))
  · intro s hs
    have e := h.order ⟨s, hs⟩
    simp only [Nat.zero_add, Nat.add_comm 1] at e
    exact (IntOp.ori_eq_one.1 (IntOp.andi_eq_one.1 (IntOp.andi_eq_one.1 e).1).1).imp eq_one.1 (next (r s (by omega)).2.2.2.2.2).1
  · intro s hs h0
    have e := h.order ⟨s, hs⟩
    simp only [Nat.zero_add, Nat.add_comm 1] at e
    exact eq_one.1 ((IntOp.ori_eq_one.1 (IntOp.andi_eq_one.1 (IntOp.andi_eq_one.1 e).1).2).resolve_left fun c => ne_one.1 c h0)
  · intro s hs h4
    have e := h.order ⟨s, hs⟩
    simp only [Nat.zero_add, Nat.add_comm 1] at e
    obtain ⟨a, b⟩ := IntOp.andi_eq_one.1 ((IntOp.ori_eq_one.1 (IntOp.andi_eq_one.1 e).2).resolve_left fun c => ne_one.1 c h4)
    exact ⟨ne_one.1 a, eq_one.1 b⟩
  · intro s hs hl hf
    have e := imp_two (h.block ⟨s, hs⟩) (lv_one.2 (by rwa [Nat.add_comm 1])) (not_not_one ((sm s hs).2 hf))
    simp only [Nat.zero_add, Nat.add_comm 1] at e
    obtain ⟨e, c⟩ := IntOp.andi_eq_one.1 e
    obtain ⟨e, w⟩ := IntOp.andi_eq_one.1 e
    obtain ⟨a, b⟩ := IntOp.andi_eq_one.1 e
    obtain ⟨c1, c2⟩ := select_one.1 c
    exact ⟨lv_one.1 a, fun q => ml_one.1 (imp_one b (ml_one.2 q)), eq_one.1 w,
      fun q => ⟨ld_one.1 (IntOp.andi_eq_one.1 (c1 (ld_one.2 q))).1, (next ((r s (by omega)).2.2.1.trans (by decide))).1 (IntOp.andi_eq_one.1 (c1 (ld_one.2 q))).2⟩,
      fun q => eq_one.1 (c2 fun n => q (ld_one.1 n))⟩
  · intro s hs hl hf
    have e := imp_two (h.turn ⟨s, hs⟩) (lv_one.2 (by rwa [Nat.add_comm 1])) (fun n => hf ((sm s hs).1 n))
    simp only [Nat.zero_add, Nat.add_comm 1] at e
    obtain ⟨e, c⟩ := IntOp.andi_eq_one.1 e
    obtain ⟨e, w⟩ := IntOp.andi_eq_one.1 e
    obtain ⟨a, b⟩ := IntOp.andi_eq_one.1 e
    obtain ⟨c1, c2⟩ := select_one.1 c
    exact ⟨lv_one.1 a, ml_one.1 b, eq_one.1 w, fun q => eq_one.1 (c1 (ld_one.2 q)), fun q => eq_one.1 (c2 fun n => q (ld_one.1 n))⟩
  · intro s hs h3
    have ht : (tl s).toNat < 72 := Nat.lt_succ_of_le (r s hs).2.2.2.2.2
    have e := h.zeros ⟨s, hs⟩ ⟨_, ht⟩
    exact eq_one.1 ((IntOp.ori_eq_one.1 e).resolve_left fun n => ne_one.1 (imp_one n ((at1 s _ ht).2 rfl)) h3)
  · intro s hs hl hf
    have t0 : (tl s).toNat < 72 := Nat.lt_succ_of_le (r s (by omega)).2.2.2.2.2
    have t1 : (tl (s + 1)).toNat < 72 := Nat.lt_succ_of_le (r (s + 1) (by omega)).2.2.2.2.2
    have e (y : Fin 72) := imp_one (h.takes ⟨s, hs⟩ y) (IntOp.andi_eq_one.2 ⟨lv_one.2 (by rwa [Nat.add_comm 1]), IntOp.not_eq_one.2 fun n => hf ((sm s hs).1 n)⟩)
    simp only [Nat.zero_add, Nat.add_comm 1] at e
    refine ⟨eq_one.1 (imp_one (IntOp.andi_eq_one.1 (e ⟨_, t1⟩)).1 ((at1 _ _ t1).2 rfl)), fun h1 => ?_⟩
    exact ne_one.1 ((IntOp.ori_eq_one.1 (IntOp.andi_eq_one.1 (e ⟨_, t0⟩)).2).resolve_left fun n => ne_one.1 (imp_one n ((at1 _ _ t0).2 rfl)) h1)
  · intro s hs hl hf
    have t0 : (tl s).toNat < 72 := Nat.lt_succ_of_le (r s (by omega)).2.2.2.2.2
    have t1 : (tl (s + 1)).toNat < 72 := Nat.lt_succ_of_le (r (s + 1) (by omega)).2.2.2.2.2
    have e := h.keeps ⟨s, hs⟩ ⟨_, t0⟩ ⟨_, t1⟩
    have m1 : IntOp.andi (ml k (1 + s)) (same k sl s) = 1#1 := IntOp.andi_eq_one.2 ⟨ml_one.2 (by rwa [Nat.add_comm 1]), (sm s hs).2 hf⟩
    simp only [Nat.zero_add] at e
    refine (eq_one.1 ((IntOp.ori_eq_one.1 e).resolve_left fun n => ?_)).symm
    rcases IntOp.ori_eq_one.1 n with n | n
    · exact IntOp.not_eq_one.1 (imp_one n m1) ((at1 _ _ t0).2 rfl)
    · rw [Nat.add_comm 1] at n
      exact IntOp.not_eq_one.1 n ((at1 _ _ t1).2 rfl)
end Table

/-- Where the precondition holds of a memory's arguments, its tables follow the routing. -/
theorem follows {F : FTy → Type} [FloatOps F] (m : (ℓ : Loc nD τ sig) → Buf (Elt F) ℓ)
    (h : fn (F := F) (V m 0 main_arg0) (V m 0 main_arg1) (V m 0 main_arg2) (V m 0 main_arg3) (V m 0 main_arg4) (V m 0 main_arg5) (V m 0 main_arg6) (V m 0 main_arg7)
      (V m 0 main_arg8) (V m 0 main_arg9) (V m 0 main_arg10) = fun _ => 1#1) : Follows (tb m) := by
  have e (v : Vec F S136 .i32) : v = fun i => wd v (i 0).val :=
    funext fun i => congrArg v (funext fun a => by obtain rfl : a = 0 := Subsingleton.elim _ _; exact Fin.ext (Nat.mod_eq_of_lt (i 0).isLt).symm)
  have eo (v : Vec F S72 .i32) : v = fun i => v (ix1 ⟨(i 0).val % 72, Nat.mod_lt _ (by decide)⟩) :=
    funext fun i => congrArg v (funext fun a => by obtain rfl : a = 0 := Subsingleton.elim _ _; exact Fin.ext (Nat.mod_eq_of_lt (i 0).isLt).symm)
  refine table_follows (k := wd (V m 0 main_arg1)) (sl := wd (V m 0 main_arg2)) (sb := wd (V m 0 main_arg3)) (we := wd (V m 0 main_arg4)) (wk := wd (V m 0 main_arg5))
    (tl := wd (V m 0 main_arg6)) (ow := fun y => (show Vec F S72 .i32 from V m 0 main_arg0) (ix1 ⟨y % 72, Nat.mod_lt _ (by decide)⟩))
    (words _ _ _ _ _ _ _ (V m 0 main_arg7) (V m 0 main_arg8) (V m 0 main_arg9) (V m 0 main_arg10) ?_)
  rw [e (V m 0 main_arg1), e (V m 0 main_arg2), e (V m 0 main_arg3), e (V m 0 main_arg4), e (V m 0 main_arg5), e (V m 0 main_arg6), eo (V m 0 main_arg0)] at h
  exact h

end Cert.Pre_schedule_follows_routing.Meaning

end
-- ==== Proof.ExpertsBits.lean ====
/-
  The experts in the machine's own arithmetic: their program is the idealized one's, so its frame is too.
-/
module

public import proofs.«01_k».proof.Proof.ExpertsRun
public import proofs.«01_k».proof.Proof.ExpertsPre
public import proofs.«01_k».proof.Proof.Gen.Experts
public import proofs.«01_k».proof.Defs

@[expose] public section

set_option maxRecDepth 65536
set_option backward.isDefEq.respectTransparency.types false
set_option backward.isDefEq.respectTransparency false

noncomputable section

namespace Cert.Experts.Body

open Idealize.ShloMosaic Idealize.SL.Sem

/-- The two programs' body tables. -/
theorem bodies_eq : Cert.Experts.defs₀ (F := Bits) = Cert.ExpertsIdeal.defs₀ (F := Bits) := by
  funext c n
  cases c with
  | tc =>
    obtain ⟨_ | n, h⟩ := n
    · funext x
      obtain ⟨t, s⟩ := x
      rfl
    · exact absurd h (by omega)
  | _ => rfl

/-- The two programs' tables. -/
theorem defs_eq : Cert.Experts.defs (F := Bits) = Cert.ExpertsIdeal.defs (F := Bits) :=
  congrArg (Pipeline.defs (Cert.ExpertsIdeal.pcfgs (F := Bits))) bodies_eq

/-- The two programs. -/
theorem main_eq : Cert.Experts.main (F := Bits) = Cert.ExpertsIdeal.main (F := Bits) := rfl

/-- The frame. -/
theorem frame : Cert.quiescent_Experts (hExperts := Cert.Experts.Gen.facts) (hPre_schedule_follows_routing := Cert.Pre_schedule_follows_routing.Gen.facts) := fun m g hp => by
  rw [defs_eq, main_eq]
  exact Cert.ExpertsIdeal.Body.frame (F := Bits) (Cert.Pre_schedule_follows_routing.Meaning.follows (F := Bits) m (hp 0)) g

end Cert.Experts.Body

end
-- ==== Proof.ExpertsValue.lean ====
/-
  The experts: the result array of the kernel, from its argument arrays.
-/
module

public import proofs.«01_k».proof.Proof.DenseValue
public import proofs.«01_k».proof.Proof.ExpertsRun

@[expose] public section

set_option maxRecDepth 16384

noncomputable section

namespace Cert.Sched

variable {T : Table} (h : Follows T)
include h

/-- A tile's owner is an expert or none. -/
theorem owner_le (y : ℕ) (hy : y ≤ 71) : T.owner y ≤ 8 := by
  have ha : ∀ s, s < 136 → After T (fun _ _ _ => True) s := by
    intro s
    induction s with
    | zero => exact fun _ => after_first h fun _ => trivial
    | succ s ih => exact fun hs => after_step h (by omega) (ih (by omega)) (fun _ _ _ _ _ _ _ => trivial) fun _ => trivial
  have key : ∀ s, s < 136 → T.kind s ≠ 0 → T.owner (T.tile s) ≤ 8 := by
    intro s
    induction s with
    | zero =>
      intro _ hk
      rw [h.zeros 0 (by decide) ((or_iff_right fun c => hk c.1).1 h.first)]
    | succ s ih =>
      intro hs hk
      have hle := h.kind_le (s + 1) hs
      rcases (by omega : T.kind (s + 1) = 1 ∨ T.kind (s + 1) = 2 ∨ T.kind (s + 1) = 3 ∨ T.kind (s + 1) = 4) with e | e | e | e
      · exact ((ha _ hs (.inr (.inl e))).2 (.inl e)).1.trans (by decide)
      · exact ((ha _ hs (.inr (.inr e))).2 (.inr e)).1.trans (by decide)
      · rw [h.zeros _ hs e]
      · obtain ⟨a, b⟩ := h.noop s (by omega) e
        rw [b]
        exact ih (by omega) a
  obtain ⟨s, hs, e, hl⟩ := tile_hit h y hy
  rw [← e]
  refine key s hs fun h0 => ?_
  rcases hl with hl | hl
  · exact h.kind_last (hl ▸ h0)
  · by_cases h1 : s = 135
    · exact h.kind_last (h1 ▸ h0)
    · exact hl ((h.load_stays s (by omega) h0).trans e)

end Cert.Sched

namespace Cert.ExpertsIdeal.RefValue

open Cert.ExpertsIdeal Cert.ExpertsIdeal.Gen Cert.ExpertsIdeal.Body Cert.Sched Idealize.ShloMosaic Idealize.ShloMosaic.TcCoe Idealize.SL.Sem
open Cert.KernelIdeal.RefValue (Sh idx_of)
open Cert.DenseFfnIdeal.RefValue (hidE termE acc_all)

/-- An expert's feed-forward of a row, at row `R` and lane `C`. -/
def expE (xs : (Sh 36864 1024).Idx → EReal) (w1 w3 : S8x1024x2816.Idx → EReal) (w2 : S8x2816x1024.Idx → EReal) (e : Fin 8) (R : Fin 36864) (C : Fin 1024) : EReal :=
  ∑ j : Fin 2816, hidE (fun k => xs (ix2 R k)) (fun k => w1 (ix3 e k j)) (fun k => w3 (ix3 e k j)) * w2 (ix3 e j C)

/-- The result's entry: the owner's feed-forward of the row, or zero where its tile has none. -/
def resE (ow : S72.Idx → BitVec 32) (xs : (Sh 36864 1024).Idx → EReal) (w1 w3 : S8x1024x2816.Idx → EReal) (w2 : S8x2816x1024.Idx → EReal)
    (R : Fin 36864) (C : Fin 1024) : EReal :=
  if h : (ow (ix1 (⟨R.val / 512, by omega⟩ : Fin 72))).toNat < 8 then expE xs w1 w3 w2 ⟨_, h⟩ R C else 0

/-- The chunks' sum is the dense feed-forward's. -/
theorem acc_eq (h : FVec Ideal S512x1024 .bf16) (w1 w3 : Vec Ideal S1024x2816 .bf16) (w2 : Vec Ideal S2816x1024 .bf16) (n : ℕ) (hn : n < 11) :
    acc h w1 w3 w2 n hn = Cert.DenseFfnIdeal.Body.acc h w1 w3 w2 n hn := by
  induction n with
  | zero => rfl
  | succ n ih => exact congrArg₂ addf (ih _) rfl

/-- A multiplying step's tile, at a place. -/
theorem out_at (x0 : Vec Ideal S512x1024 .f32) (w1 w3 : Vec Ideal S1024x2816 .bf16) (w2 : Vec Ideal S2816x1024 .bf16) (r : Fin 512) (c : Fin 1024) :
    out x0 w1 w3 w2 (ix2 r c) = ∑ j : Fin 2816, hidE (fun k => x0 (ix2 r k)) (fun k => w1 (ix2 k j)) (fun k => w3 (ix2 k j)) * w2 (ix2 j c) := by
  unfold out
  rw [View.canon_cons_unit_lit _ _ _ (by decide)]
  unfold tile
  rw [show View.ld x0 rO = x0 from View.ld_unit_lit _ _ (by decide), acc_eq]
  exact acc_all (truncf .bf16 x0 bitsLt_bf16_f32) w1 w3 w2 r c

/-- A zeroing step's. -/
theorem zero_at (r : Fin 512) (c : Fin 1024) : (zero : Vec Ideal S512x1024 .f32) (ix2 r c) = 0 := by
  unfold zero
  rw [View.canon_cons_unit_lit _ _ _ (by decide)]
  pointwise [k0_pay4]

variable {m : (ℓ : Loc nD τ sig) → Buf (Elt Ideal) ℓ} (h : Follows (tb m)) (c : Dev nD)
include h

/-- A tile's result, at a place. -/
theorem right_at (y : ℕ) (hy : y ≤ 71) (r : Fin 512) (q : Fin 1024) : right m c y (ix2 r q)
    = resE (m ((c : Thread nD τ).loc main_arg0)) (m ((c : Thread nD τ).loc main_arg7)) (m ((c : Thread nD τ).loc main_arg8)) (m ((c : Thread nD τ).loc main_arg9))
        (m ((c : Thread nD τ).loc main_arg10)) (⟨y * 512 + r.val, by omega⟩ : Fin 36864) q := by
  have ho := owner_le h y hy
  rw [Subsingleton.elim c 0]
  have eo : (tb m).owner y = ((m (((0 : Dev nD) : Thread nD τ).loc main_arg0) : S72.Idx → BitVec 32) (ix1 (⟨(y * 512 + r.val) / 512, by omega⟩ : Fin 72))).toNat :=
    congrArg (fun a => ((m (((0 : Dev nD) : Thread nD τ).loc main_arg0) : S72.Idx → BitVec 32) (ix1 a)).toNat)
      (Fin.ext (by show y % 72 = (y * 512 + r.val) / 512; omega))
  unfold right resE
  by_cases h8 : (tb m).owner y = 8
  · rw [if_pos h8, dif_neg (by rw [← eo]; omega)]
    exact zero_at r q
  · rw [if_neg h8, dif_pos (by rw [← eo]; omega)]
    refine (out_at _ _ _ _ r q).trans ?_
    unfold expE
    have ee : (⟨(tb m).owner y % 8, Nat.mod_lt _ (by decide)⟩ : Fin 8) = ⟨((m (((0 : Dev nD) : Thread nD τ).loc main_arg0) : S72.Idx → BitVec 32) (ix1 (⟨(y * 512 + r.val) / 512, by omega⟩ : Fin 72))).toNat, by rw [← eo]; omega⟩ := Fin.ext ((Nat.mod_eq_of_lt (by omega)).trans eo)
    have ex : (⟨(y * 512 + r.val) % 36864, Nat.mod_lt _ (by decide)⟩ : Fin 36864) = ⟨y * 512 + r.val, by omega⟩ := Fin.ext (Nat.mod_eq_of_lt (by omega))
    rw [← ee, ← ex]
    rfl

/-- A block's place in the result. -/
theorem emb4 (t : Fin (cf h).N) (r : Fin 512) (q : Fin 1024) (ht : (tb m).tile t.val ≤ 71) :
    (((cf h).win 4).blk t).view.emb (ix2 r q) = (ix2 (⟨(tb m).tile t.val * 512 + r.val, by omega⟩ : Fin 36864) q : (Sh 36864 1024).Idx) := by
  have e : cc0_transform_4 (F := Ideal) k0_off1_inb numel1_S1 (tab m) (grid0.coords t) = ![(tb m).tile t.val, 0] := (tr4 m (grid0.coords t)).trans (by rw [coord])
  refine funext fun a => Fin.ext ?_
  match a with
  | ⟨0, _⟩ =>
    show cc0_transform_4 (F := Ideal) k0_off1_inb numel1_S1 (tab m) (grid0.coords t) 0 * 512 + 1 * r.val = (tb m).tile t.val * 512 + r.val
    rw [e]
    show (tb m).tile t.val * 512 + 1 * r.val = _
    omega
  | ⟨1, _⟩ =>
    show cc0_transform_4 (F := Ideal) k0_off1_inb numel1_S1 (tab m) (grid0.coords t) 1 * 1024 + 1 * q.val = q.val
    rw [e]
    show 0 * 1024 + 1 * q.val = q.val
    omega

/-- The result array. -/
theorem final : (dats h 0 c).arrAt 4 (cf h).N = fun y : (Sh 36864 1024).Idx =>
    resE (m ((c : Thread nD τ).loc main_arg0)) (m ((c : Thread nD τ).loc main_arg7)) (m ((c : Thread nD τ).loc main_arg8)) (m ((c : Thread nD τ).loc main_arg9))
      (m ((c : Thread nD τ).loc main_arg10)) (y 0) (y 1) := by
  refine (dats h 0 c).arrAt_eq_of_emb 4 _ (fun t hf (y : S512x1024.Idx) => ?_) fun (i : (Sh 36864 1024).Idx) => ?_
  · obtain ⟨r, q, hy⟩ : ∃ (r : Fin 512) (q : Fin 1024), y = ix2 r q := ⟨y 0, y 1, idx_of y _ _ rfl rfl⟩
    subst hy
    have ht := h.tile_le t.val t.isLt
    rw [after4, emb4 h t r q ht]
    exact right_at h c _ ht r q
  · obtain ⟨R, q, hi⟩ : ∃ (R : Fin 36864) (q : Fin 1024), i = ix2 R q := ⟨i 0, i 1, idx_of i _ _ rfl rfl⟩
    subst hi
    obtain ⟨s, hs, e, hl⟩ := tile_hit h (R.val / 512) (by omega)
    have hs : s < (cf h).N := lt_of_lt_of_eq hs N_0.symm
    refine ⟨⟨s, hs⟩, (flush4 h ⟨s, hs⟩).2 (hl.imp id fun n => by rw [e]; exact n), ?_⟩
    have ee := emb4 h ⟨s, hs⟩ ⟨R.val % 512, Nat.mod_lt _ (by decide)⟩ q (h.tile_le s (lt_of_lt_of_eq hs N_0))
    have er : (ix2 (⟨(tb m).tile s * 512 + R.val % 512, by omega⟩ : Fin 36864) q : (Sh 36864 1024).Idx) = ix2 R q :=
      congrArg (fun a => ix2 a q) (Fin.ext (by show (tb m).tile s * 512 + R.val % 512 = R.val; omega))
    exact (ee.trans er) ▸ View.emb_mem_set _ _

/-- The run, with the result array named. -/
theorem run (g : Dev nD → PrngReg) : θ_run defs (onTc (τ := τ) (main (F := Ideal))) ⟨m, fun _ => 0, g⟩ (fun r => ∀ c : Dev nD,
    r.2.mem ((c.tc : Thread nD τ).loc main_v0) = (dats h 0 c).arrAt 4 (cf h).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  (θ_run defs _ _).mono (fun r hr c => ⟨(hr.1 c).1 4, hr.2.1 c⟩)
    (θ_run_and ((θ_run defs _ _).mono (fun _ h => h.1) (run_main h g)) (frame h g))

end Cert.ExpertsIdeal.RefValue

end
-- ==== Proof.ExpertsRef.lean ====
/-
  The experts: the reference's result array, from its argument arrays.
-/
module

public import proofs.«01_k».proof.Proof.ExpertsValue
public import proofs.«01_k».proof.Proof.Gen.ExpertsRefIdeal.Run

@[expose] public section

set_option maxRecDepth 16384

noncomputable section

namespace Cert.ExpertsRefIdeal.RefRead

open Cert.ExpertsRefIdeal Cert.ExpertsRefIdeal.Gen Cert.ExpertsRefIdeal.Value Idealize.ShloMosaic Idealize.ShloMosaic.TcCoe Idealize.SL.Sem
open Cert.KernelIdeal.RefValue (Sh Sv idx_of)
open Cert.DenseFfnIdeal.RefValue (hidE)
open Cert.ExpertsIdeal.RefValue (expE resE)

/-- An expert's weights, of the stacks. -/
def up (w : FVec Ideal S8x1024x2816 .f32) (o : Fin 3 → ℕ) (h : S8x1024x2816.Slices o S1x1024x2816) : FVec Ideal S1024x2816 .f32 :=
  shapeCast S1024x2816 (extractStridedSlice S1x1024x2816 o w h) shapeCasts_S1x1024x2816_S1024x2816
def down (w : FVec Ideal S8x2816x1024 .f32) (o : Fin 3 → ℕ) (h : S8x2816x1024.Slices o S1x2816x1024) : FVec Ideal S2816x1024 .f32 :=
  shapeCast S2816x1024 (extractStridedSlice S1x2816x1024 o w h) shapeCasts_S1x2816x1024_S2816x1024

/-- The hidden lanes. -/
def hidRows (x : FVec Ideal S72x512x1024 .f32) (a b : FVec Ideal S1024x2816 .f32) : FVec Ideal S72x512x2816 .f32 :=
  mulf (mulf (Host.dotGeneral (φ₂ := .f32) dot_S72x512x1024_S1024x2816_S72x512x2816_2_0_01_1_n_n none x a)
      (Host.divf (broadcastInDim S72x512x2816 ![] bcast_S_S72x512x2816 (constant S_ .f32 0x3F800000#32))
        (addf (broadcastInDim S72x512x2816 ![] bcast_S_S72x512x2816 (constant S_ .f32 0x3F800000#32))
          (Host.exp (Host.negf (Host.dotGeneral (φ₂ := .f32) dot_S72x512x1024_S1024x2816_S72x512x2816_2_0_01_1_n_n none x a))))))
    (Host.dotGeneral (φ₂ := .f32) dot_S72x512x1024_S1024x2816_S72x512x2816_2_0_01_1_n_n none x b)
/-- An expert on every tile. -/
def expRows (y : FVec Ideal S72x512x2816 .f32) (c : FVec Ideal S2816x1024 .f32) : FVec Ideal S72x512x1024 .f32 :=
  Host.dotGeneral (φ₂ := .f32) dot_S72x512x2816_S2816x1024_S72x512x1024_2_0_01_1_n_n none y c
/-- An expert's tiles over the others'. -/
def pick (ow : IVec S72 32) (e : BitVec 32) (a b : FVec Ideal S72x512x1024 .f32) : FVec Ideal S72x512x1024 .f32 :=
  select (broadcastInDim S72x512x1024 ![0, 1, 2] bcast_S72x1x1_S72x512x1024_0_1_2 (broadcastInDim S72x1x1 ![0] bcast_S72_S72x1x1_0
    (cmpi .eq ow (broadcastInDim S72 ![] bcast_S_S72 (constantI S_ 32 e))))) a b

theorem up_at (w : FVec Ideal S8x1024x2816 .f32) (e : Fin 8) (h : S8x1024x2816.Slices ![e.val, 0, 0] S1x1024x2816) (k : Fin 1024) (j : Fin 2816) :
    up w ![e.val, 0, 0] h (ix2 k j) = w (ix3 e k j) := by
  pointwise [up]
theorem down_at (w : FVec Ideal S8x2816x1024 .f32) (e : Fin 8) (h : S8x2816x1024.Slices ![e.val, 0, 0] S1x2816x1024) (k : Fin 2816) (j : Fin 1024) :
    down w ![e.val, 0, 0] h (ix2 k j) = w (ix3 e k j) := by
  pointwise [down]
theorem hidRows_at (x : FVec Ideal S72x512x1024 .f32) (a b : FVec Ideal S1024x2816 .f32) (t : Fin 72) (i : Fin 512) (j : Fin 2816) :
    hidRows x a b (ix3 t i j) = hidE (fun k => x (ix3 t i k)) (fun k => a (ix2 k j)) (fun k => b (ix2 k j)) := by
  pointwise [hidRows, hidE, Ideal.logistic]
theorem expRows_at (y : FVec Ideal S72x512x2816 .f32) (c : FVec Ideal S2816x1024 .f32) (t : Fin 72) (i : Fin 512) (q : Fin 1024) :
    expRows y c (ix3 t i q) = ∑ j : Fin 2816, y (ix3 t i j) * c (ix2 j q) := by
  pointwise [expRows]
theorem pick_at (ow : IVec S72 32) (e : BitVec 32) (a b : FVec Ideal S72x512x1024 .f32) (t : Fin 72) (i : Fin 512) (q : Fin 1024) :
    pick ow e a b (ix3 t i q) = if ow (ix1 t) = e then a (ix3 t i q) else b (ix3 t i q) := by
  have e1 : pick ow e a b (ix3 t i q) = if IntOp.cmpi .eq (ow (ix1 t)) e = 1#1 then a (ix3 t i q) else b (ix3 t i q) := by
    pointwise [pick]
    rfl
  rw [e1]
  simp only [IntOp.cmpi_eq]

theorem tiles_at (xs : FVec Ideal S36864x1024 .f32) (t : Fin 72) (i : Fin 512) (k : Fin 1024) :
    shapeCast S72x512x1024 xs shapeCasts_S36864x1024_S72x512x1024 (ix3 t i k) = xs (ix2 (⟨t.val * 512 + i.val, by omega⟩ : Fin 36864) k) := by
  pointwise []
theorem rows_at (z : FVec Ideal S72x512x1024 .f32) (R : Fin 36864) (C : Fin 1024) :
    shapeCast S36864x1024 z shapeCasts_S72x512x1024_S36864x1024 (ix2 R C)
      = z (ix3 (⟨R.val / 512, by omega⟩ : Fin 72) (⟨R.val % 512, by omega⟩ : Fin 512) C) := by
  pointwise []

section
variable (xs : FVec Ideal S36864x1024 .f32) (w1 w3 : FVec Ideal S8x1024x2816 .f32) (w2 : FVec Ideal S8x2816x1024 .f32)

/-- One expert on every tile, of the stacks. -/
def expOf (o : Fin 3 → ℕ) (h : S8x1024x2816.Slices o S1x1024x2816) (h' : S8x2816x1024.Slices o S1x2816x1024) : FVec Ideal S72x512x1024 .f32 :=
  expRows (hidRows (shapeCast S72x512x1024 xs shapeCasts_S36864x1024_S72x512x1024) (up w1 o h) (up w3 o h)) (down w2 o h')

theorem expOf_at (e : Fin 8) (h : S8x1024x2816.Slices ![e.val, 0, 0] S1x1024x2816) (h' : S8x2816x1024.Slices ![e.val, 0, 0] S1x2816x1024)
    (R : Fin 36864) (C : Fin 1024) :
    expOf xs w1 w3 w2 ![e.val, 0, 0] h h' (ix3 (⟨R.val / 512, by omega⟩ : Fin 72) (⟨R.val % 512, by omega⟩ : Fin 512) C) = expE xs w1 w3 w2 e R C := by
  have hR : (⟨R.val / 512 * 512 + R.val % 512, by omega⟩ : Fin 36864) = R := Fin.ext (by show R.val / 512 * 512 + R.val % 512 = R.val; omega)
  unfold expOf expE
  rw [expRows_at]
  refine Finset.sum_congr rfl fun j _ => ?_
  rw [hidRows_at, down_at]
  simp only [up_at, tiles_at, hR]

end

/-- The last of eight choices by a word is the choice its number names. -/
theorem choice (v : BitVec 32) (f : Fin 8 → EReal) :
    (if v = 7#32 then f 7 else if v = 6#32 then f 6 else if v = 5#32 then f 5 else if v = 4#32 then f 4 else
      if v = 3#32 then f 3 else if v = 2#32 then f 2 else if v = 1#32 then f 1 else if v = 0#32 then f 0 else 0)
      = if h : v.toNat < 8 then f ⟨v.toNat, h⟩ else 0 := by
  by_cases h : v.toNat < 8
  · obtain ⟨n, hn⟩ : ∃ n : Fin 8, v = BitVec.ofNat 32 n.val := ⟨⟨_, h⟩, by simp⟩
    subst hn
    fin_cases n <;> rfl
  · have hk (k : BitVec 32) (hk : k.toNat < 8) : ¬ v = k := fun e => h (e ▸ hk)
    rw [dif_neg h]
    simp only [hk 7#32 (by decide), hk 6#32 (by decide), hk 5#32 (by decide), hk 4#32 (by decide), hk 3#32 (by decide), hk 2#32 (by decide),
      hk 1#32 (by decide), hk 0#32 (by decide), if_false]

/-- The reference's array is the tile's expert's result on each row, and zero where the tile has none. -/
theorem ref_eq (V0 : Valuation τ sig (Elt Ideal)) :
    shapeCast S36864x1024 (res_main_v169 V0) shapeCasts_S72x512x1024_S36864x1024
      = fun y : S36864x1024.Idx => resE (V0 (Proc.devRef .tc main_arg0)) (V0 (Proc.devRef .tc main_arg7)) (V0 (Proc.devRef .tc main_arg8))
          (V0 (Proc.devRef .tc main_arg9)) (V0 (Proc.devRef .tc main_arg10)) (y 0) (y 1) := by
  funext y
  obtain ⟨R, C, hy⟩ : ∃ (R : Fin 36864) (C : Fin 1024), y = ix2 R C := ⟨y 0, y 1, idx_of y _ _ rfl rfl⟩
  subst hy
  rw [rows_at]
  have st (e : BitVec 32) (a b : FVec Ideal S72x512x1024 .f32) {p q : EReal}
      (ha : a (ix3 (⟨R.val / 512, by omega⟩ : Fin 72) (⟨R.val % 512, by omega⟩ : Fin 512) C) = p)
      (hb : b (ix3 (⟨R.val / 512, by omega⟩ : Fin 72) (⟨R.val % 512, by omega⟩ : Fin 512) C) = q) :=
    (pick_at (V0 (Proc.devRef .tc main_arg0)) e a b (⟨R.val / 512, by omega⟩ : Fin 72) (⟨R.val % 512, by omega⟩ : Fin 512) C).trans
      (if_congr Iff.rfl ha hb)
  have ex (e : Fin 8) (h : S8x1024x2816.Slices ![e.val, 0, 0] S1x1024x2816) (h' : S8x2816x1024.Slices ![e.val, 0, 0] S1x2816x1024) :=
    expOf_at (V0 (Proc.devRef .tc main_arg7)) (V0 (Proc.devRef .tc main_arg8)) (V0 (Proc.devRef .tc main_arg9)) (V0 (Proc.devRef .tc main_arg10)) e h h' R C
  have hz : broadcastInDim S72x512x1024 ![] bcast_S_S72x512x1024 (constant (F := Ideal) S_ .f32 0x00000000#32)
      (ix3 (⟨R.val / 512, by omega⟩ : Fin 72) (⟨R.val % 512, by omega⟩ : Fin 512) C) = (0 : EReal) := by
    pointwise []
  refine Eq.trans ?_ (choice (V0 (Proc.devRef .tc main_arg0) (ix1 (⟨R.val / 512, by omega⟩ : Fin 72)))
    (fun e => expE (V0 (Proc.devRef .tc main_arg7)) (V0 (Proc.devRef .tc main_arg8)) (V0 (Proc.devRef .tc main_arg9)) (V0 (Proc.devRef .tc main_arg10)) e R C))
  unfold res_main_v169 res_main_v85 res_main_v4 res_main_v25 res_main_v46 res_main_v67 res_main_v88 res_main_v109 res_main_v130 res_main_v151 res_main_v0
  exact st 7#32 _ _ (ex 7 slices_S8x1024x2816_S1x1024x2816_7_0_0 slices_S8x2816x1024_S1x2816x1024_7_0_0)
    (st 6#32 _ _ (ex 6 slices_S8x1024x2816_S1x1024x2816_6_0_0 slices_S8x2816x1024_S1x2816x1024_6_0_0)
    (st 5#32 _ _ (ex 5 slices_S8x1024x2816_S1x1024x2816_5_0_0 slices_S8x2816x1024_S1x2816x1024_5_0_0)
    (st 4#32 _ _ (ex 4 slices_S8x1024x2816_S1x1024x2816_4_0_0 slices_S8x2816x1024_S1x2816x1024_4_0_0)
    (st 3#32 _ _ (ex 3 slices_S8x1024x2816_S1x1024x2816_3_0_0 slices_S8x2816x1024_S1x2816x1024_3_0_0)
    (st 2#32 _ _ (ex 2 slices_S8x1024x2816_S1x1024x2816_2_0_0 slices_S8x2816x1024_S1x2816x1024_2_0_0)
    (st 1#32 _ _ (ex 1 slices_S8x1024x2816_S1x1024x2816_1_0_0 slices_S8x2816x1024_S1x2816x1024_1_0_0)
    (st 0#32 _ _ (ex 0 slices_S8x1024x2816_S1x1024x2816_0_0_0 slices_S8x2816x1024_S1x2816x1024_0_0_0) hz)))))))

end Cert.ExpertsRefIdeal.RefRead

end
-- ==== Proof.lean ====
/-
  The certificate's claim: frames, the named constant, and the equation of the kernel's result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.DenseFfn
public import proofs.«01_k».proof.Proof.Gen.DenseFfn.Skeleton
public import proofs.«01_k».proof.Proof.Gen.DenseFfn.Launch
public import proofs.«01_k».proof.Proof.Gen.DenseFfn.Points
public import proofs.«01_k».proof.Proof.Gen.DenseFfn.Frame
public import proofs.«01_k».proof.Proof.Gen.DenseFfnIdeal
public import proofs.«01_k».proof.Proof.Gen.DenseFfnIdeal.Skeleton
public import proofs.«01_k».proof.Proof.Gen.DenseFfnIdeal.Launch
public import proofs.«01_k».proof.Proof.Gen.DenseFfnIdeal.Points
public import proofs.«01_k».proof.Proof.Gen.DenseFfnIdeal.Frame
public import proofs.«01_k».proof.Proof.Gen.DenseFfnRefIdeal
public import proofs.«01_k».proof.Proof.Gen.DenseFfnRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_schedule_follows_routing
public import proofs.«01_k».proof.Proof.Final
public import proofs.«01_k».proof.Proof.RefFinal
public import proofs.«01_k».proof.Proof.Pre
public import proofs.«01_k».proof.Proof.MergeRef
public import proofs.«01_k».proof.Proof.InProjBits
public import proofs.«01_k».proof.Proof.InProjRef
public import proofs.«01_k».proof.Proof.DenseBits
public import proofs.«01_k».proof.Proof.DenseRef
public import Idealize.ShloMosaic.Adequacy
public import Idealize.ShloMosaic.Init
public import proofs.«01_k».proof.Proof.ExpertsBits
public import proofs.«01_k».proof.Proof.ExpertsValue
public import proofs.«01_k».proof.Proof.ExpertsRef

@[expose] public section

noncomputable section

namespace Cert.Proof

open Idealize.ShloMosaic Idealize.SL.Sem

/-- The reference runs, keeps its arguments and has no counter. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- From finite arguments that agree, kernel and reference end with the same result. -/
theorem algebraic : Cert.algebraic_KernelIdeal_ReferenceIdeal_pre_finite_inputs := by
  intro m g m' g' hpre hagree
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  obtain ⟨hA, hL⟩ := Cert.Pre_finite_inputs.Meaning.reals _ _ _ _ (hpre c)
  rw [Cert.ReferenceIdeal.RefRead.res_eq, (hagree c).1, (hagree c).2.1, (hagree c).2.2.1, (hagree c).2.2.2]
  exact (Cert.ReferenceIdeal.RefRead.result hA hL _).trans (Cert.KernelIdeal.RefValue.final c hA).symm

/-- The merge's reference runs, keeps its arguments and has no counter. -/
theorem frame_mergeRef : Cert.quiescent_MergeRefIdeal := fun m g _ =>
  (θ_run Cert.MergeRefIdeal.defs _ _).mono
    (fun r h => ⟨fun c => (h c).2, sem_eq_zero_of_no_sems (by decide) r.2⟩)
    (Cert.MergeRefIdeal.Value.run (F := Ideal) m g)

/-- The merge: from arguments that agree, kernel and reference end with the same result. -/
theorem algebraic_merge : Cert.algebraic_MergeIdeal_MergeRefIdeal := by
  intro m g m' g' _ hagree
  refine ⟨_, Cert.MergeIdeal.Value.run_blocks (F := Ideal) m g, ?_⟩
  refine (θ_run Cert.MergeRefIdeal.defs _ _).mono (fun _ h c => ⟨(h c).1.trans ?_, (h c).2⟩)
    (Cert.MergeRefIdeal.Value.run (F := Ideal) m' g')
  obtain ⟨h0, h1, h2, h3, h4, h5, h6, h7, h8, h9, h10⟩ := hagree c
  rw [h0, h1, h2, h3, h4, h5, h6, h7, h8, h9, h10]
  exact (Cert.MergeRefIdeal.RefRead.ref_eq _ _ _ _ _ _ _ _ _ _ _).trans (Cert.MergeIdeal.RefValue.final m c).symm

/-- The input projection's reference runs, keeps its arguments and has no counter. -/
theorem frame_inProjRef : Cert.quiescent_InProjRefIdeal := fun m g _ =>
  (θ_run Cert.InProjRefIdeal.defs _ _).mono
    (fun r h => ⟨fun c => (h c).2, sem_eq_zero_of_no_sems (by decide) r.2⟩)
    (Cert.InProjRefIdeal.Value.run (F := Ideal) m g)

/-- The input projection: from arguments that agree, kernel and reference end with the same result. -/
theorem algebraic_inProj : Cert.algebraic_InProjIdeal_InProjRefIdeal := by
  intro m g m' g' _ hagree
  refine ⟨_, Cert.InProjIdeal.RefValue.run m g, ?_⟩
  refine (θ_run Cert.InProjRefIdeal.defs _ _).mono (fun _ h c => ⟨(h c).1.trans ?_, (h c).2⟩)
    (Cert.InProjRefIdeal.Value.run (F := Ideal) m' g')
  obtain ⟨h0, h1, h2, h3⟩ := hagree c
  rw [h0, h1, h2, h3]
  exact (Cert.InProjRefIdeal.RefRead.ref_eq _ _ _ _).trans (Cert.InProjIdeal.RefValue.final m c).symm

/-- The dense feed-forward's reference runs, keeps its arguments and has no counter. -/
theorem frame_denseRef : Cert.quiescent_DenseFfnRefIdeal := fun m g _ =>
  (θ_run Cert.DenseFfnRefIdeal.defs _ _).mono
    (fun r h => ⟨fun c => (h c).2, sem_eq_zero_of_no_sems (by decide) r.2⟩)
    (Cert.DenseFfnRefIdeal.Value.run (F := Ideal) m g)

/-- The dense feed-forward: from arguments that agree, kernel and reference end with the same result. -/
theorem algebraic_dense : Cert.algebraic_DenseFfnIdeal_DenseFfnRefIdeal := by
  intro m g m' g' _ hagree
  refine ⟨_, Cert.DenseFfnIdeal.RefValue.run m g, ?_⟩
  refine (θ_run Cert.DenseFfnRefIdeal.defs _ _).mono (fun _ h c => ⟨(h c).1.trans ?_, (h c).2⟩)
    (Cert.DenseFfnRefIdeal.Value.run (F := Ideal) m' g')
  obtain ⟨h0, h1, h2, h3, h4, h5⟩ := hagree c
  unfold Cert.DenseFfnRefIdeal.Value.res_main_v37
  rw [h0, h1, h2, h3, h4, h5]
  exact (Cert.DenseFfnRefIdeal.RefRead.ref_eq _ _ _ _ _ _).trans (Cert.DenseFfnIdeal.RefValue.final m c).symm

/-- The experts' reference runs, keeps its arguments and has no counter. -/
theorem frame_expertsRef : Cert.quiescent_ExpertsRefIdeal := fun m g _ =>
  (θ_run Cert.ExpertsRefIdeal.defs _ _).mono
    (fun r h => ⟨fun c => (h c).2, sem_eq_zero_of_no_sems (by decide) r.2⟩)
    (Cert.ExpertsRefIdeal.Value.run (F := Ideal) m g)

/-- The experts: from arguments that agree and a schedule that follows its routing, kernel and reference end with the same result. -/
theorem algebraic_experts : Cert.algebraic_ExpertsIdeal_ExpertsRefIdeal := by
  intro m g m' g' hp hagree
  have hf := Cert.Pre_schedule_follows_routing.Meaning.follows (F := Ideal) m (hp 0)
  refine ⟨_, Cert.ExpertsIdeal.RefValue.run hf g, ?_⟩
  refine (θ_run Cert.ExpertsRefIdeal.defs _ _).mono (fun _ h c => ⟨(h c).1.trans ((Cert.ExpertsRefIdeal.RefRead.ref_eq _).trans ?_), (h c).2⟩)
    (Cert.ExpertsRefIdeal.Value.run (F := Ideal) m' g')
  obtain ⟨h0, h1, h2, h3, h4, h5, h6, h7, h8, h9, h10⟩ := hagree c
  refine Eq.trans ?_ (Cert.ExpertsIdeal.RefValue.final hf c).symm
  rw [← h0, ← h7, ← h8, ← h9, ← h10]

/-- The certificate's claim. -/
theorem claim : Cert.Claim :=
  ⟨Cert.Kernel.Gen.facts, Cert.KernelIdeal.Gen.facts, Cert.ReferenceIdeal.Gen.facts, Cert.InProj.Gen.facts, Cert.InProjIdeal.Gen.facts,
    Cert.InProjRefIdeal.Gen.facts, Cert.DenseFfn.Gen.facts, Cert.DenseFfnIdeal.Gen.facts, Cert.DenseFfnRefIdeal.Gen.facts,
    Cert.Merge.Gen.facts, Cert.MergeIdeal.Gen.facts, Cert.MergeRefIdeal.Gen.facts,
    Cert.Experts.Gen.facts, Cert.ExpertsIdeal.Gen.facts, Cert.ExpertsRefIdeal.Gen.facts,
    Cert.Pre_finite_inputs.Gen.facts, Cert.Pre_schedule_follows_routing.Gen.facts,
    fun m g _ => Cert.Kernel.Gen.frame m g, fun m g _ => Cert.KernelIdeal.Gen.frame m g,
    fun m g _ => Cert.KernelIdeal.Gen.frame m g, frame_reference, fun m g _ => frame_reference m g trivial,
    Cert.InProj.Body.frame, fun m g _ => Cert.InProjIdeal.Body.frame m g, frame_inProjRef,
    Cert.DenseFfn.Body.frame, fun m g _ => Cert.DenseFfnIdeal.Body.frame m g, frame_denseRef,
    fun m g _ => Cert.Merge.Gen.frame m g, fun m g _ => Cert.MergeIdeal.Gen.frame m g, frame_mergeRef,
    Cert.Experts.Body.frame, fun m g hp => Cert.ExpertsIdeal.Body.frame (Cert.Pre_schedule_follows_routing.Meaning.follows (F := Ideal) m (hp 0)) g,
    frame_expertsRef, fun m g _ => frame_expertsRef m g trivial,
    IdealRules.named_const.statement Cert.KernelIdeal.κ "mask" .f32 0xF149F2CA#32 ⊥ rfl, algebraic, trivial, algebraic_inProj, trivial, algebraic_dense, trivial, algebraic_merge,
    trivial, algebraic_experts⟩

end Cert.Proof

end
